-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![4, 4096, 4096]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S4x256x4096 : Shape := ⟨3, ![4, 256, 4096]⟩
abbrev S256x4096 : Shape := ⟨2, ![256, 4096]⟩
abbrev S1024x4096 : Shape := ⟨2, ![1024, 4096]⟩
abbrev S2x128x4096 : Shape := ⟨3, ![2, 128, 4096]⟩
abbrev S2 : Shape := ⟨1, ![2]⟩
abbrev S6 : Shape := ⟨1, ![6]⟩
abbrev S8 : Shape := ⟨1, ![8]⟩
abbrev S4 : Shape := ⟨1, ![4]⟩
abbrev S_ : Shape := ⟨0, ![]⟩
abbrev S1x256x4096 : Shape := ⟨3, ![1, 256, 4096]⟩
abbrev S1 : Shape := ⟨1, ![1]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩
abbrev S1x4096 : Shape := ⟨2, ![1, 4096]⟩

abbrev nBuf : Space → Nat
  | .hbm => 4
  | .vmem => 9
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S4096x4096, .f32⟩
  | .local _ .vmem, ⟨0, _⟩ => ⟨S4096, .f32⟩
  | .local _ .vmem, ⟨1, _⟩ => ⟨S4x256x4096, .bf16⟩
  | .local _ .vmem, ⟨2, _⟩ => ⟨S256x4096, .f32⟩
  | .local _ .vmem, ⟨3, _⟩ => ⟨S256x4096, .f32⟩
  | .local _ .vmem, ⟨4, _⟩ => ⟨S1024x4096, .bf16⟩
  | .local _ .vmem, ⟨5, _⟩ => ⟨S1024x4096, .bf16⟩
  | .local _ .vmem, ⟨6, _⟩ => ⟨S1024x4096, .bf16⟩
  | .local _ .vmem, ⟨7, _⟩ => ⟨S1024x4096, .bf16⟩
  | .local _ .vmem, ⟨8, _⟩ => ⟨S2x128x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 1 73 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_26 : BitVec 32 := 8#32
  let v48 : BitVec 32 := Scalar.muli v2 c8_i32_26
  let v49 : BitVec 32 := Scalar.addi c0_i32_27 v48
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_28 : BitVec 32 := 4#32
  let v50 : BitVec 32 := Scalar.muli v5 c4_i32_28
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_29 : BitVec 32 := 1#32
  let v52 : BitVec 32 := Scalar.muli v30 c1_i32_29
  let v53 : BitVec 32 := Scalar.addi v51 v52
  v53.toNat
def k0_dev2 (d0 : Dev nD) : Nat :=
  let c0_i32_32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_31 : BitVec 32 := 8#32
  let v54 : BitVec 32 := Scalar.muli v2 c8_i32_31
  let v55 : BitVec 32 := Scalar.addi c0_i32_32 v54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v56 : BitVec 32 := Scalar.muli v5 c4_i32_33
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_34 : BitVec 32 := 1#32
  let v58 : BitVec 32 := Scalar.muli v19 c1_i32_34
  let v59 : BitVec 32 := Scalar.addi v57 v58
  v59.toNat
def k0_dev3 (d0 : Dev nD) : Nat :=
  let c0_i32_37 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_23 v2
  let c8_i32_36 : BitVec 32 := 8#32
  let v60 : BitVec 32 := Scalar.muli v45 c8_i32_36
  let v61 : BitVec 32 := Scalar.addi c0_i32_37 v60
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_38 : BitVec 32 := 4#32
  let v62 : BitVec 32 := Scalar.muli v5 c4_i32_38
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v64 : BitVec 32 := Scalar.muli v8 c1_i32_39
  let v65 : BitVec 32 := Scalar.addi v63 v64
  v65.toNat
def k0_dev4 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v66 : BitVec 32 := Scalar.muli v2 c8_i32_41
  let v67 : BitVec 32 := Scalar.addi c0_i32_42 v66
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_24 v5
  let c4_i32_43 : BitVec 32 := 4#32
  let v68 : BitVec 32 := Scalar.muli v46 c4_i32_43
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v70 : BitVec 32 := Scalar.muli v8 c1_i32_44
  let v71 : BitVec 32 := Scalar.addi v69 v70
  v71.toNat
def k0_off1 (d0 : Dev nD) : Fin 3 → Nat :=
  let c0_i32_46 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c1024_i32 : BitVec 32 := 1024#32
  let v33 : BitVec 32 := Scalar.muli v32 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v72 : BitVec 32 := Scalar.muli v8 c256_i32
  let v73 : BitVec 32 := Scalar.addi v33 v72
  let c0_i32_47 : BitVec 32 := 0#32
  ![0, v73.toNat, 0]
def k0_off2 (d0 : Dev nD) : Fin 2 → Nat :=
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c1024_i32 : BitVec 32 := 1024#32
  let v33 : BitVec 32 := Scalar.muli v32 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v34 : BitVec 32 := Scalar.addi v8 c1_i32_16
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c256_i32_54 : BitVec 32 := 256#32
  let v83 : BitVec 32 := Scalar.muli v44 c256_i32_54
  let v84 : BitVec 32 := Scalar.addi v33 v83
  let c0_i32_55 : BitVec 32 := 0#32
  ![v84.toNat, 0]
def k0_dev5 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_60 : BitVec 32 := 8#32
  let v86 : BitVec 32 := Scalar.muli v2 c8_i32_60
  let v87 : BitVec 32 := Scalar.addi c0_i32_61 v86
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_62 : BitVec 32 := 4#32
  let v88 : BitVec 32 := Scalar.muli v5 c4_i32_62
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_63 : BitVec 32 := 1#32
  let v90 : BitVec 32 := Scalar.muli v19 c1_i32_63
  let v91 : BitVec 32 := Scalar.addi v89 v90
  v91.toNat
def k0_off3 (d0 : Dev nD) (c0_i32_68 : BitVec 32) : Fin 3 → Nat :=
  let c0_i32_77 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c1024_i32 : BitVec 32 := 1024#32
  let v33 : BitVec 32 := Scalar.muli v32 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v100 : BitVec 32 := Scalar.subi v8 c0_i32_68
  let c1_i32_69 : BitVec 32 := 1#32
  let v101 : BitVec 32 := Scalar.subi v100 c1_i32_69
  let c4_i32_70 : BitVec 32 := 4#32
  let c0_i32_71 : BitVec 32 := 0#32
  let v102 : BitVec 1 := Scalar.cmpi .eq c4_i32_70 c0_i32_71
  let c1_i32_72 : BitVec 32 := 1#32
  let v103 : BitVec 32 := Scalar.select v102 c1_i32_72 c4_i32_70
  let v104 : BitVec 32 := Scalar.remsi v101 v103
  let c0_i32_74 : BitVec 32 := 0#32
  let v106 : BitVec 1 := Scalar.cmpi .slt v104 c0_i32_74
  let c0_i32_75 : BitVec 32 := 0#32
  let v107 : BitVec 1 := Scalar.cmpi .slt v103 c0_i32_75
  let v108 : BitVec 1 := Scalar.xori v106 v107
  let c0_i32_73 : BitVec 32 := 0#32
  let v105 : BitVec 1 := Scalar.cmpi .ne v104 c0_i32_73
  let v109 : BitVec 1 := Scalar.andi v108 v105
  let v110 : BitVec 32 := Scalar.addi v104 v103
  let v111 : BitVec 32 := Scalar.select v109 v110 v104
  let c256_i32_76 : BitVec 32 := 256#32
  let v112 : BitVec 32 := Scalar.muli v111 c256_i32_76
  let v113 : BitVec 32 := Scalar.addi v33 v112
  let c0_i32_78 : BitVec 32 := 0#32
  ![0, v113.toNat, 0]
def k0_dev6 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v144 : BitVec 32 := Scalar.muli v2 c8_i32_113
  let v145 : BitVec 32 := Scalar.addi c0_i32_114 v144
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v146 : BitVec 32 := Scalar.muli v5 c4_i32_115
  let v147 : BitVec 32 := Scalar.addi v145 v146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_116 : BitVec 32 := 1#32
  let v148 : BitVec 32 := Scalar.muli v19 c1_i32_116
  let v149 : BitVec 32 := Scalar.addi v147 v148
  v149.toNat
def k0_dev7 (d0 : Dev nD) : Nat :=
  let c0_i32_166 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_165 : BitVec 32 := 8#32
  let v202 : BitVec 32 := Scalar.muli v2 c8_i32_165
  let v203 : BitVec 32 := Scalar.addi c0_i32_166 v202
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_167 : BitVec 32 := 4#32
  let v204 : BitVec 32 := Scalar.muli v5 c4_i32_167
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_168 : BitVec 32 := 1#32
  let v206 : BitVec 32 := Scalar.muli v19 c1_i32_168
  let v207 : BitVec 32 := Scalar.addi v205 v206
  v207.toNat
def k0_dev8 (d0 : Dev nD) : Nat :=
  let c0_i32_178 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_177 : BitVec 32 := 8#32
  let v216 : BitVec 32 := Scalar.muli v2 c8_i32_177
  let v217 : BitVec 32 := Scalar.addi c0_i32_178 v216
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_179 : BitVec 32 := 4#32
  let v218 : BitVec 32 := Scalar.muli v5 c4_i32_179
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_180 : BitVec 32 := 1#32
  let v220 : BitVec 32 := Scalar.muli v19 c1_i32_180
  let v221 : BitVec 32 := Scalar.addi v219 v220
  v221.toNat
def k0_off4 (d0 : Dev nD) : Fin 3 → Nat :=
  let c0_i32_185 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c1024_i32 : BitVec 32 := 1024#32
  let v33 : BitVec 32 := Scalar.muli v32 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v34 : BitVec 32 := Scalar.addi v8 c1_i32_16
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c256_i32_184 : BitVec 32 := 256#32
  let v230 : BitVec 32 := Scalar.muli v44 c256_i32_184
  let v231 : BitVec 32 := Scalar.addi v33 v230
  let c0_i32_186 : BitVec 32 := 0#32
  ![0, v231.toNat, 0]
def k0_off5 (d0 : Dev nD) (c0_i32_212 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v34 : BitVec 32 := Scalar.addi v8 c1_i32_16
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c256_i32_211 : BitVec 32 := 256#32
  let v255 : BitVec 32 := Scalar.muli v44 c256_i32_211
  let v256 : BitVec 32 := Scalar.addi v255 c0_i32_212
  let v280 : Index := Scalar.indexCast v256
  let c0_222 : Index := 0#32
  ![v280.toNat, 0]
def k0_off6 (d0 : Dev nD) (c0_i32_212 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v34 : BitVec 32 := Scalar.addi v8 c1_i32_16
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c256_i32_211 : BitVec 32 := 256#32
  let v255 : BitVec 32 := Scalar.muli v44 c256_i32_211
  let v256 : BitVec 32 := Scalar.addi v255 c0_i32_212
  let c0_i32_229 : BitVec 32 := 0#32
  ![v256.toNat, 0]
def k0_dev9 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v284 : BitVec 32 := Scalar.muli v2 c8_i32_225
  let v285 : BitVec 32 := Scalar.addi c0_i32_226 v284
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_227 : BitVec 32 := 4#32
  let v286 : BitVec 32 := Scalar.muli v5 c4_i32_227
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_228 : BitVec 32 := 1#32
  let v288 : BitVec 32 := Scalar.muli v19 c1_i32_228
  let v289 : BitVec 32 := Scalar.addi v287 v288
  v289.toNat
def k0_dev10 (d0 : Dev nD) : Nat :=
  let c0_i32_234 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_23 v2
  let c8_i32_233 : BitVec 32 := 8#32
  let v296 : BitVec 32 := Scalar.muli v45 c8_i32_233
  let v297 : BitVec 32 := Scalar.addi c0_i32_234 v296
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_235 : BitVec 32 := 4#32
  let v298 : BitVec 32 := Scalar.muli v5 c4_i32_235
  let v299 : BitVec 32 := Scalar.addi v297 v298
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v300 : BitVec 32 := Scalar.muli v8 c1_i32_236
  let v301 : BitVec 32 := Scalar.addi v299 v300
  v301.toNat
def k0_dev11 (d0 : Dev nD) : Nat :=
  let c0_i32_242 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_241 : BitVec 32 := 8#32
  let v308 : BitVec 32 := Scalar.muli v2 c8_i32_241
  let v309 : BitVec 32 := Scalar.addi c0_i32_242 v308
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_24 v5
  let c4_i32_243 : BitVec 32 := 4#32
  let v310 : BitVec 32 := Scalar.muli v46 c4_i32_243
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v312 : BitVec 32 := Scalar.muli v8 c1_i32_244
  let v313 : BitVec 32 := Scalar.addi v311 v312
  v313.toNat
def k0_off7 (d0 : Dev nD) (c0_i32_212 : BitVec 32) : Fin 2 → Nat :=
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c1024_i32 : BitVec 32 := 1024#32
  let v33 : BitVec 32 := Scalar.muli v32 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v34 : BitVec 32 := Scalar.addi v8 c1_i32_16
  let c4_i32_17 : BitVec 32 := 4#32
  let c0_i32_18 : BitVec 32 := 0#32
  let v35 : BitVec 1 := Scalar.cmpi .eq c4_i32_17 c0_i32_18
  let c1_i32_19 : BitVec 32 := 1#32
  let v36 : BitVec 32 := Scalar.select v35 c1_i32_19 c4_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c256_i32_211 : BitVec 32 := 256#32
  let v255 : BitVec 32 := Scalar.muli v44 c256_i32_211
  let v256 : BitVec 32 := Scalar.addi v255 c0_i32_212
  let v320 : BitVec 32 := Scalar.addi v33 v256
  let c0_i32_252 : BitVec 32 := 0#32
  ![v320.toNat, 0]
def k0_dev12 (d0 : Dev nD) : Nat :=
  let c0_i32_292 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_291 : BitVec 32 := 8#32
  let v376 : BitVec 32 := Scalar.muli v2 c8_i32_291
  let v377 : BitVec 32 := Scalar.addi c0_i32_292 v376
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_293 : BitVec 32 := 4#32
  let v378 : BitVec 32 := Scalar.muli v5 c4_i32_293
  let v379 : BitVec 32 := Scalar.addi v377 v378
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_294 : BitVec 32 := 1#32
  let v380 : BitVec 32 := Scalar.muli v19 c1_i32_294
  let v381 : BitVec 32 := Scalar.addi v379 v380
  v381.toNat
def k0_dev13 (d0 : Dev nD) : Nat :=
  let c0_i32_300 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_23 v2
  let c8_i32_299 : BitVec 32 := 8#32
  let v388 : BitVec 32 := Scalar.muli v45 c8_i32_299
  let v389 : BitVec 32 := Scalar.addi c0_i32_300 v388
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_301 : BitVec 32 := 4#32
  let v390 : BitVec 32 := Scalar.muli v5 c4_i32_301
  let v391 : BitVec 32 := Scalar.addi v389 v390
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_302 : BitVec 32 := 1#32
  let v392 : BitVec 32 := Scalar.muli v8 c1_i32_302
  let v393 : BitVec 32 := Scalar.addi v391 v392
  v393.toNat
def k0_dev14 (d0 : Dev nD) : Nat :=
  let c0_i32_308 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_307 : BitVec 32 := 8#32
  let v400 : BitVec 32 := Scalar.muli v2 c8_i32_307
  let v401 : BitVec 32 := Scalar.addi c0_i32_308 v400
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_24 v5
  let c4_i32_309 : BitVec 32 := 4#32
  let v402 : BitVec 32 := Scalar.muli v46 c4_i32_309
  let v403 : BitVec 32 := Scalar.addi v401 v402
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_310 : BitVec 32 := 1#32
  let v404 : BitVec 32 := Scalar.muli v8 c1_i32_310
  let v405 : BitVec 32 := Scalar.addi v403 v404
  v405.toNat
def k0_off8 (d0 : Dev nD) (c1_i32_321 : BitVec 32) (c0_i32_343 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v421 : BitVec 32 := Scalar.subi v8 c1_i32_321
  let c1_i32_322 : BitVec 32 := 1#32
  let v422 : BitVec 32 := Scalar.addi v421 c1_i32_322
  let c4_i32_323 : BitVec 32 := 4#32
  let c0_i32_324 : BitVec 32 := 0#32
  let v423 : BitVec 1 := Scalar.cmpi .eq c4_i32_323 c0_i32_324
  let c1_i32_325 : BitVec 32 := 1#32
  let v424 : BitVec 32 := Scalar.select v423 c1_i32_325 c4_i32_323
  let v425 : BitVec 32 := Scalar.remsi v422 v424
  let c0_i32_327 : BitVec 32 := 0#32
  let v427 : BitVec 1 := Scalar.cmpi .slt v425 c0_i32_327
  let c0_i32_328 : BitVec 32 := 0#32
  let v428 : BitVec 1 := Scalar.cmpi .slt v424 c0_i32_328
  let v429 : BitVec 1 := Scalar.xori v427 v428
  let c0_i32_326 : BitVec 32 := 0#32
  let v426 : BitVec 1 := Scalar.cmpi .ne v425 c0_i32_326
  let v430 : BitVec 1 := Scalar.andi v429 v426
  let v431 : BitVec 32 := Scalar.addi v425 v424
  let v432 : BitVec 32 := Scalar.select v430 v431 v425
  let c256_i32_342 : BitVec 32 := 256#32
  let v447 : BitVec 32 := Scalar.muli v432 c256_i32_342
  let v448 : BitVec 32 := Scalar.addi v447 c0_i32_343
  let c0_i32_350 : BitVec 32 := 0#32
  ![v448.toNat, 0]
def k0_dev15 (d0 : Dev nD) : Nat :=
  let c0_i32_347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_346 : BitVec 32 := 8#32
  let v449 : BitVec 32 := Scalar.muli v2 c8_i32_346
  let v450 : BitVec 32 := Scalar.addi c0_i32_347 v449
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_348 : BitVec 32 := 4#32
  let v451 : BitVec 32 := Scalar.muli v5 c4_i32_348
  let v452 : BitVec 32 := Scalar.addi v450 v451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_349 : BitVec 32 := 1#32
  let v453 : BitVec 32 := Scalar.muli v19 c1_i32_349
  let v454 : BitVec 32 := Scalar.addi v452 v453
  v454.toNat
def k0_dev16 (d0 : Dev nD) : Nat :=
  let c0_i32_355 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_23 v2
  let c8_i32_354 : BitVec 32 := 8#32
  let v461 : BitVec 32 := Scalar.muli v45 c8_i32_354
  let v462 : BitVec 32 := Scalar.addi c0_i32_355 v461
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_356 : BitVec 32 := 4#32
  let v463 : BitVec 32 := Scalar.muli v5 c4_i32_356
  let v464 : BitVec 32 := Scalar.addi v462 v463
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_357 : BitVec 32 := 1#32
  let v465 : BitVec 32 := Scalar.muli v8 c1_i32_357
  let v466 : BitVec 32 := Scalar.addi v464 v465
  v466.toNat
def k0_dev17 (d0 : Dev nD) : Nat :=
  let c0_i32_363 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_362 : BitVec 32 := 8#32
  let v473 : BitVec 32 := Scalar.muli v2 c8_i32_362
  let v474 : BitVec 32 := Scalar.addi c0_i32_363 v473
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_24 v5
  let c4_i32_364 : BitVec 32 := 4#32
  let v475 : BitVec 32 := Scalar.muli v46 c4_i32_364
  let v476 : BitVec 32 := Scalar.addi v474 v475
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_365 : BitVec 32 := 1#32
  let v477 : BitVec 32 := Scalar.muli v8 c1_i32_365
  let v478 : BitVec 32 := Scalar.addi v476 v477
  v478.toNat
def k0_off9 (d0 : Dev nD) (c1_i32_321 : BitVec 32) (c0_i32_343 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v421 : BitVec 32 := Scalar.subi v8 c1_i32_321
  let c1_i32_322 : BitVec 32 := 1#32
  let v422 : BitVec 32 := Scalar.addi v421 c1_i32_322
  let c4_i32_323 : BitVec 32 := 4#32
  let c0_i32_324 : BitVec 32 := 0#32
  let v423 : BitVec 1 := Scalar.cmpi .eq c4_i32_323 c0_i32_324
  let c1_i32_325 : BitVec 32 := 1#32
  let v424 : BitVec 32 := Scalar.select v423 c1_i32_325 c4_i32_323
  let v425 : BitVec 32 := Scalar.remsi v422 v424
  let c0_i32_327 : BitVec 32 := 0#32
  let v427 : BitVec 1 := Scalar.cmpi .slt v425 c0_i32_327
  let c0_i32_328 : BitVec 32 := 0#32
  let v428 : BitVec 1 := Scalar.cmpi .slt v424 c0_i32_328
  let v429 : BitVec 1 := Scalar.xori v427 v428
  let c0_i32_326 : BitVec 32 := 0#32
  let v426 : BitVec 1 := Scalar.cmpi .ne v425 c0_i32_326
  let v430 : BitVec 1 := Scalar.andi v429 v426
  let v431 : BitVec 32 := Scalar.addi v425 v424
  let v432 : BitVec 32 := Scalar.select v430 v431 v425
  let c256_i32_342 : BitVec 32 := 256#32
  let v447 : BitVec 32 := Scalar.muli v432 c256_i32_342
  let v448 : BitVec 32 := Scalar.addi v447 c0_i32_343
  let v485 : Index := Scalar.indexCast v448
  let c0_368 : Index := 0#32
  ![v485.toNat, 0]
def k0_off10 (d0 : Dev nD) (c1_i32_321 : BitVec 32) (c0_i32_343 : BitVec 32) : Fin 2 → Nat :=
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c1024_i32 : BitVec 32 := 1024#32
  let v33 : BitVec 32 := Scalar.muli v32 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v421 : BitVec 32 := Scalar.subi v8 c1_i32_321
  let c1_i32_322 : BitVec 32 := 1#32
  let v422 : BitVec 32 := Scalar.addi v421 c1_i32_322
  let c4_i32_323 : BitVec 32 := 4#32
  let c0_i32_324 : BitVec 32 := 0#32
  let v423 : BitVec 1 := Scalar.cmpi .eq c4_i32_323 c0_i32_324
  let c1_i32_325 : BitVec 32 := 1#32
  let v424 : BitVec 32 := Scalar.select v423 c1_i32_325 c4_i32_323
  let v425 : BitVec 32 := Scalar.remsi v422 v424
  let c0_i32_327 : BitVec 32 := 0#32
  let v427 : BitVec 1 := Scalar.cmpi .slt v425 c0_i32_327
  let c0_i32_328 : BitVec 32 := 0#32
  let v428 : BitVec 1 := Scalar.cmpi .slt v424 c0_i32_328
  let v429 : BitVec 1 := Scalar.xori v427 v428
  let c0_i32_326 : BitVec 32 := 0#32
  let v426 : BitVec 1 := Scalar.cmpi .ne v425 c0_i32_326
  let v430 : BitVec 1 := Scalar.andi v429 v426
  let v431 : BitVec 32 := Scalar.addi v425 v424
  let v432 : BitVec 32 := Scalar.select v430 v431 v425
  let c256_i32_342 : BitVec 32 := 256#32
  let v447 : BitVec 32 := Scalar.muli v432 c256_i32_342
  let v448 : BitVec 32 := Scalar.addi v447 c0_i32_343
  let v488 : BitVec 32 := Scalar.addi v33 v448
  let c0_i32_379 : BitVec 32 := 0#32
  ![v488.toNat, 0]
def k0_dev18 (d0 : Dev nD) : Nat :=
  let c0_i32_400 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_399 : BitVec 32 := 8#32
  let v518 : BitVec 32 := Scalar.muli v2 c8_i32_399
  let v519 : BitVec 32 := Scalar.addi c0_i32_400 v518
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_401 : BitVec 32 := 4#32
  let v520 : BitVec 32 := Scalar.muli v5 c4_i32_401
  let v521 : BitVec 32 := Scalar.addi v519 v520
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_402 : BitVec 32 := 1#32
  let v522 : BitVec 32 := Scalar.muli v19 c1_i32_402
  let v523 : BitVec 32 := Scalar.addi v521 v522
  v523.toNat
def k0_dev19 (d0 : Dev nD) : Nat :=
  let c0_i32_408 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_23 v2
  let c8_i32_407 : BitVec 32 := 8#32
  let v530 : BitVec 32 := Scalar.muli v45 c8_i32_407
  let v531 : BitVec 32 := Scalar.addi c0_i32_408 v530
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_409 : BitVec 32 := 4#32
  let v532 : BitVec 32 := Scalar.muli v5 c4_i32_409
  let v533 : BitVec 32 := Scalar.addi v531 v532
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_410 : BitVec 32 := 1#32
  let v534 : BitVec 32 := Scalar.muli v8 c1_i32_410
  let v535 : BitVec 32 := Scalar.addi v533 v534
  v535.toNat
def k0_dev20 (d0 : Dev nD) : Nat :=
  let c0_i32_416 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_415 : BitVec 32 := 8#32
  let v542 : BitVec 32 := Scalar.muli v2 c8_i32_415
  let v543 : BitVec 32 := Scalar.addi c0_i32_416 v542
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_24 v5
  let c4_i32_417 : BitVec 32 := 4#32
  let v544 : BitVec 32 := Scalar.muli v46 c4_i32_417
  let v545 : BitVec 32 := Scalar.addi v543 v544
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_418 : BitVec 32 := 1#32
  let v546 : BitVec 32 := Scalar.muli v8 c1_i32_418
  let v547 : BitVec 32 := Scalar.addi v545 v546
  v547.toNat
def k0_dev21 (d0 : Dev nD) : Nat :=
  let c0_i32_461 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_460 : BitVec 32 := 8#32
  let v599 : BitVec 32 := Scalar.muli v2 c8_i32_460
  let v600 : BitVec 32 := Scalar.addi c0_i32_461 v599
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_462 : BitVec 32 := 4#32
  let v601 : BitVec 32 := Scalar.muli v5 c4_i32_462
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_463 : BitVec 32 := 1#32
  let v603 : BitVec 32 := Scalar.muli v19 c1_i32_463
  let v604 : BitVec 32 := Scalar.addi v602 v603
  v604.toNat
def k0_dev22 (d0 : Dev nD) : Nat :=
  let c0_i32_469 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_23 v2
  let c8_i32_468 : BitVec 32 := 8#32
  let v611 : BitVec 32 := Scalar.muli v45 c8_i32_468
  let v612 : BitVec 32 := Scalar.addi c0_i32_469 v611
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_470 : BitVec 32 := 4#32
  let v613 : BitVec 32 := Scalar.muli v5 c4_i32_470
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_471 : BitVec 32 := 1#32
  let v615 : BitVec 32 := Scalar.muli v8 c1_i32_471
  let v616 : BitVec 32 := Scalar.addi v614 v615
  v616.toNat
def k0_dev23 (d0 : Dev nD) : Nat :=
  let c0_i32_477 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_476 : BitVec 32 := 8#32
  let v623 : BitVec 32 := Scalar.muli v2 c8_i32_476
  let v624 : BitVec 32 := Scalar.addi c0_i32_477 v623
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_24 v5
  let c4_i32_478 : BitVec 32 := 4#32
  let v625 : BitVec 32 := Scalar.muli v46 c4_i32_478
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v627 : BitVec 32 := Scalar.muli v8 c1_i32_479
  let v628 : BitVec 32 := Scalar.addi v626 v627
  v628.toNat
def k0_dev24 (d0 : Dev nD) : Nat :=
  let c0_i32_513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_512 : BitVec 32 := 8#32
  let v668 : BitVec 32 := Scalar.muli v2 c8_i32_512
  let v669 : BitVec 32 := Scalar.addi c0_i32_513 v668
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_514 : BitVec 32 := 4#32
  let v670 : BitVec 32 := Scalar.muli v5 c4_i32_514
  let v671 : BitVec 32 := Scalar.addi v669 v670
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_515 : BitVec 32 := 1#32
  let v672 : BitVec 32 := Scalar.muli v19 c1_i32_515
  let v673 : BitVec 32 := Scalar.addi v671 v672
  v673.toNat
def k0_dev25 (d0 : Dev nD) : Nat :=
  let c0_i32_521 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_23 v2
  let c8_i32_520 : BitVec 32 := 8#32
  let v680 : BitVec 32 := Scalar.muli v45 c8_i32_520
  let v681 : BitVec 32 := Scalar.addi c0_i32_521 v680
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_522 : BitVec 32 := 4#32
  let v682 : BitVec 32 := Scalar.muli v5 c4_i32_522
  let v683 : BitVec 32 := Scalar.addi v681 v682
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v684 : BitVec 32 := Scalar.muli v8 c1_i32_523
  let v685 : BitVec 32 := Scalar.addi v683 v684
  v685.toNat
def k0_dev26 (d0 : Dev nD) : Nat :=
  let c0_i32_529 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_528 : BitVec 32 := 8#32
  let v692 : BitVec 32 := Scalar.muli v2 c8_i32_528
  let v693 : BitVec 32 := Scalar.addi c0_i32_529 v692
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_24 v5
  let c4_i32_530 : BitVec 32 := 4#32
  let v694 : BitVec 32 := Scalar.muli v46 c4_i32_530
  let v695 : BitVec 32 := Scalar.addi v693 v694
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_531 : BitVec 32 := 1#32
  let v696 : BitVec 32 := Scalar.muli v8 c1_i32_531
  let v697 : BitVec 32 := Scalar.addi v695 v696
  v697.toNat
def k0_dev27 (d0 : Dev nD) : Nat :=
  let c0_i32_573 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_23 v2
  let c8_i32_572 : BitVec 32 := 8#32
  let v749 : BitVec 32 := Scalar.muli v45 c8_i32_572
  let v750 : BitVec 32 := Scalar.addi c0_i32_573 v749
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_574 : BitVec 32 := 4#32
  let v751 : BitVec 32 := Scalar.muli v5 c4_i32_574
  let v752 : BitVec 32 := Scalar.addi v750 v751
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v753 : BitVec 32 := Scalar.muli v8 c1_i32_575
  let v754 : BitVec 32 := Scalar.addi v752 v753
  v754.toNat
def k0_dev28 (d0 : Dev nD) : Nat :=
  let c0_i32_581 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_580 : BitVec 32 := 8#32
  let v761 : BitVec 32 := Scalar.muli v2 c8_i32_580
  let v762 : BitVec 32 := Scalar.addi c0_i32_581 v761
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_24 v5
  let c4_i32_582 : BitVec 32 := 4#32
  let v763 : BitVec 32 := Scalar.muli v46 c4_i32_582
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_583 : BitVec 32 := 1#32
  let v765 : BitVec 32 := Scalar.muli v8 c1_i32_583
  let v766 : BitVec 32 := Scalar.addi v764 v765
  v766.toNat
def k0_dev29 (d0 : Dev nD) : Nat :=
  let c0_i32_617 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_23 v2
  let c8_i32_616 : BitVec 32 := 8#32
  let v806 : BitVec 32 := Scalar.muli v45 c8_i32_616
  let v807 : BitVec 32 := Scalar.addi c0_i32_617 v806
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_618 : BitVec 32 := 4#32
  let v808 : BitVec 32 := Scalar.muli v5 c4_i32_618
  let v809 : BitVec 32 := Scalar.addi v807 v808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_619 : BitVec 32 := 1#32
  let v810 : BitVec 32 := Scalar.muli v8 c1_i32_619
  let v811 : BitVec 32 := Scalar.addi v809 v810
  v811.toNat
def k0_dev30 (d0 : Dev nD) : Nat :=
  let c0_i32_625 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_624 : BitVec 32 := 8#32
  let v818 : BitVec 32 := Scalar.muli v2 c8_i32_624
  let v819 : BitVec 32 := Scalar.addi c0_i32_625 v818
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_24 v5
  let c4_i32_626 : BitVec 32 := 4#32
  let v820 : BitVec 32 := Scalar.muli v46 c4_i32_626
  let v821 : BitVec 32 := Scalar.addi v819 v820
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_627 : BitVec 32 := 1#32
  let v822 : BitVec 32 := Scalar.muli v8 c1_i32_627
  let v823 : BitVec 32 := Scalar.addi v821 v822
  v823.toNat
def k0_dev31 (d0 : Dev nD) : Nat :=
  let c0_i32_672 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_671 : BitVec 32 := 8#32
  let v881 : BitVec 32 := Scalar.muli v2 c8_i32_671
  let v882 : BitVec 32 := Scalar.addi c0_i32_672 v881
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_24 v5
  let c4_i32_673 : BitVec 32 := 4#32
  let v883 : BitVec 32 := Scalar.muli v46 c4_i32_673
  let v884 : BitVec 32 := Scalar.addi v882 v883
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_674 : BitVec 32 := 1#32
  let v885 : BitVec 32 := Scalar.muli v8 c1_i32_674
  let v886 : BitVec 32 := Scalar.addi v884 v885
  v886.toNat
def k0_off11 (d0 : Dev nD) (c0_i32_651 : BitVec 32) (c0_i32_660 : BitVec 32) : Fin 2 → Nat :=
  let c2_i32_645 : BitVec 32 := 2#32
  let c1_i32_644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v847 : BitVec 32 := Scalar.subi c1_i32_644 v2
  let v848 : BitVec 32 := Scalar.muli c2_i32_645 v847
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v849 : BitVec 32 := Scalar.addi v848 v5
  let c1024_i32_678 : BitVec 32 := 1024#32
  let v896 : BitVec 32 := Scalar.muli v849 c1024_i32_678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v857 : BitVec 32 := Scalar.subi v8 c0_i32_651
  let c1_i32_652 : BitVec 32 := 1#32
  let v858 : BitVec 32 := Scalar.addi v857 c1_i32_652
  let c4_i32_653 : BitVec 32 := 4#32
  let c0_i32_654 : BitVec 32 := 0#32
  let v859 : BitVec 1 := Scalar.cmpi .eq c4_i32_653 c0_i32_654
  let c1_i32_655 : BitVec 32 := 1#32
  let v860 : BitVec 32 := Scalar.select v859 c1_i32_655 c4_i32_653
  let v861 : BitVec 32 := Scalar.remsi v858 v860
  let c0_i32_657 : BitVec 32 := 0#32
  let v863 : BitVec 1 := Scalar.cmpi .slt v861 c0_i32_657
  let c0_i32_658 : BitVec 32 := 0#32
  let v864 : BitVec 1 := Scalar.cmpi .slt v860 c0_i32_658
  let v865 : BitVec 1 := Scalar.xori v863 v864
  let c0_i32_656 : BitVec 32 := 0#32
  let v862 : BitVec 1 := Scalar.cmpi .ne v861 c0_i32_656
  let v866 : BitVec 1 := Scalar.andi v865 v862
  let v867 : BitVec 32 := Scalar.addi v861 v860
  let v868 : BitVec 32 := Scalar.select v866 v867 v861
  let c256_i32_659 : BitVec 32 := 256#32
  let v869 : BitVec 32 := Scalar.muli v868 c256_i32_659
  let v870 : BitVec 32 := Scalar.addi v869 c0_i32_660
  let v897 : BitVec 32 := Scalar.addi v896 v870
  let c0_i32_689 : BitVec 32 := 0#32
  ![v897.toNat, 0]
def k0_off12 (d0 : Dev nD) (c0_i32_651 : BitVec 32) (c0_i32_660 : BitVec 32) : Fin 2 → Nat :=
  let c2_i32_646 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v850 : BitVec 32 := Scalar.muli c2_i32_646 v2
  let c1_i32_647 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v851 : BitVec 32 := Scalar.subi c1_i32_647 v5
  let v852 : BitVec 32 := Scalar.addi v850 v851
  let c1024_i32_701 : BitVec 32 := 1024#32
  let v924 : BitVec 32 := Scalar.muli v852 c1024_i32_701
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v857 : BitVec 32 := Scalar.subi v8 c0_i32_651
  let c1_i32_652 : BitVec 32 := 1#32
  let v858 : BitVec 32 := Scalar.addi v857 c1_i32_652
  let c4_i32_653 : BitVec 32 := 4#32
  let c0_i32_654 : BitVec 32 := 0#32
  let v859 : BitVec 1 := Scalar.cmpi .eq c4_i32_653 c0_i32_654
  let c1_i32_655 : BitVec 32 := 1#32
  let v860 : BitVec 32 := Scalar.select v859 c1_i32_655 c4_i32_653
  let v861 : BitVec 32 := Scalar.remsi v858 v860
  let c0_i32_657 : BitVec 32 := 0#32
  let v863 : BitVec 1 := Scalar.cmpi .slt v861 c0_i32_657
  let c0_i32_658 : BitVec 32 := 0#32
  let v864 : BitVec 1 := Scalar.cmpi .slt v860 c0_i32_658
  let v865 : BitVec 1 := Scalar.xori v863 v864
  let c0_i32_656 : BitVec 32 := 0#32
  let v862 : BitVec 1 := Scalar.cmpi .ne v861 c0_i32_656
  let v866 : BitVec 1 := Scalar.andi v865 v862
  let v867 : BitVec 32 := Scalar.addi v861 v860
  let v868 : BitVec 32 := Scalar.select v866 v867 v861
  let c256_i32_659 : BitVec 32 := 256#32
  let v869 : BitVec 32 := Scalar.muli v868 c256_i32_659
  let v870 : BitVec 32 := Scalar.addi v869 c0_i32_660
  let v925 : BitVec 32 := Scalar.addi v924 v870
  let c0_i32_712 : BitVec 32 := 0#32
  ![v925.toNat, 0]
def k0_dev32 (d0 : Dev nD) : Nat :=
  let c0_i32_736 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_735 : BitVec 32 := 8#32
  let v963 : BitVec 32 := Scalar.muli v2 c8_i32_735
  let v964 : BitVec 32 := Scalar.addi c0_i32_736 v963
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_24 v5
  let c4_i32_737 : BitVec 32 := 4#32
  let v965 : BitVec 32 := Scalar.muli v46 c4_i32_737
  let v966 : BitVec 32 := Scalar.addi v964 v965
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v967 : BitVec 32 := Scalar.muli v8 c1_i32_738
  let v968 : BitVec 32 := Scalar.addi v966 v967
  v968.toNat
def k0_dev33 (d0 : Dev nD) : Nat :=
  let c0_i32_800 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_799 : BitVec 32 := 8#32
  let v1045 : BitVec 32 := Scalar.muli v2 c8_i32_799
  let v1046 : BitVec 32 := Scalar.addi c0_i32_800 v1045
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_24 v5
  let c4_i32_801 : BitVec 32 := 4#32
  let v1047 : BitVec 32 := Scalar.muli v46 c4_i32_801
  let v1048 : BitVec 32 := Scalar.addi v1046 v1047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_802 : BitVec 32 := 1#32
  let v1049 : BitVec 32 := Scalar.muli v8 c1_i32_802
  let v1050 : BitVec 32 := Scalar.addi v1048 v1049
  v1050.toNat
def k0_dev34 (d0 : Dev nD) : Nat :=
  let c0_i32_864 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_863 : BitVec 32 := 8#32
  let v1127 : BitVec 32 := Scalar.muli v2 c8_i32_863
  let v1128 : BitVec 32 := Scalar.addi c0_i32_864 v1127
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_24 v5
  let c4_i32_865 : BitVec 32 := 4#32
  let v1129 : BitVec 32 := Scalar.muli v46 c4_i32_865
  let v1130 : BitVec 32 := Scalar.addi v1128 v1129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_866 : BitVec 32 := 1#32
  let v1131 : BitVec 32 := Scalar.muli v8 c1_i32_866
  let v1132 : BitVec 32 := Scalar.addi v1130 v1131
  v1132.toNat
def k0_dev35 (d0 : Dev nD) : Nat :=
  let c0_i32_951 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_23 v2
  let c8_i32_950 : BitVec 32 := 8#32
  let v1237 : BitVec 32 := Scalar.muli v45 c8_i32_950
  let v1238 : BitVec 32 := Scalar.addi c0_i32_951 v1237
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_952 : BitVec 32 := 4#32
  let v1239 : BitVec 32 := Scalar.muli v5 c4_i32_952
  let v1240 : BitVec 32 := Scalar.addi v1238 v1239
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_953 : BitVec 32 := 1#32
  let v1241 : BitVec 32 := Scalar.muli v8 c1_i32_953
  let v1242 : BitVec 32 := Scalar.addi v1240 v1241
  v1242.toNat
def k0_dev36 (d0 : Dev nD) : Nat :=
  let c0_i32_1015 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_23 v2
  let c8_i32_1014 : BitVec 32 := 8#32
  let v1319 : BitVec 32 := Scalar.muli v45 c8_i32_1014
  let v1320 : BitVec 32 := Scalar.addi c0_i32_1015 v1319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1016 : BitVec 32 := 4#32
  let v1321 : BitVec 32 := Scalar.muli v5 c4_i32_1016
  let v1322 : BitVec 32 := Scalar.addi v1320 v1321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1017 : BitVec 32 := 1#32
  let v1323 : BitVec 32 := Scalar.muli v8 c1_i32_1017
  let v1324 : BitVec 32 := Scalar.addi v1322 v1323
  v1324.toNat
def k0_dev37 (d0 : Dev nD) : Nat :=
  let c0_i32_1079 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_23 v2
  let c8_i32_1078 : BitVec 32 := 8#32
  let v1401 : BitVec 32 := Scalar.muli v45 c8_i32_1078
  let v1402 : BitVec 32 := Scalar.addi c0_i32_1079 v1401
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1080 : BitVec 32 := 4#32
  let v1403 : BitVec 32 := Scalar.muli v5 c4_i32_1080
  let v1404 : BitVec 32 := Scalar.addi v1402 v1403
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1081 : BitVec 32 := 1#32
  let v1405 : BitVec 32 := Scalar.muli v8 c1_i32_1081
  let v1406 : BitVec 32 := Scalar.addi v1404 v1405
  v1406.toNat
def k0_dev38 (d0 : Dev nD) : Nat :=
  let c0_i32_1143 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_23 v2
  let c8_i32_1142 : BitVec 32 := 8#32
  let v1483 : BitVec 32 := Scalar.muli v45 c8_i32_1142
  let v1484 : BitVec 32 := Scalar.addi c0_i32_1143 v1483
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1144 : BitVec 32 := 4#32
  let v1485 : BitVec 32 := Scalar.muli v5 c4_i32_1144
  let v1486 : BitVec 32 := Scalar.addi v1484 v1485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1145 : BitVec 32 := 1#32
  let v1487 : BitVec 32 := Scalar.muli v8 c1_i32_1145
  let v1488 : BitVec 32 := Scalar.addi v1486 v1487
  v1488.toNat
def k0_off13 (d0 : Dev nD) (c0_i32_1163 : BitVec 32) (c0_i32_1172 : BitVec 32) : Fin 2 → Nat :=
  let c2_i32_649 : BitVec 32 := 2#32
  let c1_i32_648 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v853 : BitVec 32 := Scalar.subi c1_i32_648 v2
  let v854 : BitVec 32 := Scalar.muli c2_i32_649 v853
  let c1_i32_650 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v855 : BitVec 32 := Scalar.subi c1_i32_650 v5
  let v856 : BitVec 32 := Scalar.addi v854 v855
  let c1024_i32_1182 : BitVec 32 := 1024#32
  let v1540 : BitVec 32 := Scalar.muli v856 c1024_i32_1182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1513 : BitVec 32 := Scalar.subi v8 c0_i32_1163
  let c1_i32_1164 : BitVec 32 := 1#32
  let v1514 : BitVec 32 := Scalar.addi v1513 c1_i32_1164
  let c4_i32_1165 : BitVec 32 := 4#32
  let c0_i32_1166 : BitVec 32 := 0#32
  let v1515 : BitVec 1 := Scalar.cmpi .eq c4_i32_1165 c0_i32_1166
  let c1_i32_1167 : BitVec 32 := 1#32
  let v1516 : BitVec 32 := Scalar.select v1515 c1_i32_1167 c4_i32_1165
  let v1517 : BitVec 32 := Scalar.remsi v1514 v1516
  let c0_i32_1169 : BitVec 32 := 0#32
  let v1519 : BitVec 1 := Scalar.cmpi .slt v1517 c0_i32_1169
  let c0_i32_1170 : BitVec 32 := 0#32
  let v1520 : BitVec 1 := Scalar.cmpi .slt v1516 c0_i32_1170
  let v1521 : BitVec 1 := Scalar.xori v1519 v1520
  let c0_i32_1168 : BitVec 32 := 0#32
  let v1518 : BitVec 1 := Scalar.cmpi .ne v1517 c0_i32_1168
  let v1522 : BitVec 1 := Scalar.andi v1521 v1518
  let v1523 : BitVec 32 := Scalar.addi v1517 v1516
  let v1524 : BitVec 32 := Scalar.select v1522 v1523 v1517
  let c256_i32_1171 : BitVec 32 := 256#32
  let v1525 : BitVec 32 := Scalar.muli v1524 c256_i32_1171
  let v1526 : BitVec 32 := Scalar.addi v1525 c0_i32_1172
  let v1541 : BitVec 32 := Scalar.addi v1540 v1526
  let c0_i32_1193 : BitVec 32 := 0#32
  ![v1541.toNat, 0]
abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Prog.lean ====
module

public import proofs.«01_k».proof.Proof.Gen.KernelIdeal
public import proofs.«01_k».proof.Proof.Gen.KernelIdeal.Skeleton
public import proofs.«01_k».proof.Proof.Gen.KernelIdeal.Points
public import Idealize.ShloMosaic.Lib.Tactic

/-! # The body in steps

The kernel's printed body is one straight line of some three hundred memory operations. Here the same line is
written as the algorithm reads: the handshake, two reduce-scatter steps, the last step in two halves, the own
block, and three families of steps indexed by the chunk they move. `body_eq` says the two are the same program. -/

@[expose] public section

noncomputable section

namespace Cert.KernelIdeal.Steps

open Idealize.ShloMosaic Idealize.ShloMosaic.TcCoe Idealize.SL.Sem
open Cert.KernelIdeal.Gen

variable {F : FTy → Type} [FloatOps F]

/-- A kernel program of one device's TensorCore. -/
abbrev P (F : FTy → Type) [FloatOps F] (α : Type) : Type 1 := Prog (TpuEff nD τ sig (Elt F) Λ₀ .tc) α

/-! ## The arrays, the buffers and the semaphores -/

abbrev xM : Memref sig .tc .hbm S1x4096x4096 .f32 := Memref.whole main_arg0
abbrev rM : Memref sig .tc .hbm S4096x4096 .f32 := Memref.whole main_arg1
abbrev outM : Memref sig .tc .hbm S4096x4096 .f32 := Memref.whole main_v1
abbrev gamM : Memref sig .tc .vmem S4096 .f32 := Memref.whole cc0_stg0_0
abbrev czM : Memref sig .tc .vmem S4x256x4096 .bf16 := Memref.whole cc0_scratch0
abbrev locM : Memref sig .tc .vmem S256x4096 .f32 := Memref.whole cc0_scratch1
abbrev resM : Memref sig .tc .vmem S256x4096 .f32 := Memref.whole cc0_scratch2
abbrev colM : Memref sig .tc .vmem S1024x4096 .bf16 := Memref.whole cc0_scratch3
abbrev gxM : Memref sig .tc .vmem S1024x4096 .bf16 := Memref.whole cc0_scratch4
abbrev gyM : Memref sig .tc .vmem S1024x4096 .bf16 := Memref.whole cc0_scratch5
abbrev gdM : Memref sig .tc .vmem S1024x4096 .bf16 := Memref.whole cc0_scratch6
abbrev ybM : Memref sig .tc .vmem S2x128x4096 .f32 := Memref.whole cc0_scratch7

/-- A semaphore lies in an array of two. -/
theorem inb2 (i : Fin 2) : ∀ a, ![i.val] a + S1.size a ≤ S2.size a := by revert i; decide
/-- A semaphore lies in an array of four. -/
theorem inb4 (i : Fin 4) : ∀ a, ![i.val] a + S1.size a ≤ S4.size a := by revert i; decide
/-- A semaphore lies in an array of six. -/
theorem inb6 (i : Fin 6) : ∀ a, ![i.val] a + S1.size a ≤ S6.size a := by revert i; decide
/-- A semaphore lies in an array of eight. -/
theorem inb8 (i : Fin 8) : ∀ a, ![i.val] a + S1.size a ≤ S8.size a := by revert i; decide

/-- Semaphore `i` of an array of two, four, six, eight. -/
def sem2 (a : DmaSems sig S2) (i : Fin 2) : DmaSem sig := ((a.slice (Rect.unit (s := S2) ![i.val] S1.size (inb2 i))).squeeze S_ squeezes_S1_S_).sem
def sem4 (a : DmaSems sig S4) (i : Fin 4) : DmaSem sig := ((a.slice (Rect.unit (s := S4) ![i.val] S1.size (inb4 i))).squeeze S_ squeezes_S1_S_).sem
def sem6 (a : DmaSems sig S6) (i : Fin 6) : DmaSem sig := ((a.slice (Rect.unit (s := S6) ![i.val] S1.size (inb6 i))).squeeze S_ squeezes_S1_S_).sem
def sem8 (a : DmaSems sig S8) (i : Fin 8) : DmaSem sig := ((a.slice (Rect.unit (s := S8) ![i.val] S1.size (inb8 i))).squeeze S_ squeezes_S1_S_).sem

/-- The handshake's semaphore. -/
def bar : Sem sig := (SemArray.scalar (sig.barrier 0 rfl) : Sems sig S_).sem

/-! ## The neighbours -/

def prv (c : Dev nD) : Dev nD := ⟨k0_dev1 c, k0_dev1_lt c⟩
def nxt (c : Dev nD) : Dev nD := ⟨k0_dev2 c, k0_dev2_lt c⟩
def xn (c : Dev nD) : Dev nD := ⟨k0_dev3 c, k0_dev3_lt c⟩
def yn (c : Dev nD) : Dev nD := ⟨k0_dev4 c, k0_dev4_lt c⟩

/-! ## Chunks: 128 rows of a buffer of 1024 -/

/-- Where a chunk starts, with the printed evidence that it lies inside and is made of whole words. -/
structure Ch where
  o : Fin 2 → ℕ
  inb : ∀ a, o a + S128x4096.size a ≤ S1024x4096.size a
  ww : (Rect.unit (s := S1024x4096) o S128x4096.size inb).WholeWords (EltTy.packing .bf16)

/-- Where 128 rows of the result start. -/
structure Oc where
  o : Fin 2 → ℕ
  inb : ∀ a, o a + S128x4096.size a ≤ S4096x4096.size a

/-- A chunk's step and half. -/
def sOf (k : Fin 8) : Fin 4 := ⟨k.val / 2, by omega⟩
def hOf (k : Fin 8) : Fin 2 := ⟨k.val % 2, by omega⟩

abbrev w4 (s : Fin 4) : BitVec 32 := BitVec.ofNat 32 s.val
abbrev w2 (h : Fin 2) : BitVec 32 := BitVec.ofNat 32 (128 * h.val)

/-- Chunk `k` as the chain along z names it in sends and waits: its own block's two first. -/
def chS (c : Dev nD) (k : Fin 8) : Ch :=
  if k.val < 2 then ⟨k0_off6 c (w2 (hOf k)), k0_off6_inb c (hOf k), k0_off6_wordsbf16 c (hOf k)⟩
  else ⟨k0_off8 c (w4 (sOf k)) (w2 (hOf k)), k0_off8_inb c (sOf k) (hOf k), k0_off8_wordsbf16 c (sOf k) (hOf k)⟩
/-- Chunk `k` as the exchanges along x and y name it. -/
def chX (c : Dev nD) (k : Fin 8) : Ch :=
  ⟨k0_off8 c (w4 (sOf k)) (w2 (hOf k)), k0_off8_inb c (sOf k) (hOf k), k0_off8_wordsbf16 c (sOf k) (hOf k)⟩

/-- The rows a loaded chunk is read from. -/
def ldR (c : Dev nD) (k : Fin 8) : Rect S1024x4096 :=
  Rect.unit (s := S1024x4096) (k0_off9 c (w4 (sOf k)) (w2 (hOf k))) S128x4096.size (k0_off9_inb c (sOf k) (hOf k))
/-- The rows the own block's halves are stored to. -/
def stR (c : Dev nD) (h : Fin 2) : Rect S1024x4096 :=
  Rect.unit (s := S1024x4096) (k0_off5 c (w2 h)) S128x4096.size (k0_off5_inb c h)

/-- A chunk of a buffer. -/
def chunk (M : Memref sig .tc .vmem S1024x4096 .bf16) (o : Ch) : Memref sig .tc .vmem S128x4096 .bf16 :=
  M.slice (Rect.unit (s := S1024x4096) o.o S128x4096.size o.inb) (fun _ => rfl)

/-- 128 rows of the result. -/
def rows (o : Oc) : Memref sig .tc .hbm S128x4096 .f32 :=
  outM.slice (Rect.unit (s := S4096x4096) o.o S128x4096.size o.inb) (fun _ => rfl)

def outZ (c : Dev nD) (k : Fin 8) : Oc :=
  if k.val < 2 then ⟨k0_off7 c (w2 (hOf k)), k0_off7_inb c (hOf k)⟩
  else ⟨k0_off10 c (BitVec.ofNat 32 (1 + (k.val / 2 - 1))) (w2 (hOf k)), k0_off10_inb c ⟨k.val / 2 - 1, by omega⟩ (hOf k)⟩
def outGx (c : Dev nD) (k : Fin 8) : Oc := ⟨k0_off11 c (w4 (sOf k)) (w2 (hOf k)), k0_off11_inb c (sOf k) (hOf k)⟩
def outGy (c : Dev nD) (k : Fin 8) : Oc := ⟨k0_off12 c (w4 (sOf k)) (w2 (hOf k)), k0_off12_inb c (sOf k) (hOf k)⟩
def outGd (c : Dev nD) (k : Fin 8) : Oc := ⟨k0_off13 c (w4 (sOf k)) (w2 (hOf k)), k0_off13_inb c (sOf k) (hOf k)⟩

/-- The rows the `n`-th write-back fills, in program order. -/
def outN (c : Dev nD) (n : ℕ) : Oc :=
  if n < 8 then outZ c (Fin.ofNat 8 n)
  else if n < 24 then
    if n % 2 = 0 then outGx c (Fin.ofNat 8 ((n - 8) / 2)) else outGy c (Fin.ofNat 8 ((n - 8) / 2))
  else outGd c (Fin.ofNat 8 (n - 24))

/-! ## The slots of the buffer that travels along z, and of the write-back buffer -/

/-- A slot lies in the running sum's buffer. -/
theorem czInb (i : Fin 4) : ∀ a, ![i.val, 0, 0] a + S1x256x4096.size a ≤ S4x256x4096.size a := by revert i; decide
/-- Half a slot lies in the running sum's buffer. -/
theorem czhInb (i : Fin 4) (h : Fin 2) : ∀ a, ![i.val, 128 * h.val, 0] a + S1x128x4096.size a ≤ S4x256x4096.size a := by
  revert i h; decide
/-- A slot lies in the write-back buffer. -/
theorem ybInb (i : Fin 2) : ∀ a, ![i.val, 0, 0] a + S1x128x4096.size a ≤ S2x128x4096.size a := by revert i; decide
/-- Half of the rows lie in the local buffer. -/
theorem lhInb (h : Fin 2) : ∀ a, ![128 * h.val, 0] a + S128x4096.size a ≤ S256x4096.size a := by revert h; decide
/-- A slot's rows are packed as the buffer's. -/
theorem czPk (i : Fin 4) : (Rect.unit (s := S4x256x4096) ![i.val, 0, 0] S1x256x4096.size (czInb i)).PackedRows (EltTy.packing .bf16) := by
  revert i; decide +kernel
/-- A slot is whole words. -/
theorem czWw (i : Fin 4) : (Rect.unit (s := S4x256x4096) ![i.val, 0, 0] S1x256x4096.size (czInb i)).WholeWords (EltTy.packing .bf16) := by
  revert i; decide +kernel
/-- Half a slot is whole words. -/
theorem czhWw (i : Fin 4) (h : Fin 2) : (Rect.unit (s := S4x256x4096) ![i.val, 128 * h.val, 0] S1x128x4096.size (czhInb i h)).WholeWords (EltTy.packing .bf16) := by
  revert i h; decide +kernel

abbrev czR (i : Fin 4) : Rect S4x256x4096 := Rect.unit (s := S4x256x4096) ![i.val, 0, 0] S1x256x4096.size (czInb i)
abbrev czhR (i : Fin 4) (h : Fin 2) : Rect S4x256x4096 := Rect.unit (s := S4x256x4096) ![i.val, 128 * h.val, 0] S1x128x4096.size (czhInb i h)
abbrev ybR (i : Fin 2) : Rect S2x128x4096 := Rect.unit (s := S2x128x4096) ![i.val, 0, 0] S1x128x4096.size (ybInb i)
abbrev lhR (h : Fin 2) : Rect S256x4096 := Rect.unit (s := S256x4096) ![128 * h.val, 0] S128x4096.size (lhInb h)
abbrev wR : Rect S256x4096 := Rect.unit (s := S256x4096) ![0, 0] S256x4096.size inb_S256x4096_S256x4096_0_0

def czS (i : Fin 4) : Memref sig .tc .vmem S256x4096 .bf16 := (czM.slice (czR i) (fun _ => rfl)).squeeze S256x4096 squeezes_S1x256x4096_S256x4096
def czH (i : Fin 4) (h : Fin 2) : Memref sig .tc .vmem S128x4096 .bf16 := (czM.slice (czhR i h) (fun _ => rfl)).squeeze S128x4096 squeezes_S1x128x4096_S128x4096
def ybS (i : Fin 2) : Memref sig .tc .vmem S128x4096 .f32 := (ybM.slice (ybR i) (fun _ => rfl)).squeeze S128x4096 squeezes_S1x128x4096_S128x4096

/-- A copy of a slot moves whole words. -/
theorem czS_we (i : Fin 4) : (czS i).view.WordExact := ((Memref.isWhole_whole _).wordExact_slice rfl _ (czWw i)).reshape _ _
/-- A copy of half a slot moves whole words. -/
theorem czH_we (i : Fin 4) (h : Fin 2) : (czH i h).view.WordExact := ((Memref.isWhole_whole _).wordExact_slice rfl _ (czhWw i h)).reshape _ _
/-- A copy of a chunk moves whole words. -/
theorem chunk_we {M : Memref sig .tc .vmem S1024x4096 .bf16} (hM : M.IsWhole) (o : Ch) : (chunk M o).view.WordExact :=
  hM.wordExact_slice rfl _ o.ww

/-! ## The steps -/

/-- Copy 256 rows of the partial sums into `locM` and wait. -/
def loadX (o : Fin 3 → ℕ) (h : ∀ a, o a + S1x256x4096.size a ≤ S1x4096x4096.size a) : P F PUnit := do
  Prog.lift (.enqueueDma ((xM.slice (Rect.unit (s := S1x4096x4096) o S1x256x4096.size h) (fun _ => rfl)).squeeze S256x4096 squeezes_S1x256x4096_S256x4096)
    (.here locM) (.dma cc0_scratch21.sem) ((View.wordExact_bits rfl).reshape _ _) (Memref.isWhole_whole _).wordExact ⟨Or.inl rfl, trivial⟩)
  Prog.lift (.waitDma2 cc0_scratch21.sem ((xM.slice (Rect.unit (s := S1x4096x4096) o S1x256x4096.size h) (fun _ => rfl)).squeeze S256x4096 squeezes_S1x256x4096_S256x4096)
    locM ((View.wordExact_bits rfl).reshape _ _) (Memref.isWhole_whole _).wordExact)

/-- Tell the four neighbours, and hear from the four. -/
def handshake (c : Dev nD) : P F PUnit := do
  semSignalWord (prv c) bar 1#32
  semSignalWord (nxt c) bar 1#32
  semSignalWord (xn c) bar 1#32
  semSignalWord (yn c) bar 1#32
  semWaitWord bar 4#32

/-- The first block, rounded, into slot 0. -/
def first (c : Dev nD) : P F PUnit := do
  loadX (k0_off1 c) (k0_off1_inb c)
  let v : Vec F S256x4096 .f32 ← Prog.lift (.load locM wR.toLoadRect (View.loadsAt_vmem h_S256x4096))
  let _ : Vec F S1x256x4096 .bf16 ← Prog.lift (.load czM (czR 0).toLoadRect (View.loadsAt_vmem h_S1x256x4096))
  Prog.lift (.store czM (czR 0) (k0_pay1 v) Finset.univ (View.stores_vmem h_S1x256x4096 ((Memref.isWhole_whole _).storeExact_slice rfl _ (czPk 0)) (fun _ => rfl)) (.inl rfl))

/-- The residual's rows set off. -/
def resGo (c : Dev nD) : P F PUnit :=
  Prog.lift (.enqueueDma (rM.slice (Rect.unit (s := S4096x4096) (k0_off2 c) S256x4096.size (k0_off2_inb c)) (fun _ => rfl))
    (.here resM) (.dma cc0_scratch22.sem) (View.wordExact_bits rfl) (Memref.isWhole_whole _).wordExact ⟨Or.inl rfl, trivial⟩)
/-- and are waited for. -/
def resWait (c : Dev nD) : P F PUnit :=
  Prog.lift (.waitDma2 cc0_scratch22.sem (rM.slice (Rect.unit (s := S4096x4096) (k0_off2 c) S256x4096.size (k0_off2_inb c)) (fun _ => rfl))
    resM (View.wordExact_bits rfl) (Memref.isWhole_whole _).wordExact)

abbrev up2 (s : Fin 2) : Fin 4 := ⟨s.val, by omega⟩
abbrev up2' (s : Fin 2) : Fin 4 := ⟨s.val + 1, by omega⟩

/-- A reduce-scatter step: slot `s` to the next device's slot `s + 1`; add the own block to what arrived. -/
def rsStep (c : Dev nD) (s : Fin 2) : P F PUnit := do
  Prog.lift (.enqueueDma (czS (up2 s)) (.remote (Dev.tc (nxt c)) (czS (up2' s)) (.dma (sem2 cc0_scratch8 s))) (.dma (sem2 cc0_scratch9 s))
    (czS_we _) (czS_we _) ⟨⟨rfl, Or.inl rfl⟩, trivial⟩)
  loadX (k0_off3 c (BitVec.ofNat 32 s.val)) (k0_off3_inb c s)
  Prog.lift (.waitDma2 (sem2 cc0_scratch8 s) (czS (up2' s)) (czS (up2 s)) (czS_we _) (czS_we _))
  Prog.lift (.waitDma2 (sem2 cc0_scratch9 s) (czS (up2 s)) (czS (up2' s)) (czS_we _) (czS_we _))
  let a : Vec F S1x256x4096 .bf16 ← Prog.lift (.load czM (czR (up2' s)).toLoadRect (View.loadsAt_vmem h_S1x256x4096))
  let b : Vec F S256x4096 .f32 ← Prog.lift (.load locM wR.toLoadRect (View.loadsAt_vmem h_S256x4096))
  let _ : Vec F S1x256x4096 .bf16 ← Prog.lift (.load czM (czR (up2' s)).toLoadRect (View.loadsAt_vmem h_S1x256x4096))
  Prog.lift (.store czM (czR (up2' s)) (k0_pay2 a b) Finset.univ (View.stores_vmem h_S1x256x4096 ((Memref.isWhole_whole _).storeExact_slice rfl _ (czPk _)) (fun _ => rfl)) (.inl rfl))

/-- The last reduce-scatter step's half `h` sets off. -/
def lastGo (c : Dev nD) (h : Fin 2) : P F PUnit :=
  Prog.lift (.enqueueDma (czH 2 h) (.remote (Dev.tc (nxt c)) (czH 3 h) (.dma (sem2 cc0_scratch10 h))) (.dma (sem2 cc0_scratch11 h))
    (czH_we _ _) (czH_we _ _) ⟨⟨rfl, Or.inl rfl⟩, trivial⟩)
def lastWait (c : Dev nD) (h : Fin 2) : P F PUnit := do
  Prog.lift (.waitDma2 (sem2 cc0_scratch10 h) (czH 3 h) (czH 2 h) (czH_we _ _) (czH_we _ _))
  Prog.lift (.waitDma2 (sem2 cc0_scratch11 h) (czH 2 h) (czH 3 h) (czH_we _ _) (czH_we _ _))

/-- Chunk `k` to the next device along z. -/
def sendZ (c : Dev nD) (k : Fin 8) (k' : Fin 6) : P F PUnit :=
  Prog.lift (.enqueueDma (chunk colM (chS c k)) (.remote (Dev.tc (nxt c)) (chunk colM (chS c k)) (.dma (sem6 cc0_scratch12 k'))) (.dma (sem6 cc0_scratch13 k'))
    (chunk_we (Memref.isWhole_whole _) _) (chunk_we (Memref.isWhole_whole _) _) ⟨⟨rfl, Or.inl rfl⟩, trivial⟩)
/-- Chunk `k` across x and across y. -/
def sendX (c : Dev nD) (k : Fin 8) : P F PUnit :=
  Prog.lift (.enqueueDma (chunk colM (chS c k)) (.remote (Dev.tc (xn c)) (chunk gxM (chS c k)) (.dma (sem8 cc0_scratch14 k))) (.dma (sem8 cc0_scratch16 k))
    (chunk_we (Memref.isWhole_whole _) _) (chunk_we (Memref.isWhole_whole _) _) ⟨⟨rfl, Or.inl rfl⟩, trivial⟩)
def sendY (c : Dev nD) (k : Fin 8) : P F PUnit :=
  Prog.lift (.enqueueDma (chunk colM (chS c k)) (.remote (Dev.tc (yn c)) (chunk gyM (chS c k)) (.dma (sem8 cc0_scratch15 k))) (.dma (sem8 cc0_scratch17 k))
    (chunk_we (Memref.isWhole_whole _) _) (chunk_we (Memref.isWhole_whole _) _) ⟨⟨rfl, Or.inl rfl⟩, trivial⟩)

abbrev par (n : ℕ) : Fin 2 := Fin.ofNat 2 n

/-- Wait for the write-back that last used write-back `n`'s slot. -/
def ybWait (c : Dev nD) (n : ℕ) : P F PUnit :=
  Prog.lift (.waitDma2 (sem2 cc0_scratch23 (par n)) (ybS (par n)) (rows (outN c n)) ((View.wordExact_bits rfl).reshape _ _) (View.wordExact_bits rfl))

/-- Write back `v` to the result's rows `n`. -/
def ybGo (c : Dev nD) (n : ℕ) (v : FVec F S1x128x4096 .f32) : P F PUnit := do
  let _ : Vec F S1x128x4096 .f32 ← Prog.lift (.load ybM (ybR (par n)).toLoadRect (View.loadsAt_vmem h_S1x128x4096))
  Prog.lift (.store ybM (ybR (par n)) v Finset.univ (View.stores_vmem_bits_univ h_S1x128x4096 rfl) (.inl rfl))
  Prog.lift (.enqueueDma (ybS (par n)) (.here (rows (outN c n))) (.dma (sem2 cc0_scratch23 (par n))) ((View.wordExact_bits rfl).reshape _ _) (View.wordExact_bits rfl) ⟨Or.inl rfl, trivial⟩)

/-- The own block's half `h`: the normalised rows, kept rounded in `colM`, sent three ways and written back. -/
def own (c : Dev nD) (h : Fin 2) : P F PUnit := do
  let a : Vec F S1x128x4096 .bf16 ← Prog.lift (.load czM (czhR 3 h).toLoadRect (View.loadsAt_vmem h_S1x128x4096))
  let b : Vec F S128x4096 .f32 ← Prog.lift (.load locM (lhR h).toLoadRect (View.loadsAt_vmem h_S128x4096))
  let r : Vec F S128x4096 .f32 ← Prog.lift (.load resM (lhR h).toLoadRect (View.loadsAt_vmem h_S128x4096))
  let g : Vec F S4096 .f32 ← Prog.lift (.load gamM (Rect.unit (s := S4096) ![0] S4096.size inb_S4096_S4096_0).toLoadRect (View.loadsAt_vmem h_S4096))
  let _ : Vec F S128x4096 .bf16 ← Prog.lift (.load colM (stR c h).toLoadRect (View.loadsAt_vmem h_S128x4096))
  Prog.lift (.store colM (stR c h) (k0_pay9 a b r g) Finset.univ (View.stores_vmem h_S128x4096 ((Memref.isWhole_whole _).storeExact_slice rfl _ (k0_off5_packedbf16 c h)) (fun _ => rfl)) (.inl rfl))
  sendZ c ⟨h.val, by omega⟩ ⟨h.val, by omega⟩
  sendX c ⟨h.val, by omega⟩
  sendY c ⟨h.val, by omega⟩
  ybGo c h.val (k0_pay10 (k0_pay8 a b r g))

/-- Read a chunk and write it back as write-back `n`. -/
def emit (c : Dev nD) (M : Memref sig .tc .vmem S1024x4096 .bf16) (k : Fin 8) (n : ℕ) : P F PUnit := do
  let v : Vec F S128x4096 .bf16 ← Prog.lift (.load M (ldR c k).toLoadRect (View.loadsAt_vmem h_S128x4096))
  ybWait c (n - 2)
  ybGo c n (k0_pay11 v)

/-- Step `j` of the chain along z: chunk `j + 2` arrives, goes on, and is written back. -/
def zStep (c : Dev nD) (j : Fin 6) : P F PUnit := do
  Prog.lift (.waitDma2 (sem6 cc0_scratch12 j) (chunk colM (chS c ⟨j.val, by omega⟩)) (chunk colM (chS c ⟨j.val, by omega⟩)) (chunk_we (Memref.isWhole_whole _) _) (chunk_we (Memref.isWhole_whole _) _))
  Prog.lift (.waitDma2 (sem6 cc0_scratch13 j) (chunk colM (chS c ⟨j.val, by omega⟩)) (chunk colM (chS c ⟨j.val, by omega⟩)) (chunk_we (Memref.isWhole_whole _) _) (chunk_we (Memref.isWhole_whole _) _))
  if h : j.val < 4 then sendZ c ⟨j.val + 2, by omega⟩ ⟨j.val + 2, by omega⟩ else pure ⟨⟩
  sendX c ⟨j.val + 2, by omega⟩
  sendY c ⟨j.val + 2, by omega⟩
  emit c colM ⟨j.val + 2, by omega⟩ (j.val + 2)

/-- Chunk `k` that came across one axis goes on across the other: the first four from x on along y, the last four from
    y on along x. -/
def fwdX (c : Dev nD) (k : Fin 8) : P F PUnit :=
  if h : k.val < 4 then
    Prog.lift (.enqueueDma (chunk gxM (chX c k)) (.remote (Dev.tc (yn c)) (chunk gdM (chX c k)) (.dma (sem4 cc0_scratch19 ⟨k.val, h⟩))) (.dma (sem8 cc0_scratch20 k))
      (chunk_we (Memref.isWhole_whole _) _) (chunk_we (Memref.isWhole_whole _) _) ⟨⟨rfl, Or.inl rfl⟩, trivial⟩)
  else pure ⟨⟩
def fwdY (c : Dev nD) (k : Fin 8) : P F PUnit :=
  if h : k.val < 4 then pure ⟨⟩
  else
    Prog.lift (.enqueueDma (chunk gyM (chX c k)) (.remote (Dev.tc (xn c)) (chunk gdM (chX c k)) (.dma (sem4 cc0_scratch18 ⟨k.val - 4, by omega⟩))) (.dma (sem8 cc0_scratch20 k))
      (chunk_we (Memref.isWhole_whole _) _) (chunk_we (Memref.isWhole_whole _) _) ⟨⟨rfl, Or.inl rfl⟩, trivial⟩)

/-- Wait for chunk `k` of `M` on semaphore `s`. -/
def chWait (c : Dev nD) (s : DmaSem sig) (M : Memref sig .tc .vmem S1024x4096 .bf16) (hM : M.IsWhole) (k : Fin 8) : P F PUnit :=
  Prog.lift (.waitDma2 s (chunk M (chX c k)) (chunk M (chX c k)) (chunk_we hM _) (chunk_we hM _))

/-- Chunk `k` of the x neighbour's column, then of the y neighbour's. -/
def xyStep (c : Dev nD) (k : Fin 8) : P F PUnit := do
  chWait c (sem8 cc0_scratch16 k) gxM (Memref.isWhole_whole _) k
  fwdX c k
  emit c gxM k (8 + 2 * k.val)
  chWait c (sem8 cc0_scratch17 k) gyM (Memref.isWhole_whole _) k
  fwdY c k
  emit c gyM k (9 + 2 * k.val)

/-- Chunk `k` of the diagonal device's column. -/
def gdStep (c : Dev nD) (k : Fin 8) : P F PUnit := do
  chWait c (sem8 cc0_scratch20 k) gdM (Memref.isWhole_whole _) k
  emit c gdM k (24 + k.val)

/-- The sends' waits. -/
def drainXY (c : Dev nD) (k : Fin 8) : P F PUnit := do
  Prog.lift (.waitDma2 (sem8 cc0_scratch14 k) (chunk gxM (chS c k)) (chunk colM (chS c k)) (chunk_we (Memref.isWhole_whole _) _) (chunk_we (Memref.isWhole_whole _) _))
  Prog.lift (.waitDma2 (sem8 cc0_scratch15 k) (chunk gyM (chS c k)) (chunk colM (chS c k)) (chunk_we (Memref.isWhole_whole _) _) (chunk_we (Memref.isWhole_whole _) _))
def drainF (c : Dev nD) (k : Fin 8) : P F PUnit :=
  if h : k.val < 4 then
    Prog.lift (.waitDma2 (sem4 cc0_scratch19 ⟨k.val, h⟩) (chunk gdM (chX c k)) (chunk gxM (chX c k)) (chunk_we (Memref.isWhole_whole _) _) (chunk_we (Memref.isWhole_whole _) _))
  else
    Prog.lift (.waitDma2 (sem4 cc0_scratch18 ⟨k.val - 4, by omega⟩) (chunk gdM (chX c k)) (chunk gyM (chX c k)) (chunk_we (Memref.isWhole_whole _) _) (chunk_we (Memref.isWhole_whole _) _))

/-- `f 0`, …, `f (n - 1)` in turn. -/
def upto (f : ℕ → P F PUnit) : ℕ → P F PUnit
  | 0 => pure ⟨⟩
  | n + 1 => do upto f n; f n

/-- Everything up to the residual's arrival. -/
def head (c : Dev nD) : P F PUnit := do
  handshake c
  first c
  resGo c
  rsStep c 0
  rsStep c 1
  lastGo c 0
  lastGo c 1
  loadX (k0_off4 c) (k0_off4_inb c)
  resWait c

/-- The whole body. -/
def prog : P F PUnit := do
  let c : Dev nD ← Prog.lift .deviceId
  head c
  lastWait c 0
  own c 0
  lastWait c 1
  own c 1
  upto (fun j => zStep c (Fin.ofNat 6 j)) 6
  upto (fun k => xyStep c (Fin.ofNat 8 k)) 8
  upto (fun k => gdStep c (Fin.ofNat 8 k)) 8
  upto (fun k => drainXY c (Fin.ofNat 8 k)) 8
  upto (fun k => drainF c (Fin.ofNat 8 k)) 8
  ybWait c 30
  ybWait c 31

end Cert.KernelIdeal.Steps

end
-- ==== Proof.Own.lean ====
module

public import proofs.«01_k».proof.Proof.Prog
public import Idealize.ShloMosaic.Lib.Pipeline.Launch
public import Idealize.ShloMosaic.Lib.Pipeline.Kit
public import Idealize.ShloMosaic.Lib.Transfers
public import Idealize.ShloMosaic.Lib.Memref

/-! # Holding a slice at known contents, and what a step does with it

Every piece of memory in the proof is held in one form, `hold d m q X`: device `d` holds the elements of `m` at
share `q`, and reads `X` through it. Here are the rules of a load, a store, a local copy and its wait in that form,
and the splitting of shares. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono wp_dmaLocal wp_waitLocalO)

variable {F : FTy → Type} [FloatOps F]

/-- The rounds of the cells that cross devices: a round has at most four duties. -/
abbrev UB : Type := URounds (GSem nD τ sig) (Fin 4)
/-- The staging copies' algebra, the rounds, and the counters of the copies a device makes for itself. -/
abbrev UU : Type := UR sig nD τ × (UB × Counters)

local notation "𝕄" => MT nD τ sig Unit (Elt F) ℕ UU ℕ

/-- The staging copies' part, -/
abbrev EP : Emb (UR sig nD τ) (MT nD τ sig Unit (Elt F) ℕ UU ℕ) := embL
/-- the rounds', -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- and the counters'. -/
abbrev EC : UEmb Counters (MT nD τ sig Unit (Elt F) ℕ UU ℕ) := countersEmb

abbrev 𝒱₀ : Variants := Variants.none

/-- Program `p`, run on device `c`, ends in `Q`. -/
abbrev Wp (c : Dev nD) {α : Type} (p : P F α) (Q : α → sProp 𝕄) : sProp 𝕄 :=
  wp frame (wpE (defs₀ (F := F)) 𝒱₀ (c : Thread nD τ) none) Set.univ p Q

/-- Device `d` holds `m` at share `q`, reading `X`. -/
def hold (d : Dev nD) {sp : Space} {sh : Shape} {e : EltTy} (m : Memref sig .tc sp sh e) (q : PosShare TreeShare)
    (X : sh.Idx → Elt F e) : sProp 𝕄 := owns (d : Thread nD τ) m q X

/-- Device `d` holds `m` wholly, at whatever contents. -/
def anyAt (d : Dev nD) {sp : Space} {sh : Shape} {e : EltTy} (m : Memref sig .tc sp sh e) : sProp 𝕄 :=
  iprop(∃ X, hold (F := F) d m fullShare X)

instance hold_storable (d : Dev nD) {sp : Space} {sh : Shape} {e : EltTy} (m : Memref sig .tc sp sh e) (q : PosShare TreeShare)
    (X : sh.Idx → Elt F e) : BI.Storable (upEmb : UEmb _ 𝕄) (hold d m q X) := by unfold hold; infer_instance
instance anyAt_storable (d : Dev nD) {sp : Space} {sh : Shape} {e : EltTy} (m : Memref sig .tc sp sh e) :
    BI.Storable (upEmb : UEmb _ 𝕄) (anyAt (F := F) d m) := by unfold anyAt; infer_instance

/-- What is held is an array read through the memref. -/
theorem hold_open (d : Dev nD) {sp : Space} {sh : Shape} {e : EltTy} (m : Memref sig .tc sp sh e) (q : PosShare TreeShare)
    (X : sh.Idx → Elt F e) :
    (hold d m q X : sProp 𝕄) ⊢ iprop(∃ f, ⌜m.view.read (Elt F) f = X⌝ ∗ (m.view.loc (d : Thread nD τ) ↦[m.view.set]{q} f)) := Entails.of_eq rfl

/-- An array read through the memref is what is held. -/
theorem hold_close (d : Dev nD) {sp : Space} {sh : Shape} {e : EltTy} (m : Memref sig .tc sp sh e) (q : PosShare TreeShare)
    (X : sh.Idx → Elt F e) (f : m.view.ty.Contents (Elt F)) (hf : m.view.read (Elt F) f = X) :
    (m.view.loc (d : Thread nD τ) ↦[m.view.set]{q} f : sProp 𝕄) ⊢ hold d m q X := by
  subst hf; exact owns_intro (d : Thread nD τ) m q f

/-- What is held is held at some contents. -/
theorem hold_any (d : Dev nD) {sp : Space} {sh : Shape} {e : EltTy} (m : Memref sig .tc sp sh e) (X : sh.Idx → Elt F e) :
    (hold d m fullShare X : sProp 𝕄) ⊢ anyAt d m := by unfold anyAt; iintro H; iexists X; iexact H

/-- A share held is its two halves held. -/
theorem hold_halves (d : Dev nD) {sp : Space} {sh : Shape} {e : EltTy} (m : Memref sig .tc sp sh e) (q : PosShare TreeShare)
    (X : sh.Idx → Elt F e) : (hold d m q X : sProp 𝕄) ⊢ iprop(hold d m q.left X ∗ hold d m q.right X) := by
  iintro H
  ihave H' := (hold_open d m q X) $$ H
  icases H' with ⟨%f, %hf, H⟩
  ihave H2 := ((pointsTo_share (PosShare.mem_left_op_right q)).1) $$ H
  icases H2 with ⟨Hl, Hr⟩
  isplitl [Hl]
  · iapply (hold_close d m q.left X f hf); iexact Hl
  · iapply (hold_close d m q.right X f hf); iexact Hr

/-! ## A squeezed slice is the slice -/

section Squeeze
variable (d : Dev nD) {sp : Space} {sh sh' : Shape} {e : EltTy} (m : Memref sig .tc sp sh e) (h : sh.Squeezes sh') (q : PosShare TreeShare)

/-- Contents of a shape, read in the same order at another shape of as many elements. -/
def sqz {α : Type} {sh sh' : Shape} (h : sh.Squeezes sh') (X : sh.Idx → α) : sh'.Idx → α := fun i => X (Shape.reshapeEquiv h.numel_eq i)

/-- A squeezed memref reads the same elements at the smaller shape. -/
theorem read_squeeze (f : m.view.ty.Contents (Elt F)) :
    (m.squeeze sh' h).view.read (Elt F) f = sqz h (m.view.read (Elt F) f) := rfl

/-- Squeezing loses nothing. -/
theorem sqz_inj {α : Type} {X Y : sh.Idx → α} (hh : sqz h X = sqz h Y) : X = Y := by
  funext i
  have := congrFun hh ((Shape.reshapeEquiv h.numel_eq).symm i)
  simpa only [sqz, Equiv.apply_symm_apply] using this

/-- A squeezed memref covers the same elements. -/
theorem squeeze_set : (m.squeeze sh' h).view.set = m.view.set := View.set_reshape _ _

/-- Holding a squeezed memref is holding the memref. -/
theorem hold_squeeze (X : sh.Idx → Elt F e) : (hold d (m.squeeze sh' h) q (sqz h X) : sProp 𝕄) = hold d m q X := by
  have h₁ : (hold d (m.squeeze sh' h) q (sqz h X) : sProp 𝕄) ⊢ hold d m q X := by
    iintro H
    ihave H' := (hold_open d (m.squeeze sh' h) q _) $$ H
    icases H' with ⟨%f, %hf, H⟩
    iapply (hold_close d m q X f (sqz_inj h hf))
    have hs : (m.squeeze sh' h).view.set = m.view.set := squeeze_set m h
    rw [hs]; iexact H
  have h₂ : (hold d m q X : sProp 𝕄) ⊢ hold d (m.squeeze sh' h) q (sqz h X) := by
    iintro H
    ihave H' := (hold_open d m q _) $$ H
    icases H' with ⟨%f, %hf, H⟩
    iapply (hold_close d (m.squeeze sh' h) q (sqz h X) f (by rw [read_squeeze, hf]))
    have hs : (m.squeeze sh' h).view.set = m.view.set := squeeze_set m h
    rw [hs]; iexact H
  exact BI.equiv_iff.mp ⟨h₁, h₂⟩

/-- A memref at any contents is so squeezed. -/
theorem any_squeeze : (anyAt (F := F) d m : sProp 𝕄) ⊢ anyAt d (m.squeeze sh' h) := by
  unfold anyAt
  iintro ⟨%X, H⟩
  iexists (sqz h X)
  rw [hold_squeeze d m h fullShare X]; iexact H

/-- A squeezed memref at any contents is so unsqueezed. -/
theorem any_unsqueeze : (anyAt (F := F) d (m.squeeze sh' h) : sProp 𝕄) ⊢ anyAt d m := by
  unfold anyAt
  iintro ⟨%X, H⟩
  have hX : X = sqz h (fun i => X ((Shape.reshapeEquiv h.numel_eq).symm i)) := by
    funext i; simp only [sqz, Equiv.symm_apply_apply]
  iexists (fun i => X ((Shape.reshapeEquiv h.numel_eq).symm i))
  rw [← hold_squeeze d m h fullShare, ← hX]; iexact H

end Squeeze

/-! ## Loads and stores -/

section Rules
variable (c : Dev nD) {cs : CoreSpace} {s : Shape} {e : EltTy} {M : Memref sig .tc cs s e}

/-- A load of the rows held, -/
theorem wp_load_own {α : Type} {Q : α → sProp 𝕄} {r : Rect s} {hr : ∀ a, r.stride a = 1} {hl : M.view.LoadsAt r.toLoadRect} {q : PosShare TreeShare} {X : r.shape.Idx → Elt F e}
    {k : (r.shape.Idx → Elt F e) → P F α} :
    (hold c (M.slice r hr) q X : sProp 𝕄) ⊢ iprop((hold c (M.slice r hr) q X -∗ Wp c (k X) Q) -∗ Wp c (.op (.load M r.toLoadRect hl) k) Q) := by
  iintro H Hk
  ihave H' := (hold_open c (M.slice r hr) q X) $$ H
  icases H' with ⟨%f, %hf, H⟩
  iapply (wp_load_rect 𝒱₀ (c : Thread nD τ) none Set.univ (m := M) (r := r) (S := (M.slice r hr).view.set) (q := q) (f := f) (Finset.Subset.refl _)) $$ H
  iintro H
  have hf' : (M.access r).read (Elt F) f = X := hf
  rw [hf']
  iapply Hk
  iapply (hold_close c (M.slice r hr) q X f hf) $$ H

/-- and of some of the rows held. -/
theorem wp_load_sub {α : Type} {Q : α → sProp 𝕄} {r : Rect s} {hl : M.view.LoadsAt r.toLoadRect} {q : PosShare TreeShare} {X : s.Idx → Elt F e}
    {k : (r.shape.Idx → Elt F e) → P F α} :
    (hold c M q X : sProp 𝕄) ⊢ iprop((hold c M q X -∗ Wp c (k (fun i => X (r.emb i))) Q) -∗ Wp c (.op (.load M r.toLoadRect hl) k) Q) := by
  iintro H Hk
  ihave H' := (hold_open c M q X) $$ H
  icases H' with ⟨%f, %hf, H⟩
  iapply (wp_load_rect 𝒱₀ (c : Thread nD τ) none Set.univ (m := M) (r := r) (S := M.view.set) (q := q) (f := f) (View.set_slice_subset _ _)) $$ H
  iintro H
  have hf' : (M.access r).read (Elt F) f = fun i => X (r.emb i) := by rw [← hf]; rfl
  rw [hf']
  iapply Hk
  iapply (hold_close c M q X f hf) $$ H

/-- A store over the rows held. -/
theorem wp_store_own {α : Type} {Q : α → sProp 𝕄} {r : Rect s} {hr : ∀ a, r.stride a = 1} {w : r.shape.Idx → Elt F e} {hx : (M.access r).Stores Finset.univ}
    {hm : (Finset.univ : Finset r.shape.Idx) = Finset.univ ∨ ∀ a, r.stride a = 1} {k : PUnit → P F α} :
    (anyAt c (M.slice r hr) : sProp 𝕄)
      ⊢ iprop((hold c (M.slice r hr) fullShare w -∗ Wp c (k ⟨⟩) Q) -∗ Wp c (.op (.store M r w Finset.univ hx hm) k) Q) := by
  unfold anyAt
  iintro ⟨%X, H⟩ Hk
  ihave H' := (hold_open c (M.slice r hr) fullShare X) $$ H
  icases H' with ⟨%f, %hf, H⟩
  iapply (wp_store 𝒱₀ (c : Thread nD τ) none Set.univ (m := M) (r := r) (w := w) (Mk := Finset.univ) (S := (M.slice r hr).view.set) (f := f)
    (View.setOn_subset_set _ _)) $$ H
  iintro H
  iapply Hk
  iapply (hold_close c (M.slice r hr) fullShare w _ (View.read_write_univ _ _)) $$ H

end Rules

/-! ## A device's own copies -/

section Local
variable (c : Dev nD) {sp sp' : Space} {s : Shape} {e : EltTy}
  {src : Memref sig .tc sp s e} {dst : Memref sig .tc sp' s e} {sm : DmaSem sig}

/-- A copy in flight: at its wait the source comes back and the destination holds what the source did. -/
def flying (c : Dev nD) (src : Memref sig .tc sp s e) (dst : Memref sig .tc sp' s e) (sm : DmaSem sig) (q : PosShare TreeShare)
    (X : s.Idx → Elt F e) : sProp 𝕄 :=
  Flight EC (c : Thread nD τ) (.dma sm) () (dst.view.dmaCredit) iprop(hold c dst fullShare X ∗ hold c src q X)

/-- A local copy starts: its source, its target and its semaphore at rest go with it. -/
theorem wp_copy_own {α : Type} {Q : α → sProp 𝕄} {hsrc : src.view.WordExact} {hdst : dst.view.WordExact}
    {hsem : DmaTarget.Typed (nD := nD) (τ := τ) (sig := sig) (p := .tc) sp (.dma sm) (.here dst)}
    {k : PUnit → P F α} {q : PosShare TreeShare} {X : s.Idx → Elt F e} (hpos : 0 < s.numel) :
    iprop(hold c src q X ∗ anyAt c dst ∗ semVal ((c : Thread nD τ), .dma sm) 0)
      ⊢ iprop((flying c src dst sm q X -∗ Wp c (k ⟨⟩) Q) -∗ Wp c (.op (.enqueueDma src (.here dst) (.dma sm) hsrc hdst hsem) k) Q) := by
  unfold anyAt
  iintro ⟨Hs, ⟨%Y, Hd⟩, Hv⟩ Hk
  ihave Hs' := (hold_open c src q X) $$ Hs
  icases Hs' with ⟨%f, %hf, Hs⟩
  ihave Hd' := (hold_open c dst fullShare Y) $$ Hd
  icases Hd' with ⟨%g, %hg, Hd⟩
  iapply (wp_dmaLocal EC 𝒱₀ (c : Thread nD τ) none (src := src) (dst := dst) (via := .same) (sm := .dma sm) (q := q) (fs := f) (fd := g) (Sd := dst.view.set) ()
    (dst.view.dmaCredit) rfl (View.dmaCredit_pos _ hpos) (Finset.Subset.refl _)) $$ [Hs Hd Hv]
  · isplitl [Hs]; · iexact Hs
    isplitl [Hd]; · iexact Hd
    iexact Hv
  iintro HF
  iapply Hk
  unfold flying
  iapply (Flight_mono (c := (c : Thread nD τ)) EC ?_) $$ HF
  iintro ⟨H1, H2⟩
  isplitl [H1]
  · iapply (hold_close c dst fullShare X _ ((View.read_write_univ _ _).trans hf)) $$ H1
  · iapply (hold_close c src q X f hf) $$ H2

/-- The wait for a local copy: source and target are back, the target with the source's contents. -/
theorem wp_wait_own {α : Type} {Q : α → sProp 𝕄} {s' : Shape} {e' : EltTy} {sp₀ sp₁ : Space} {srcw : Memref sig .tc sp₀ s' e'} {dstw : Memref sig .tc sp₁ s e}
    {hsrc : srcw.view.WordExact} {hdst : dstw.view.WordExact} {k : PUnit → P F α} {q : PosShare TreeShare} {X : s.Idx → Elt F e}
    (hN : dstw.view.dmaCredit = dst.view.dmaCredit) {O : CellTallies nD τ sig Unit} {W : Waits sig Unit} :
    iprop(flying c src dst sm q X ∗ owes (c : Thread nD τ) O W ∗ MayWait (c : Thread nD τ) (.dma sm) () O)
      ⊢ iprop((iprop((hold c dst fullShare X ∗ hold c src q X) ∗ semVal ((c : Thread nD τ), .dma sm) 0
            ∗ owes (c : Thread nD τ) O (insert (SemLoc.dma sm, ()) W)) -∗ Wp c (k ⟨⟩) Q)
          -∗ Wp c (.op (.waitDma2 sm srcw dstw hsrc hdst) k) Q) := by
  unfold flying
  exact wp_waitLocalO EC 𝒱₀ (c : Thread nD τ) none () hN

end Local

end Cert.KernelIdeal.Steps

end
-- ==== Proof.Geom.lean ====
module

public import proofs.«01_k».proof.Proof.Prog
public import Idealize.ShloMosaic.Lib.Memref

/-! # Where everything lies

The printed offsets are chains of word arithmetic on the device's number. Here is what they come to: device `c` is
`(x, y, z)` with `z = c % 4` and `c / 4 = 2 x + y`; its column is the quarter `c / 4` of the rows, in eight chunks
of 128. All of it is decided over the sixteen devices. -/

@[expose] public section

noncomputable section

namespace Cert.KernelIdeal.Steps

open Cert.KernelIdeal.Gen
open Idealize.ShloMosaic Idealize.ShloMosaic.TcCoe

/-! ## The neighbours -/

/-- The device before the next along z is the device itself. -/
theorem prv_nxt (c : Dev nD) : prv (nxt c) = c := by revert c; decide +kernel
/-- The device after the previous along z is the device itself. -/
theorem nxt_prv (c : Dev nD) : nxt (prv c) = c := by revert c; decide +kernel
/-- The x neighbour's x neighbour is the device itself. -/
theorem xn_xn (c : Dev nD) : xn (xn c) = c := by revert c; decide +kernel
/-- The y neighbour's y neighbour is the device itself. -/
theorem yn_yn (c : Dev nD) : yn (yn c) = c := by revert c; decide +kernel
/-- The diagonal device is reached either way round. -/
theorem xn_yn (c : Dev nD) : xn (yn c) = yn (xn c) := by revert c; decide +kernel

/-! ## The chunks of a column -/

/-- The place of chunk `k` in a column: chunks come in pairs, own block first, then each block before it. -/
def pl (c : Dev nD) (k : Fin 8) : Fin 8 := ⟨2 * ((c.val + 5 - k.val / 2) % 4) + k.val % 2, by omega⟩

/-- A chunk lies in its column. -/
theorem cInb (i : Fin 8) : ∀ a, ![128 * i.val, 0] a + S128x4096.size a ≤ S1024x4096.size a := by revert i; decide
/-- Every 128 rows of the result lie in it. -/
theorem oInb (i : Fin 32) : ∀ a, ![128 * i.val, 0] a + S128x4096.size a ≤ S4096x4096.size a := by revert i; decide

/-- The `i`-th 128 rows of a buffer of 1024, and of the result. -/
abbrev cR (i : Fin 8) : Rect S1024x4096 := Rect.unit (s := S1024x4096) ![128 * i.val, 0] S128x4096.size (cInb i)
abbrev oR (i : Fin 32) : Rect S4096x4096 := Rect.unit (s := S4096x4096) ![128 * i.val, 0] S128x4096.size (oInb i)

/-- The chunk in its place. -/
def ck (M : Memref sig .tc .vmem S1024x4096 .bf16) (i : Fin 8) : Memref sig .tc .vmem S128x4096 .bf16 := M.slice (cR i) (fun _ => rfl)
/-- The result's rows in their place. -/
def ro (i : Fin 32) : Memref sig .tc .hbm S128x4096 .f32 := outM.slice (oR i) (fun _ => rfl)

/-- The offset of a chunk, as sends and waits along z print it. -/
theorem chS_o (c : Dev nD) (k : Fin 8) : (chS c k).o = ![128 * (pl c k).val, 0] := by revert c k; decide +kernel
/-- The offset of a chunk, as the exchange along x and y prints it. -/
theorem chX_o (c : Dev nD) (k : Fin 8) : (chX c k).o = ![128 * (pl c k).val, 0] := by revert c k; decide +kernel
/-- The offset of a chunk, as loads print it. -/
theorem ld_o (c : Dev nD) (k : Fin 8) : k0_off9 c (w4 (sOf k)) (w2 (hOf k)) = ![128 * (pl c k).val, 0] := by revert c k; decide +kernel
/-- The offset of an own half block, as stores print it. -/
theorem st_o (c : Dev nD) (h : Fin 2) : k0_off5 c (w2 h) = ![128 * (pl c ⟨h.val, by omega⟩).val, 0] := by revert c h; decide +kernel

/-- A chunk is known by its offset. -/
theorem chunk_eq (M : Memref sig .tc .vmem S1024x4096 .bf16) (o : Ch) (i : Fin 8) (h : o.o = ![128 * i.val, 0]) : chunk M o = ck M i := by
  obtain ⟨o, inb, ww⟩ := o
  obtain rfl : o = ![128 * i.val, 0] := h
  rfl

/-- The chunk that sends and waits along z name is the one in its place. -/
theorem chunk_chS (M : Memref sig .tc .vmem S1024x4096 .bf16) (c : Dev nD) (k : Fin 8) : chunk M (chS c k) = ck M (pl c k) := chunk_eq M _ _ (chS_o c k)
/-- The chunk that the exchange along x and y names is the one in its place. -/
theorem chunk_chX (M : Memref sig .tc .vmem S1024x4096 .bf16) (c : Dev nD) (k : Fin 8) : chunk M (chX c k) = ck M (pl c k) := chunk_eq M _ _ (chX_o c k)

/-- Across x and y a chunk keeps its place; along z it is the next device's two later. -/
theorem pl_xn (c : Dev nD) (k : Fin 8) : pl (xn c) k = pl c k := by revert c k; decide +kernel
/-- The y neighbour has a chunk in the same place. -/
theorem pl_yn (c : Dev nD) (k : Fin 8) : pl (yn c) k = pl c k := by revert c k; decide +kernel
/-- What the next device has two chunks later lies in the same place. -/
theorem pl_nxt (c : Dev nD) (k : Fin 6) : pl (nxt c) ⟨k.val + 2, by omega⟩ = pl c ⟨k.val, by omega⟩ := by revert c k; decide +kernel

/-- A column's chunk number from its place. -/
def unpl (c : Dev nD) (i : Fin 8) : Fin 8 := ⟨2 * ((c.val % 4 + 5 - i.val / 2) % 4) + i.val % 2, by omega⟩
/-- Every place of a column is some chunk's. -/
theorem pl_unpl (c : Dev nD) (i : Fin 8) : pl c (unpl c i) = i := by revert c i; decide +kernel
/-- A chunk is known by its place. -/
theorem unpl_pl (c : Dev nD) (k : Fin 8) : unpl c (pl c k) = k := by revert c k; decide +kernel
/-- Chunk numbers and places, one for one. -/
def plE (c : Dev nD) : Fin 8 ≃ Fin 8 := ⟨pl c, unpl c, unpl_pl c, pl_unpl c⟩

/-! ## The rows of the result -/

/-- The device whose column the `n`-th write-back copies, and the chunk. -/
def srcN (c : Dev nD) (n : Fin 32) : Dev nD :=
  if n.val < 8 then c else if n.val < 24 then (if n.val % 2 = 0 then xn c else yn c) else xn (yn c)
def kN (n : Fin 32) : Fin 8 :=
  if n.val < 8 then Fin.ofNat 8 n.val else if n.val < 24 then Fin.ofNat 8 ((n.val - 8) / 2) else Fin.ofNat 8 (n.val - 24)

/-- The place of the rows it fills. -/
def po (c : Dev nD) (n : Fin 32) : Fin 32 := ⟨8 * ((srcN c n).val / 4) + (pl c (kN n)).val, by
  have h1 : (srcN c n).val < 16 := (srcN c n).isLt
  have h2 := (pl c (kN n)).isLt
  omega⟩

/-- The offset of the rows that a write-back fills. -/
theorem outN_o (c : Dev nD) (n : Fin 32) : (outN c n.val).o = ![128 * (po c n).val, 0] := by revert c n; decide +kernel
/-- The rows that a write-back fills are those in its place. -/
theorem rows_outN (c : Dev nD) (n : Fin 32) : rows (outN c n.val) = ro (po c n) := by
  have h := outN_o c n
  revert h
  generalize outN c n.val = o
  obtain ⟨o, inb⟩ := o
  intro h
  obtain rfl : o = ![128 * (po c n).val, 0] := h
  rfl

/-- The write-back that fills given rows. -/
def unpo (c : Dev nD) (i : Fin 32) : Fin 32 :=
  let k := (unpl c (Fin.ofNat 8 i.val)).val
  if i.val / 8 = c.val / 4 then Fin.ofNat 32 k
  else if i.val / 8 = (xn c).val / 4 then Fin.ofNat 32 (8 + 2 * k)
  else if i.val / 8 = (yn c).val / 4 then Fin.ofNat 32 (9 + 2 * k)
  else Fin.ofNat 32 (24 + k)
/-- Every place of the result is filled by some write-back. -/
theorem po_unpo (c : Dev nD) (i : Fin 32) : po c (unpo c i) = i := by revert c i; decide +kernel
/-- A write-back is known by the place that it fills. -/
theorem unpo_po (c : Dev nD) (n : Fin 32) : unpo c (po c n) = n := by revert c n; decide +kernel
def poE (c : Dev nD) : Fin 32 ≃ Fin 32 := ⟨po c, unpo c, unpo_po c, po_unpo c⟩

/-! ## The rows of the partial sums and of the residual -/

/-- The first block a device loads, in closed form. -/
theorem off1_eq (c : Dev nD) : k0_off1 c = ![0, 1024 * (c.val / 4) + 256 * (c.val % 4), 0] := by revert c; decide +kernel
/-- The residual's rows a device loads, in closed form. -/
theorem off2_eq (c : Dev nD) : k0_off2 c = ![1024 * (c.val / 4) + 256 * ((c.val + 1) % 4), 0] := by revert c; decide +kernel
/-- The block a device adds at a step along z, in closed form. -/
theorem off3_eq (c : Dev nD) (s : Fin 2) : k0_off3 c (BitVec.ofNat 32 s.val) = ![0, 1024 * (c.val / 4) + 256 * ((c.val + 3 - s.val) % 4), 0] := by revert c s; decide +kernel
/-- The last block a device loads, in closed form. -/
theorem off4_eq (c : Dev nD) : k0_off4 c = ![0, 1024 * (c.val / 4) + 256 * ((c.val + 1) % 4), 0] := by revert c; decide +kernel

/-! ## The tilings -/

/-- Chunks in different places share no element. -/
theorem cR_disj (i j : Fin 8) (h : i ≠ j) : Disjoint (cR i).set (cR j).set := by
  rw [Finset.disjoint_left]
  intro y hi hj
  have h1 := (Rect.mem_set_unit.mp hi) 0
  have h2 := (Rect.mem_set_unit.mp hj) 0
  have e : S128x4096.size 0 = 128 := rfl
  simp only [Matrix.cons_val_zero, e] at h1 h2
  exact h (Fin.ext (by omega))
/-- The chunks make up the column. -/
theorem cR_cov : (Finset.univ : Finset (Fin 8)).biUnion (fun i => (cR i).set) = Finset.univ := by
  ext y
  simp only [Finset.mem_biUnion, Finset.mem_univ, true_and, iff_true]
  have h0 : (y 0).val < 1024 := (y 0).isLt
  have h1 : (y 1).val < 4096 := (y 1).isLt
  refine ⟨⟨(y 0).val / 128, by omega⟩, Rect.mem_set_unit.mpr fun a => ?_⟩
  have e0 : S128x4096.size 0 = 128 := rfl
  have e1 : S128x4096.size 1 = 4096 := rfl
  fin_cases a
  · simp only [Fin.zero_eta, Matrix.cons_val_zero, e0]; omega
  · simp only [Fin.mk_one, Matrix.cons_val_one, Matrix.cons_val_fin_one, e1]; omega

/-- Rows in different places share no element. -/
theorem oR_disj (i j : Fin 32) (h : i ≠ j) : Disjoint (oR i).set (oR j).set := by
  rw [Finset.disjoint_left]
  intro y hi hj
  have h1 := (Rect.mem_set_unit.mp hi) 0
  have h2 := (Rect.mem_set_unit.mp hj) 0
  have e : S128x4096.size 0 = 128 := rfl
  simp only [Matrix.cons_val_zero, e] at h1 h2
  exact h (Fin.ext (by omega))
/-- The rows make up the result. -/
theorem oR_cov : (Finset.univ : Finset (Fin 32)).biUnion (fun i => (oR i).set) = Finset.univ := by
  ext y
  simp only [Finset.mem_biUnion, Finset.mem_univ, true_and, iff_true]
  have h0 : (y 0).val < 4096 := (y 0).isLt
  have h1 : (y 1).val < 4096 := (y 1).isLt
  refine ⟨⟨(y 0).val / 128, by omega⟩, Rect.mem_set_unit.mpr fun a => ?_⟩
  have e0 : S128x4096.size 0 = 128 := rfl
  have e1 : S128x4096.size 1 = 4096 := rfl
  fin_cases a
  · simp only [Fin.zero_eta, Matrix.cons_val_zero, e0]; omega
  · simp only [Fin.mk_one, Matrix.cons_val_one, Matrix.cons_val_fin_one, e1]; omega

/-- The two write-back slots share no element. -/
theorem ybR_disj (i j : Fin 2) (h : i ≠ j) : Disjoint (ybR i).set (ybR j).set := by
  rw [Finset.disjoint_left]
  intro y hi hj
  have h1 := (Rect.mem_set_unit.mp hi) 0
  have h2 := (Rect.mem_set_unit.mp hj) 0
  have e : S1x128x4096.size 0 = 1 := rfl
  simp only [Matrix.cons_val_zero, e] at h1 h2
  exact h (Fin.ext (by omega))
/-- The two slots make up the write-back buffer. -/
theorem ybR_cov : (Finset.univ : Finset (Fin 2)).biUnion (fun i => (ybR i).set) = Finset.univ := by
  ext y
  simp only [Finset.mem_biUnion, Finset.mem_univ, true_and, iff_true]
  have h0 : (y 0).val < 2 := (y 0).isLt
  have h1 : (y 1).val < 128 := (y 1).isLt
  have h2 : (y 2).val < 4096 := (y 2).isLt
  refine ⟨⟨(y 0).val, by omega⟩, Rect.mem_set_unit.mpr fun a => ?_⟩
  have e0 : S1x128x4096.size 0 = 1 := rfl
  have e1 : S1x128x4096.size 1 = 128 := rfl
  have e2 : S1x128x4096.size 2 = 4096 := rfl
  fin_cases a
  · simp only [Fin.zero_eta, Matrix.cons_val_zero, e0]; omega
  · simp only [Fin.mk_one, Matrix.cons_val_one, Matrix.cons_val_zero, e1]; omega
  · simp only [Fin.reduceFinMk, Matrix.cons_val, e2]; omega

/-- The travelling buffer in eight pieces: the halves of its four slots. -/
abbrev czP (p : Fin 4 × Fin 2) : Rect S4x256x4096 := czhR p.1 p.2
/-- Halves of the running sum's slots share no element. -/
theorem czP_disj (p p' : Fin 4 × Fin 2) (h : p ≠ p') : Disjoint (czP p).set (czP p').set := by
  rw [Finset.disjoint_left]
  intro y hi hj
  have h1 := (Rect.mem_set_unit.mp hi) 0
  have h2 := (Rect.mem_set_unit.mp hj) 0
  have h3 := (Rect.mem_set_unit.mp hi) 1
  have h4 := (Rect.mem_set_unit.mp hj) 1
  have e : S1x128x4096.size 0 = 1 := rfl
  have e' : S1x128x4096.size 1 = 128 := rfl
  simp only [Matrix.cons_val_zero, Matrix.cons_val_one, e, e'] at h1 h2 h3 h4
  exact h (Prod.ext (Fin.ext (by omega)) (Fin.ext (by omega)))
/-- The halves of the slots make up the running sum's buffer. -/
theorem czP_cov : (Finset.univ : Finset (Fin 4 × Fin 2)).biUnion (fun p => (czP p).set) = Finset.univ := by
  ext y
  simp only [Finset.mem_biUnion, Finset.mem_univ, true_and, iff_true]
  have h0 : (y 0).val < 4 := (y 0).isLt
  have h1 : (y 1).val < 256 := (y 1).isLt
  have h2 : (y 2).val < 4096 := (y 2).isLt
  refine ⟨(⟨(y 0).val, by omega⟩, ⟨(y 1).val / 128, by omega⟩), Rect.mem_set_unit.mpr fun a => ?_⟩
  have e0 : S1x128x4096.size 0 = 1 := rfl
  have e1 : S1x128x4096.size 1 = 128 := rfl
  have e2 : S1x128x4096.size 2 = 4096 := rfl
  fin_cases a
  · simp only [Fin.zero_eta, Matrix.cons_val_zero, e0]; omega
  · simp only [Fin.mk_one, Matrix.cons_val_one, Matrix.cons_val_zero, e1]; omega
  · simp only [Fin.reduceFinMk, Matrix.cons_val, e2]; omega

/-- Half `h` of a slot, inside the slot. -/
theorem hvInb (h : Fin 2) : ∀ a, ![0, 128 * h.val, 0] a + S1x128x4096.size a ≤ S1x256x4096.size a := by revert h; decide
abbrev hvR (h : Fin 2) : Rect S1x256x4096 := Rect.unit (s := S1x256x4096) ![0, 128 * h.val, 0] S1x128x4096.size (hvInb h)
/-- The two halves of a slot share no element. -/
theorem hvR_disj (i j : Fin 2) (h : i ≠ j) : Disjoint (hvR i).set (hvR j).set := by
  rw [Finset.disjoint_left]
  intro y hi hj
  have h1 := (Rect.mem_set_unit.mp hi) 1
  have h2 := (Rect.mem_set_unit.mp hj) 1
  have e : S1x128x4096.size 1 = 128 := rfl
  simp only [Matrix.cons_val_zero, Matrix.cons_val_one, e] at h1 h2
  exact h (Fin.ext (by omega))
/-- The two halves make up a slot. -/
theorem hvR_cov : (Finset.univ : Finset (Fin 2)).biUnion (fun i => (hvR i).set) = Finset.univ := by
  ext y
  simp only [Finset.mem_biUnion, Finset.mem_univ, true_and, iff_true]
  have h0 : (y 0).val < 1 := (y 0).isLt
  have h1 : (y 1).val < 256 := (y 1).isLt
  have h2 : (y 2).val < 4096 := (y 2).isLt
  refine ⟨⟨(y 1).val / 128, by omega⟩, Rect.mem_set_unit.mpr fun a => ?_⟩
  have e0 : S1x128x4096.size 0 = 1 := rfl
  have e1 : S1x128x4096.size 1 = 128 := rfl
  have e2 : S1x128x4096.size 2 = 4096 := rfl
  fin_cases a
  · simp only [Fin.zero_eta, Matrix.cons_val_zero, e0]; omega
  · simp only [Fin.mk_one, Matrix.cons_val_one, Matrix.cons_val_zero, e1]; omega
  · simp only [Fin.reduceFinMk, Matrix.cons_val, e2]; omega

end Cert.KernelIdeal.Steps

end
-- ==== Proof.Cells.lean ====
module

public import proofs.«01_k».proof.Proof.Own
public import proofs.«01_k».proof.Proof.Geom

/-! # The transfers between devices and their semaphores

Every remote copy of the kernel is one of thirty-four, the same on every device: two blocks and two half blocks of
the reduce-scatter, six chunks along z, eight across x, eight across y, and eight that came across one axis and go on
across the other. Each has a semaphore at the sender and one at the receiver; with the handshake's these are all the
semaphores that cross devices. -/

@[expose] public section

noncomputable section

namespace Cert.KernelIdeal.Steps

open Cert.KernelIdeal.Gen
open Idealize.ShloMosaic
open Idealize.ShloMosaic.TcCoe

/-- A remote copy. -/
inductive T where
  | rs (s : Fin 2)
  | rh (h : Fin 2)
  | ag (k : Fin 6)
  | px (k : Fin 8)
  | py (k : Fin 8)
  | fw (k : Fin 8)
  deriving DecidableEq

/-- The copies family by family. -/
def famE : (Fin 2 ⊕ Fin 2 ⊕ Fin 6 ⊕ Fin 8 ⊕ Fin 8 ⊕ Fin 8) ≃ T where
  toFun
    | .inl s => .rs s
    | .inr (.inl h) => .rh h
    | .inr (.inr (.inl k)) => .ag k
    | .inr (.inr (.inr (.inl k))) => .px k
    | .inr (.inr (.inr (.inr (.inl k)))) => .py k
    | .inr (.inr (.inr (.inr (.inr k)))) => .fw k
  invFun
    | .rs s => .inl s
    | .rh h => .inr (.inl h)
    | .ag k => .inr (.inr (.inl k))
    | .px k => .inr (.inr (.inr (.inl k)))
    | .py k => .inr (.inr (.inr (.inr (.inl k))))
    | .fw k => .inr (.inr (.inr (.inr (.inr k))))
  left_inv := by rintro (_ | _ | _ | _ | _ | _) <;> rfl
  right_inv := by rintro (_ | _ | _ | _ | _ | _) <;> rfl
instance : Fintype T := Fintype.ofEquiv _ famE

/-- The signal of the handshake that makes room for it: 0 from the next device along z (1, from the one before, makes
    room for none), 2 across x, 3 across y. -/
def duty : T → Fin 4
  | .rs _ => 0
  | .rh _ => 0
  | .ag _ => 0
  | .px _ => 2
  | .py _ => 3
  | .fw k => if k.val < 4 then 3 else 2

/-- The four neighbours, by the signal each gives. -/
def nb (c : Dev nD) : Fin 4 → Dev nD := ![nxt c, prv c, xn c, yn c]
/-- The device a copy goes to, -/
def peer (c : Dev nD) (t : T) : Dev nD := nb c (duty t)
/-- and the device that sends it one: -/
def nbI (c : Dev nD) : Fin 4 → Dev nD := ![prv c, nxt c, xn c, yn c]
/-- A neighbour of the neighbour that signals a device is the device itself. -/
theorem nb_nbI (c : Dev nD) (d : Fin 4) : nb (nbI c d) d = c := by revert c d; decide +kernel
/-- The device that a neighbour is signalled by, the other way round. -/
theorem nbI_nb (c : Dev nD) (d : Fin 4) : nbI (nb c d) d = c := by revert c d; decide +kernel
def nbE (d : Fin 4) : Dev nD ≃ Dev nD := ⟨fun c => nb c d, fun c => nbI c d, fun c => nbI_nb c d, fun c => nb_nbI c d⟩

/-- When it sets off, in the program's order. -/
def pos : T → ℕ
  | .rs s => s.val
  | .rh h => 2 + h.val
  | .ag k => 4 + 3 * k.val
  | .px k => if k.val < 6 then 5 + 3 * k.val else 22 + 2 * (k.val - 6)
  | .py k => if k.val < 6 then 6 + 3 * k.val else 23 + 2 * (k.val - 6)
  | .fw k => 26 + k.val
/-- Two copies never set off at the same place in the program's order. -/
theorem pos_inj : ∀ t t' : T, pos t = pos t' → t = t' := by decide +kernel
/-- A device starts 34 remote copies in all. -/
theorem pos_lt : ∀ t : T, pos t < 34 := by decide +kernel

/-- The semaphore at the sender and at the receiver. -/
def sS : T → DmaSem sig
  | .rs s => sem2 cc0_scratch8 s
  | .rh h => sem2 cc0_scratch10 h
  | .ag k => sem6 cc0_scratch12 k
  | .px k => sem8 cc0_scratch14 k
  | .py k => sem8 cc0_scratch15 k
  | .fw k => if h : k.val < 4 then sem4 cc0_scratch19 ⟨k.val, h⟩ else sem4 cc0_scratch18 ⟨k.val - 4, by omega⟩
def sR : T → DmaSem sig
  | .rs s => sem2 cc0_scratch9 s
  | .rh h => sem2 cc0_scratch11 h
  | .ag k => sem6 cc0_scratch13 k
  | .px k => sem8 cc0_scratch16 k
  | .py k => sem8 cc0_scratch17 k
  | .fw k => sem8 cc0_scratch20 k

/-- A device's semaphores that cross devices: the handshake's, and two per copy (`true`: the receiver's). -/
abbrev Cx : Type := Option (T × Bool)
def csem : Cx → SemLoc sig
  | none => .reg bar
  | some (t, false) => .dma (sS t)
  | some (t, true) => .dma (sR t)
/-- Different semaphores of the protocol have different places. -/
theorem csem_inj : Function.Injective csem := by
  have h : ∀ x y : Cx, csem x = csem y → x = y := by decide +kernel
  exact fun x y => h x y

/-- Which of them a semaphore is. -/
def decode (s : SemLoc sig) : Option Cx := by
  classical exact if h : ∃ x, csem x = s then some h.choose else none
/-- A semaphore's place tells which one it is. -/
theorem decode_csem (x : Cx) : decode (csem x) = some x := by
  have h : ∃ y, csem y = csem x := ⟨x, rfl⟩
  unfold decode
  rw [dif_pos h, csem_inj h.choose_spec]

/-- The same with the device. -/
def kcell (p : Dev nD × Cx) : GSem nD τ sig := ((p.1 : Thread nD τ), csem p.2)
/-- Different semaphores on different devices are different cells. -/
theorem kcell_inj : Function.Injective kcell := by
  rintro ⟨c, x⟩ ⟨c', x'⟩ h
  have h1 : c = c' := congrArg (fun g : GSem nD τ sig => g.1.1) h
  have h2 : csem x = csem x' := congrArg Prod.snd h
  rw [h1, csem_inj h2]

/-- A device's semaphores for its own copies: the block loads, the residual's, and the two write-back slots'. -/
def lsem : Fin 4 → DmaSem sig := ![cc0_scratch21.sem, cc0_scratch22.sem, sem2 cc0_scratch23 0, sem2 cc0_scratch23 1]
/-- The four semaphores of the local copies are different. -/
theorem lsem_inj : ∀ i j, lsem i = lsem j → i = j := by decide +kernel
/-- No semaphore of a local copy is one of the protocol's. -/
theorem lsem_ne (i : Fin 4) (x : Cx) : csem x ≠ .dma (lsem i) := by revert i x; decide +kernel

/-- How many units a copy is. -/
def amt : T → ℕ
  | .rs s => (czS (up2' s)).view.dmaCredit
  | .rh h => (czH 3 h).view.dmaCredit
  | .ag _ => (ck colM 0).view.dmaCredit
  | .px _ => (ck gxM 0).view.dmaCredit
  | .py _ => (ck gyM 0).view.dmaCredit
  | .fw _ => (ck gdM 0).view.dmaCredit
/-- Every copy is of at least one unit. -/
theorem amt_pos (t : T) : 0 < amt t := by
  cases t <;> exact View.dmaCredit_pos _ (by decide)

/-- A chunk of the column is as many units as a copy along z credits. -/
theorem amt_ag (k : Fin 6) (i : Fin 8) : (ck colM i).view.dmaCredit = amt (.ag k) := rfl
/-- A chunk of the x neighbour's column is as many units as a copy along x credits. -/
theorem amt_px (k i : Fin 8) : (ck gxM i).view.dmaCredit = amt (.px k) := rfl
/-- A chunk of the y neighbour's column is as many units as a copy along y credits. -/
theorem amt_py (k i : Fin 8) : (ck gyM i).view.dmaCredit = amt (.py k) := rfl
/-- A chunk of the diagonal device's column is as many units as a copy passed on credits. -/
theorem amt_fw (k i : Fin 8) : (ck gdM i).view.dmaCredit = amt (.fw k) := rfl
/-- The source of a copy along x is as many units as the copy. -/
theorem amt_pxS (k i : Fin 8) : (ck colM i).view.dmaCredit = amt (.px k) := rfl
/-- The source of a copy along y is as many units as the copy. -/
theorem amt_pyS (k i : Fin 8) : (ck colM i).view.dmaCredit = amt (.py k) := rfl
/-- A chunk passed on from the x neighbour is as many units as the copy. -/
theorem amt_fwX (k i : Fin 8) : (ck gxM i).view.dmaCredit = amt (.fw k) := rfl
/-- A chunk passed on from the y neighbour is as many units as the copy. -/
theorem amt_fwY (k i : Fin 8) : (ck gyM i).view.dmaCredit = amt (.fw k) := rfl
/-- A slot of the running sum is as many units as the copy that fills it. -/
theorem amt_rsS (s : Fin 2) : (czS (up2 s)).view.dmaCredit = amt (.rs s) := rfl
/-- Half a slot of the running sum is as many units as the copy that fills it. -/
theorem amt_rhS (h : Fin 2) : (czH 2 h).view.dmaCredit = amt (.rh h) := rfl

end Cert.KernelIdeal.Steps

end
-- ==== Proof.Vals.lean ====
module

public import proofs.«01_k».proof.Proof.Own
public import proofs.«01_k».proof.Proof.Geom

/-! # What each buffer holds

As functions of the memory at launch: the blocks of the partial sums a device reads, the running sum it passes on
along z, the block it normalises, and so each chunk of its column and of its neighbours' columns. -/

@[expose] public section

noncomputable section

namespace Cert.KernelIdeal.Steps

open Cert.KernelIdeal.Gen
open Idealize.ShloMosaic
open Idealize.ShloMosaic.TcCoe

variable {F : FTy → Type} [FloatOps F]
variable (m : (ℓ : Loc nD τ sig) → Buf (Elt F) ℓ)

/-- Device `c`'s partial sums, the residual and the weights it is given. -/
def xin (c : Dev nD) : S1x4096x4096.Idx → Elt F .f32 := m ((c : Thread nD τ).loc main_arg0)
def rin (c : Dev nD) : S4096x4096.Idx → Elt F .f32 := m ((c : Thread nD τ).loc main_arg1)
def gin (c : Dev nD) : S4096.Idx → Elt F .f32 := m ((c : Thread nD τ).loc main_arg2)

/-- The 256 rows of the partial sums at an offset. -/
def xsl (o : Fin 3 → ℕ) (h : ∀ a, o a + S1x256x4096.size a ≤ S1x4096x4096.size a) : Memref sig .tc .hbm S256x4096 .f32 :=
  (xM.slice (Rect.unit (s := S1x4096x4096) o S1x256x4096.size h) (fun _ => rfl)).squeeze S256x4096 squeezes_S1x256x4096_S256x4096
def xblk (c : Dev nD) (o : Fin 3 → ℕ) (h : ∀ a, o a + S1x256x4096.size a ≤ S1x4096x4096.size a) : FVec F S256x4096 .f32 :=
  (xsl o h).view.read (Elt F) (xin m c)

/-- The residual's rows of the block a device normalises. -/
def rsl (c : Dev nD) : Memref sig .tc .hbm S256x4096 .f32 :=
  rM.slice (Rect.unit (s := S4096x4096) (k0_off2 c) S256x4096.size (k0_off2_inb c)) (fun _ => rfl)
def rblk (c : Dev nD) : FVec F S256x4096 .f32 := (rsl c).view.read (Elt F) (rin m c)

/-- The running sum device `c` holds after `s` steps along z. -/
def ps : ℕ → Dev nD → FVec F S1x256x4096 .bf16
  | 0, c => k0_pay1 (xblk m c (k0_off1 c) (k0_off1_inb c))
  | s + 1, c => k0_pay2 (ps s (prv c)) (xblk m c (k0_off3 c (BitVec.ofNat 32 (Fin.ofNat 2 s).val)) (k0_off3_inb c (Fin.ofNat 2 s)))

/-- Half `h` of the sum of three. -/
def ph (c : Dev nD) (h : Fin 2) : FVec F S1x128x4096 .bf16 := fun i => ps m 2 c ((hvR h).emb i)

/-- The own block's last summand and its residual, half `h`, and the weights. -/
def lb (c : Dev nD) (h : Fin 2) : FVec F S128x4096 .f32 := fun i => xblk m c (k0_off4 c) (k0_off4_inb c) ((lhR h).emb i)
def rb (c : Dev nD) (h : Fin 2) : FVec F S128x4096 .f32 := fun i => rblk m c ((lhR h).emb i)
def gv (c : Dev nD) : FVec F S4096 .f32 := fun i => gin m c ((Rect.unit (s := S4096) ![0] S4096.size inb_S4096_S4096_0).emb i)

/-- The normalised rows of half `h` of device `c`'s own block, and rounded. -/
def oF (c : Dev nD) (h : Fin 2) : FVec F S128x4096 .f32 := k0_pay8 (ph m (prv c) h) (lb m c h) (rb m c h) (gv m c)
def oB (c : Dev nD) (h : Fin 2) : FVec F S128x4096 .bf16 := k0_pay9 (ph m (prv c) h) (lb m c h) (rb m c h) (gv m c)

/-- `s` devices back along z. -/
def back : ℕ → Dev nD → Dev nD
  | 0, c => c
  | s + 1, c => back s (prv c)

/-- Chunk `k` of device `c`'s column. -/
def colv (c : Dev nD) (k : Fin 8) : FVec F S128x4096 .bf16 := oB m (back (k.val / 2) c) (hOf k)

/-- A chunk that is not the device's own is the one of the device before, two chunks earlier. -/
theorem colv_two (c : Dev nD) (k : Fin 6) : colv m c ⟨k.val + 2, by omega⟩ = colv m (prv c) ⟨k.val, by omega⟩ := by
  unfold colv
  have h1 : (⟨k.val + 2, by omega⟩ : Fin 8).val / 2 = k.val / 2 + 1 := by show (k.val + 2) / 2 = _; omega
  have h2 : hOf ⟨k.val + 2, by omega⟩ = hOf ⟨k.val, by omega⟩ := Fin.ext (by show (k.val + 2) % 2 = k.val % 2; omega)
  rw [h1, h2]; rfl

/-- What write-back `n` writes. -/
def outv (c : Dev nD) (n : Fin 32) : FVec F S1x128x4096 .f32 :=
  if n.val < 2 then k0_pay10 (oF m c (Fin.ofNat 2 n.val)) else k0_pay11 (colv m (srcN c n) (kN n))

/-- The result's 128 rows as they lie in the array. -/
def outr (c : Dev nD) (n : Fin 32) : FVec F S128x4096 .f32 := sqz squeezes_S1x128x4096_S128x4096 (outv m c n)

/-- There is a result with the given rows. -/
theorem exists_out (c : Dev nD) : ∃ X : S4096x4096.Idx → Elt F .f32, ∀ (i : Fin 32) (j : S128x4096.Idx), X ((oR i).emb j) = outr m c (unpo c i) j := by
  classical
  refine ⟨fun y => if h : ∃ p : Fin 32 × S128x4096.Idx, (oR p.1).emb p.2 = y then outr m c (unpo c h.choose.1) h.choose.2
    else outr m c 0 (fun a => ⟨0, by revert a; decide⟩), ?_⟩
  intro i j
  have h : ∃ p : Fin 32 × S128x4096.Idx, (oR p.1).emb p.2 = (oR i).emb j := ⟨⟨i, j⟩, rfl⟩
  simp only
  rw [dif_pos h]
  have hs := h.choose_spec
  generalize h.choose = p at hs
  obtain ⟨i', j'⟩ := p
  simp only at hs ⊢
  have hi : i' = i := by
    by_contra hne
    have hd := Finset.disjoint_left.mp (oR_disj i' i hne)
    refine hd (a := (oR i).emb j) ?_ ?_
    · rw [← hs, ← Rect.map_emb_univ]; exact Finset.mem_map_of_mem _ (Finset.mem_univ _)
    · rw [← Rect.map_emb_univ]; exact Finset.mem_map_of_mem _ (Finset.mem_univ _)
  subst hi
  rw [(oR i').emb.injective hs]

/-- The result device `c` ends with. -/
def outAll (c : Dev nD) : S4096x4096.Idx → Elt F .f32 := (exists_out m c).choose
/-- The rows of the result. -/
theorem outAll_at (c : Dev nD) (n : Fin 32) (j : S128x4096.Idx) : outAll m c ((oR (po c n)).emb j) = outr m c n j := by
  have h := (exists_out m c).choose_spec (po c n) j
  rw [unpo_po] at h; exact h

end Cert.KernelIdeal.Steps

end
-- ==== Proof.Sched.lean ====
module

public import proofs.«01_k».proof.Proof.Cells
public import proofs.«01_k».proof.Proof.Vals

/-! # The protocol

One round. A device's handshake semaphore is signalled by each of its four neighbours; a signal hands over the places
on that neighbour the device will write to. A copy's semaphore at the sender hands the source back; at the receiver,
the place written, at its contents. What a device owes is the copies it has yet to send, ordered by when it sends
them. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Shares of a chunk that is sent three ways and read -/

abbrev shZ : PosShare TreeShare := (fullShare : PosShare TreeShare).left.left
abbrev shX : PosShare TreeShare := (fullShare : PosShare TreeShare).left.right
abbrev shY : PosShare TreeShare := (fullShare : PosShare TreeShare).right.left
abbrev shL : PosShare TreeShare := (fullShare : PosShare TreeShare).right.right
abbrev shF : PosShare TreeShare := (fullShare : PosShare TreeShare).left
abbrev shG : PosShare TreeShare := (fullShare : PosShare TreeShare).right

/-! ## What the semaphores hand over -/

/-- The place on device `c` that copy `t` writes, at any contents, -/
def recvAny (c : Dev nD) : T → sProp 𝕄
  | .rs s => anyAt c (czS (up2' s))
  | .rh h => anyAt c (czH 3 h)
  | .ag k => anyAt c (ck colM (pl c ⟨k.val + 2, by omega⟩))
  | .px k => anyAt c (ck gxM (pl c k))
  | .py k => anyAt c (ck gyM (pl c k))
  | .fw k => anyAt c (ck gdM (pl c k))

/-- written, -/
def recvP (c : Dev nD) : T → sProp 𝕄
  | .rs s => hold c (czS (up2' s)) fullShare (sqz squeezes_S1x256x4096_S256x4096 (ps m s.val (prv c)))
  | .rh h => hold c (czH 3 h) fullShare (sqz squeezes_S1x128x4096_S128x4096 (ph m (prv c) h))
  | .ag k => hold c (ck colM (pl c ⟨k.val + 2, by omega⟩)) fullShare (colv m c ⟨k.val + 2, by omega⟩)
  | .px k => hold c (ck gxM (pl c k)) fullShare (colv m (xn c) k)
  | .py k => hold c (ck gyM (pl c k)) fullShare (colv m (yn c) k)
  | .fw k => hold c (ck gdM (pl c k)) fullShare (colv m (xn (yn c)) k)

/-- and the source of copy `t` on the device `c` that sends it. -/
def sendP (c : Dev nD) : T → sProp 𝕄
  | .rs s => hold c (czS (up2 s)) fullShare (sqz squeezes_S1x256x4096_S256x4096 (ps m s.val c))
  | .rh h => hold c (czH 2 h) fullShare (sqz squeezes_S1x128x4096_S128x4096 (ph m c h))
  | .ag k => hold c (ck colM (pl c ⟨k.val, by omega⟩)) shZ (colv m c ⟨k.val, by omega⟩)
  | .px k => hold c (ck colM (pl c k)) shX (colv m c k)
  | .py k => hold c (ck colM (pl c k)) shY (colv m c k)
  | .fw k => if k.val < 4 then hold c (ck gxM (pl c k)) shF (colv m (xn c) k) else hold c (ck gyM (pl c k)) shF (colv m (yn c) k)

instance recvAny_storable (c : Dev nD) (t : T) : BI.Storable (upEmb : UEmb _ 𝕄) (recvAny (F := F) c t) := by
  cases t <;> (unfold recvAny; infer_instance)
instance recvP_storable (c : Dev nD) (t : T) : BI.Storable (upEmb : UEmb _ 𝕄) (recvP m c t) := by
  cases t <;> (unfold recvP; infer_instance)
instance sendP_storable (c : Dev nD) (t : T) : BI.Storable (upEmb : UEmb _ 𝕄) (sendP m c t) := by
  cases t <;> (unfold sendP; (repeat' split) <;> infer_instance)

/-- What the signal `d` hands device `c`: the places on the neighbour giving it. -/
def barP (c : Dev nD) (d : Fin 4) : sProp 𝕄 :=
  bigSep Finset.univ fun t : T => if duty t = d then recvAny (F := F) (nb c d) t else iprop(emp)

instance barP_storable (c : Dev nD) (d : Fin 4) : BI.Storable (upEmb : UEmb _ 𝕄) (barP (F := F) c d) := by
  unfold barP
  have h : ∀ t : T, BI.Storable (upEmb : UEmb _ 𝕄) (if duty t = d then recvAny (F := F) (nb c d) t else iprop(emp)) := by
    intro t; split <;> infer_instance
  infer_instance

/-- Things dealt into classes. -/
theorem deal {I J : Type} [Fintype I] [Fintype J] [DecidableEq J] (f : I → J) (Φ : I → sProp 𝕄) :
    bigSep Finset.univ Φ = bigSep Finset.univ fun j => bigSep Finset.univ fun i => if f i = j then Φ i else iprop(emp) := by
  rw [BI.bigSep_univ_comm]
  refine BI.bigSep_congr fun i _ => ?_
  have e := BI.bigSep_filter Finset.univ (fun j => f i = j) (fun _ => Φ i)
  have h : Finset.univ.filter (fun j => f i = j) = {f i} := by ext j; simp [eq_comm]
  rw [h, bigSep_singleton] at e
  exact e

/-! ## The schedule -/

def cxDuties : Cx → Finset (Fin 4)
  | none => Finset.univ
  | some _ => {0}
def cxAmount : Cx → ℕ
  | none => 1
  | some (t, _) => amt t
def cxPayload (c : Dev nD) (d : Fin 4) : Cx → sProp 𝕄
  | none => barP c d
  | some (t, false) => sendP m c t
  | some (t, true) => recvP m c t
instance cxPayload_storable (c : Dev nD) (d : Fin 4) (x : Cx) : BI.Storable (upEmb : UEmb _ 𝕄) (cxPayload m c d x) := by
  rcases x with _ | ⟨t, _ | _⟩ <;> (unfold cxPayload; infer_instance)

def Rd : Rounds.Schedule (GSem nD τ sig) (Fin 4) 𝕄 where
  duties g r := if r = 0 ∧ g.1.2 = .tc then (match decode g.2 with | some x => cxDuties x | none => ∅) else ∅
  unitless _ := False
  amount g _ _ := match decode g.2 with | some x => cxAmount x | none => 1
  payload g _ d := match decode g.2 with | some x => cxPayload m g.1.1 d x | none => iprop(emp)
  amount_pos g _ _ _ := by
    split
    · rename_i x _
      rcases x with _ | ⟨t, b⟩
      · exact Nat.one_pos
      · exact amt_pos t
    · exact Nat.one_pos

instance Rd_payload_storable (g : GSem nD τ sig) (r : ℕ) (d : Fin 4) : BI.Storable (upEmb : UEmb _ 𝕄) ((Rd m).payload g r d) := by
  show BI.Storable upEmb (match decode g.2 with | some x => cxPayload m g.1.1 d x | none => iprop(emp))
  split <;> infer_instance

/-- The duties of a semaphore's first round. -/
theorem Rd_duties (p : Dev nD × Cx) : (Rd m).duties (kcell p) 0 = cxDuties p.2 := by
  dsimp only [Rd]
  rw [if_pos ⟨rfl, rfl⟩]
  show (match decode (csem p.2) with | some x => cxDuties x | none => ∅) = _
  rw [decode_csem]
/-- The amount of each duty. -/
theorem Rd_amount (p : Dev nD × Cx) (d : Fin 4) : (Rd m).amount (kcell p) 0 d = cxAmount p.2 := by
  show (match decode (csem p.2) with | some x => cxAmount x | none => 1) = _
  rw [decode_csem]
/-- The payload of each duty. -/
theorem Rd_payload (p : Dev nD × Cx) (d : Fin 4) : (Rd m).payload (kcell p) 0 d = cxPayload m p.1 d p.2 := by
  show (match decode (csem p.2) with | some x => cxPayload m p.1 d x | none => iprop(emp)) = _
  rw [decode_csem]
/-- There is one round. -/
theorem Rd_later (g : GSem nD τ sig) (r : ℕ) (hr : 1 ≤ r) : (Rd m).duties g r = ∅ := by
  dsimp only [Rd]; rw [if_neg fun h => by omega]
/-- The barrier expects four signals. -/
theorem Rd_expect_bar (c : Dev nD) : (Rd m).expect (kcell (c, none)) 0 = 4 := by
  unfold Schedule.expect Schedule.amountOf
  rw [Rd_duties, Finset.sum_congr rfl fun d _ => Rd_amount m (c, none) d]
  rfl
/-- Each end of a copy expects the copy's units. -/
theorem Rd_expect (c : Dev nD) (t : T) (b : Bool) : (Rd m).expect (kcell (c, some (t, b))) 0 = amt t := by
  unfold Schedule.expect Schedule.amountOf
  rw [Rd_duties, Finset.sum_congr rfl fun d _ => Rd_amount m (c, some (t, b)) d]
  show Finset.sum {0} _ = _
  rw [Finset.sum_singleton]; rfl
/-- The payload of all duties of an end of a copy. -/
theorem Rd_rest (c : Dev nD) (t : T) (b : Bool) :
    bigSep ((Rd m).duties (kcell (c, some (t, b))) 0 \ ∅) (fun d => (Rd m).payload (kcell (c, some (t, b))) 0 d) = cxPayload m c 0 (some (t, b)) := by
  rw [Finset.sdiff_empty, Rd_duties]
  show bigSep {0} _ = _
  rw [bigSep_singleton, Rd_payload]

/-- The four signals together make room for every copy. -/
theorem Rd_rest_bar (c : Dev nD) :
    bigSep ((Rd m).duties (kcell (c, none)) 0 \ ∅) (fun d => (Rd m).payload (kcell (c, none)) 0 d)
      = bigSep Finset.univ fun t : T => recvAny (F := F) (peer c t) t := by
  rw [Finset.sdiff_empty, Rd_duties, BI.bigSep_congr (fun d _ => Rd_payload m (c, none) d), deal duty]
  show bigSep Finset.univ _ = _
  refine BI.bigSep_congr fun d _ => ?_
  show barP c d = _
  unfold barP
  refine BI.bigSep_congr fun t _ => ?_
  split
  · rename_i h; subst h; rfl
  · rfl

/-- The places a device gives its neighbours, by signal. -/
theorem room_split (c : Dev nD) :
    (bigSep Finset.univ fun t : T => (recvAny (F := F) c t : sProp 𝕄)) = bigSep Finset.univ fun d : Fin 4 => barP (nbI c d) d := by
  rw [deal duty]
  refine BI.bigSep_congr fun d _ => ?_
  unfold barP
  rw [nb_nbI]

/-! ## What a device owes, and the levels -/

/-- The copies a device has yet to send once `n` are sent. -/
def Owe (c : Dev nD) (n : ℕ) : CellTallies nD τ sig Unit :=
  ∑ t ∈ Finset.univ.filter (fun t : T => n ≤ pos t), tallyAt (kcell (peer c t, some (t, true))) () (amt t)

/-- Starting a copy pays for it. -/
theorem Owe_step (c : Dev nD) (t : T) : Owe c (pos t) = Owe c (pos t + 1) + tallyAt (kcell (peer c t, some (t, true))) () (amt t) := by
  unfold Owe
  have h : Finset.univ.filter (fun t' : T => pos t ≤ pos t') = insert t (Finset.univ.filter (fun t' : T => pos t + 1 ≤ pos t')) := by
    ext t'
    simp only [Finset.mem_filter, Finset.mem_univ, true_and, Finset.mem_insert]
    constructor
    · intro h
      by_cases h' : pos t = pos t'
      · exact Or.inl (pos_inj _ _ h').symm
      · exact Or.inr (by omega)
    · rintro (rfl | h)
      · exact le_refl _
      · omega
  rw [h, Finset.sum_insert (by simp), add_comm]

/-- After 34 copies nothing is owed. -/
theorem Owe_end (c : Dev nD) : Owe c 34 = 0 := by
  unfold Owe
  rw [Finset.filter_false_of_mem fun t _ => by have := pos_lt t; omega, Finset.sum_empty]

/-- With the handshake's four signals. -/
def O₀ (c : Dev nD) : CellTallies nD τ sig Unit :=
  (((Owe c 0 + tallyAt (kcell (yn c, none)) () 1) + tallyAt (kcell (xn c, none)) () 1) + tallyAt (kcell (nxt c, none)) () 1)
    + tallyAt (kcell (prv c, none)) () 1

def L (g : GSem nD τ sig) : Finset Unit := if g.1.2 = .tc then {()} else ∅
def lvS (s : SemLoc sig) : ℕ := match decode s with
  | some none => 1
  | some (some (t, true)) => pos t + 2
  | _ => 0
def lv (g : GSem nD τ sig) (_ : Unit) : ℕ := lvS g.2
/-- There are no levels but on the tensor core. -/
theorem L_of_ne (g : GSem nD τ sig) (h : g.1.2 ≠ .tc) : L g = ∅ := if_neg h
/-- Every semaphore of the tensor core has one level. -/
theorem L_tc (c : Dev nD) (sm : SemLoc sig) : L ((c : Thread nD τ), sm) = {()} := if_pos rfl

/-- The barrier's level. -/
theorem lvS_bar : lvS (csem none) = 1 := by unfold lvS; rw [decode_csem]
/-- The level of a copy's arrival is its place in the program's order. -/
theorem lvS_recv (t : T) : lvS (csem (some (t, true))) = pos t + 2 := by unfold lvS; rw [decode_csem]
/-- The level of a copy's send is the lowest. -/
theorem lvS_send (t : T) : lvS (csem (some (t, false))) = 0 := by unfold lvS; rw [decode_csem]
/-- Every other semaphore has the lowest level. -/
theorem lvS_other (s : SemLoc sig) (h : ∀ x, csem x ≠ s) : lvS s = 0 := by
  unfold lvS decode
  rw [dif_neg (fun ⟨x, hx⟩ => h x hx)]

/-- One tally is positive at its own cell alone. -/
theorem tally_pos {g g' : GSem nD τ sig} {k : ℕ} {u : Unit} (h : 0 < (tallyAt g () k : CellTallies nD τ sig Unit) g' u) : g' = g := by
  rw [tallyAt_apply] at h
  by_contra hn
  rw [if_neg fun h' => hn h'.1] at h
  exact Nat.lt_irrefl 0 h
/-- Where a sum of tallies is positive, one of the two is. -/
theorem tallies_pos {A B : CellTallies nD τ sig Unit} {g : GSem nD τ sig} {u : Unit} (h : 0 < (A + B) g u) : 0 < A g u ∨ 0 < B g u := by
  rw [Pi.add_apply, Finsupp.add_apply] at h; omega
/-- What is still owed is to copies that have yet to set off. -/
theorem Owe_pos {c : Dev nD} {n : ℕ} {g : GSem nD τ sig} {u : Unit} (h : 0 < Owe c n g u) : ∃ t, n ≤ pos t ∧ g = kcell (peer c t, some (t, true)) := by
  by_contra hn
  push Not at hn
  unfold Owe at h
  rw [Finset.sum_apply, Finsupp.finset_sum_apply] at h
  refine absurd h (not_lt.mpr (le_of_eq (Finset.sum_eq_zero fun t ht => ?_)))
  rw [tallyAt_apply, if_neg fun h' => hn t (Finset.mem_filter.mp ht).2 h'.1]

omit [FloatOps F] in
/-- A wait below every copy still owed. -/
theorem mayWait_owe (c : Dev nD) (sm : SemLoc sig) (n : ℕ) (h : lvS sm < n + 2) :
    (levAts L lv : sProp 𝕄) ⊢ MayWait (c : Thread nD τ) sm () (Owe c n) :=
  MayOwe.of_cut (L := L) (lev := lv) (n + 1) (fun p hp => by rw [Finset.mem_singleton.mp hp, L_tc]; exact Finset.mem_singleton_self _)
    (fun g u hg => by obtain ⟨t, -, rfl⟩ := Owe_pos hg; exact Finset.mem_singleton_self _)
    (fun p hp => by rw [Finset.mem_singleton.mp hp]; show lvS sm ≤ _; omega)
    (fun g u hg => by
      obtain ⟨t, ht, rfl⟩ := Owe_pos hg
      show n + 1 < lvS (csem (some (t, true)))
      rw [lvS_recv]; omega)

/-- What is owed at launch is to semaphores above the lowest level. -/
theorem O₀_pos {c : Dev nD} {g : GSem nD τ sig} {u : Unit} (h : 0 < O₀ c g u) : ∃ d x, g = kcell (d, x) ∧ 0 < lvS (csem x) := by
  unfold O₀ at h
  rcases tallies_pos h with h | h
  · rcases tallies_pos h with h | h
    · rcases tallies_pos h with h | h
      · rcases tallies_pos h with h | h
        · obtain ⟨t, -, rfl⟩ := Owe_pos h; exact ⟨_, _, rfl, by rw [lvS_recv]; omega⟩
        · exact ⟨_, _, tally_pos h, by rw [lvS_bar]; omega⟩
      · exact ⟨_, _, tally_pos h, by rw [lvS_bar]; omega⟩
    · exact ⟨_, _, tally_pos h, by rw [lvS_bar]; omega⟩
  · exact ⟨_, _, tally_pos h, by rw [lvS_bar]; omega⟩

omit [FloatOps F] in
/-- The staging copy's wait, before the handshake and at the end. -/
theorem mayWait_stage (c : Dev nD) (sm : SemLoc sig) (hs : ∀ x, csem x ≠ sm) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by obtain ⟨d, x, rfl, -⟩ := O₀_pos hg; exact Finset.mem_singleton_self _)
      (fun p hp => by rw [Finset.mem_singleton.mp hp]; show lvS sm ≤ 0; rw [lvS_other sm hs])
      (fun g u hg => by obtain ⟨d, x, rfl, h⟩ := O₀_pos hg; exact h)
  · rw [MayWait_zero]; iintro -; iempintro

end Cert.KernelIdeal.Steps

end
-- ==== Proof.Rules.lean ====
module

public import proofs.«01_k».proof.Proof.Sched

/-! # The steps' rules

What a send, the two waits of a copy and a sequence of programs do, in the terms of the protocol. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Sequences -/

/-- A rule for a step, used in front of the rest of the program. -/
theorem seqW (c : Dev nD) {A B : sProp 𝕄} {α : Type} {p : P F PUnit} {q : PUnit → P F α} {Q : α → sProp 𝕄} (h : A ⊢ Wp c p (fun _ => B)) :
    A ⊢ iprop((B -∗ Wp c (q ⟨⟩) Q) -∗ Wp c (p >>= q) Q) := by
  iintro HA Hk
  rw [show Wp c (p >>= q) Q = Wp c p (fun a => Wp c (q a) Q) from wp_bind _ _ _ p q Q]
  iapply (wp_wand_r (Fr := frame) (wpE := wpE (defs₀ (F := F)) 𝒱₀ (c : Thread nD τ) none) (E := Set.univ) (p := p) (Q := fun _ => B))
  isplitl [HA]
  · iapply h; iexact HA
  · iintro %a HB
    iapply Hk; iexact HB

/-- A program that ends there. -/
theorem doneW (c : Dev nD) {α : Type} {a : α} {Q : α → sProp 𝕄} : (Q a : sProp 𝕄) ⊢ Wp c (.ret a) Q := by
  iintro H
  rw [show Wp c (.ret a) Q = iprop(|={Set.univ}=> Q a) from wp_ret _ _ _ a Q]
  imodintro; iexact H

/-! ## The persistent part -/

variable (K : Dev nD × Cx → ℕ)

/-- One factor of a product. -/
theorem all_at {I : Type} [Fintype I] [DecidableEq I] (Φ : I → sProp 𝕄) (i : I) : bigSep Finset.univ Φ ⊢ Φ i := BI.bigSep_elim (Finset.mem_univ i)

/-- Every cell's invariant, that its round is open, and the levels. -/
def Ctx : sProp 𝕄 :=
  iprop((bigSep Finset.univ fun p : Dev nD × Cx => cellInv ER (Rd m) (K p) (kcell p))
    ∗ (bigSep Finset.univ fun p : Dev nD × Cx => reached ER (kcell p) 0) ∗ levAts L lv)
instance Ctx_persistent : BI.Persistent (Ctx m K) := by unfold Ctx; infer_instance
/-- The context has every semaphore's invariant. -/
theorem ctx_inv (p : Dev nD × Cx) : Ctx m K ⊢ cellInv ER (Rd m) (K p) (kcell p) := by
  unfold Ctx
  iintro ⟨H, -⟩
  iapply (all_at (fun p : Dev nD × Cx => (cellInv ER (Rd m) (K p) (kcell p) : sProp 𝕄)) p); iexact H
/-- The context has every semaphore's round open. -/
theorem ctx_reached (p : Dev nD × Cx) : Ctx m K ⊢ reached ER (kcell p) 0 := by
  unfold Ctx
  iintro ⟨-, H, -⟩
  iapply (all_at (fun p : Dev nD × Cx => (reached ER (kcell p) 0 : sProp 𝕄)) p); iexact H
/-- The context has the levels. -/
theorem ctx_lev : (Ctx m K : sProp 𝕄) ⊢ (levAts L lv : sProp 𝕄) := by
  unfold Ctx
  iintro ⟨-, -, H⟩
  iexact H

/-- A wait is allowed below everything that is still owed. -/
theorem ctx_may (c : Dev nD) (sm : SemLoc sig) (n : ℕ) (h : lvS sm < n + 2) : (Ctx m K : sProp 𝕄) ⊢ MayWait (c : Thread nD τ) sm () (Owe c n) := by
  unfold Ctx
  iintro ⟨-, -, H⟩
  iapply (mayWait_owe (F := F) c sm n h); iexact H

/-! ## The states of a copy -/

/-- Device `c` has sent the first `n` copies. -/
def Run (c : Dev nD) (n : ℕ) : sProp 𝕄 := iprop(∃ W, owes (c : Thread nD τ) (Owe c n) W)

/-- The right to send copy `t`; -/
def Ready₀ (c : Dev nD) (t : T) : sProp 𝕄 :=
  iprop(dutyTok ER (kcell (c, some (t, false))) 0 0 ∗ dutyTok ER (kcell (peer c t, some (t, true))) 0 0 ∗ atPos ER (kcell (c, some (t, false))) 0 ∅ 0)
/-- with the room made for it; -/
def Ready (c : Dev nD) (t : T) : sProp 𝕄 := iprop(Ready₀ c t ∗ recvAny (F := F) (peer c t) t)
/-- it is on its way, to be waited for; -/
def Sent (c : Dev nD) (t : T) : sProp 𝕄 :=
  iprop(cred (tallyAt (kcell (c, some (t, false))) () (amt t)) ∗ atPos ER (kcell (c, some (t, false))) 0 ∅ 0)
/-- one is to arrive; -/
def Await (c : Dev nD) (t : T) : sProp 𝕄 :=
  iprop(cred (tallyAt (kcell (c, some (t, true))) () (amt t)) ∗ atPos ER (kcell (c, some (t, true))) 0 ∅ 0)
/-- the wait is over. -/
def Over (c : Dev nD) (x : Cx) : sProp 𝕄 := atPos ER (kcell (c, x)) (0 + 1) ∅ 0

/-! ## A send -/

/-- Each end of a copy has its one duty. -/
theorem duty_mem (c : Dev nD) (t : T) (b : Bool) : (0 : Fin 4) ∈ (Rd m).duties ((c : Thread nD τ), csem (some (t, b))) 0 := by
  have h := Rd_duties m (c, some (t, b))
  exact h ▸ Finset.mem_singleton_self 0
/-- What an end of a copy hands over is the duty's payload. -/
theorem pay_in (c : Dev nD) (t : T) (b : Bool) : cxPayload m c 0 (some (t, b)) ⊢ (Rd m).payload ((c : Thread nD τ), csem (some (t, b))) 0 0 :=
  Entails.of_eq (Rd_payload m (c, some (t, b)) 0).symm
/-- The payload of all duties of an end of a copy is what it hands over. -/
theorem pay_out (c : Dev nD) (t : T) (b : Bool) :
    (bigSep ((Rd m).duties ((c : Thread nD τ), csem (some (t, b))) 0 \ ∅) fun d => (Rd m).payload ((c : Thread nD τ), csem (some (t, b))) 0 d)
      ⊢ cxPayload m c 0 (some (t, b)) := Entails.of_eq (Rd_rest m c t b)

section Send
variable {sp sp' : Space} {s : Shape} {e : EltTy} {src : Memref sig .tc sp s e} {dst : Memref sig .tc sp' s e}

/-- A remote copy sets off, paying both its ends. -/
theorem wp_send_T (t : T) (c d : Dev nD) (hd : d = peer c t) {s₁ s₂ : DmaSem sig} (h₁ : s₁ = sS t) (h₂ : s₂ = sR t)
    {hsc : dst.view.ref.isScScratch = false}
    {hsrc : src.view.WordExact} {hdst : dst.view.WordExact}
    {hsem : DmaTarget.Typed sp (.dma s₂) (.remote (Dev.tc d : Thread nD τ) dst (.dma s₁) hsc)}
    {α : Type} {Q : α → sProp 𝕄} {k : PUnit → P F α} {q : PosShare TreeShare} {X : s.Idx → Elt F e}
    (hN : dst.view.dmaCredit = amt t)
    (hpS : (hold c src q X : sProp 𝕄) ⊢ sendP m c t)
    (hpR : (hold (peer c t) dst fullShare X : sProp 𝕄) ⊢ recvP m (peer c t) t)
    (hA : (recvAny (peer c t) t : sProp 𝕄) ⊢ anyAt (peer c t) dst) {n n' : ℕ} (hn : pos t = n) (hn' : pos t + 1 = n') :
    iprop(Ctx m K ∗ hold c src q X ∗ Ready c t ∗ Run c n)
      ⊢ iprop((iprop(Sent c t ∗ Run c n') -∗ Wp c (k ⟨⟩) Q)
          -∗ Wp c (.op (.enqueueDma src (.remote (Dev.tc d : Thread nD τ) dst (.dma s₁) hsc) (.dma s₂) hsrc hdst hsem) k) Q) := by
  subst hd h₁ h₂ hn hn'
  unfold Ready Ready₀ Run Sent
  iintro ⟨#HC, Hs, ⟨⟨HtS, HtR, Hat⟩, Hroom⟩, ⟨%W, HO⟩⟩ Hk
  ihave Hd := hA $$ Hroom
  unfold anyAt
  icases Hd with ⟨%Y, Hd⟩
  ihave Hs' := (hold_open c src q X) $$ Hs
  icases Hs' with ⟨%f, %hf, Hs⟩
  ihave Hd' := (hold_open (peer c t) dst fullShare Y) $$ Hd
  icases Hd' with ⟨%g, %hg, Hd⟩
  iapply (Rounds.wp_send_pointsTo 𝒱₀ ER (Rd m) (c : Thread nD τ) none (κ₁ := K (c, some (t, false))) (κ₂ := K (peer c t, some (t, true)))
    (r₁ := 0) (r₂ := 0) (d₁ := 0) (d₂ := 0) (fs := f) (fd := g) (q := q)
    (duty_mem m c t false)
    (duty_mem m (peer c t) t true)
    () () (amt t) hN (Rd_amount m (c, some (t, false)) 0) (Rd_amount m (peer c t, some (t, true)) 0) (Owe c (pos t + 1)) (Owe_step c t) (W := W)
    (by
      exact ((hold_close c src q X f hf).trans hpS).trans (pay_in m c t false))
    (by
      exact ((hold_close (peer c t) dst fullShare X _ ((View.read_write_univ _ _).trans hf)).trans hpR).trans (pay_in m (peer c t) t true))) $$ [Hs Hd HO HtS HtR]
  · isplitr; · iapply (ctx_inv m K (c, some (t, false))); iexact HC
    isplitr; · iapply (ctx_inv m K (peer c t, some (t, true))); iexact HC
    isplitl [Hs]; · iexact Hs
    isplitl [Hd]; · iexact Hd
    isplitl [HO]; · iexact HO
    isplitl [HtS]; · iexact HtS
    isplitr; · iapply (ctx_reached m K (c, some (t, false))); iexact HC
    isplitl [HtR]; · iexact HtR
    iapply (ctx_reached m K (peer c t, some (t, true))); iexact HC
  iintro ⟨Hcr, HO⟩
  iapply Hk
  isplitl [Hcr Hat]
  · isplitl [Hcr]; · iexact Hcr
    iexact Hat
  · iexists W; iexact HO

end Send

/-! ## The waits -/

section Wait
variable {sp sp' : Space} {s s' : Shape} {e e' : EltTy} {src : Memref sig .tc sp s' e'} {dst : Memref sig .tc sp' s e}

/-- The wait for a send gives its source back. -/
theorem wp_waitS (t : T) (c : Dev nD) {sm : DmaSem sig} (h : sm = sS t) (hN : dst.view.dmaCredit = amt t)
    {hsrc : src.view.WordExact} {hdst : dst.view.WordExact} {n : ℕ} {α : Type} {Q : α → sProp 𝕄} {k : PUnit → P F α} :
    iprop(Ctx m K ∗ Sent c t ∗ Run c n)
      ⊢ iprop((iprop(sendP m c t ∗ Over c (some (t, false)) ∗ Run c n) -∗ Wp c (k ⟨⟩) Q)
          -∗ Wp c (.op (.waitDma2 sm src dst hsrc hdst) k) Q) := by
  subst h
  unfold Sent Run Over
  iintro ⟨#HC, ⟨Hcr, Hat⟩, ⟨%W, HO⟩⟩ Hk
  iapply (Rounds.wp_wait_rest_token 𝒱₀ ER (Rd m) (c : Thread nD τ) none (κ := K (c, some (t, false)))
      (wpE_waitDma2_eq 𝒱₀ (c : Thread nD τ) none Set.univ) (Set.mem_univ _) () (O := Owe c n) (W := W) (R := 0) (m := 0) (T := ∅)
      (by rw [Nat.zero_add]; exact hN.trans (Rd_expect m c t false).symm)) $$ [Hcr HO Hat]
  · isplitr; · iapply (ctx_inv m K (c, some (t, false))); iexact HC
    isplitl [Hcr]; · rw [hN]; iexact Hcr
    isplitl [HO]; · iexact HO
    isplitr
    · iapply (ctx_may m K c (.dma (sS t)) n (by have := lvS_send t; exact lt_of_eq_of_lt this (Nat.succ_pos (n + 1)))); iexact HC
    iexact Hat
  iintro ⟨HO, Hat, -, Hpay⟩
  ihave Hp := (show _ ⊢ sendP m c t from pay_out m c t false) $$ [Hpay]
  · iexact Hpay
  iapply Hk
  isplitl [Hp]; · iexact Hp
  isplitl [Hat]; · iexact Hat
  iexists _; iexact HO

/-- The wait for a copy's arrival gives what has arrived. -/
theorem wp_waitR (t : T) (c : Dev nD) {sm : DmaSem sig} (h : sm = sR t) (hN : dst.view.dmaCredit = amt t)
    {hsrc : src.view.WordExact} {hdst : dst.view.WordExact} {n : ℕ} (hn : pos t < n) {α : Type} {Q : α → sProp 𝕄} {k : PUnit → P F α} :
    iprop(Ctx m K ∗ Await c t ∗ Run c n)
      ⊢ iprop((iprop(recvP m c t ∗ Over c (some (t, true)) ∗ Run c n) -∗ Wp c (k ⟨⟩) Q)
          -∗ Wp c (.op (.waitDma2 sm src dst hsrc hdst) k) Q) := by
  subst h
  unfold Await Run Over
  iintro ⟨#HC, ⟨Hcr, Hat⟩, ⟨%W, HO⟩⟩ Hk
  iapply (Rounds.wp_wait_rest_token 𝒱₀ ER (Rd m) (c : Thread nD τ) none (κ := K (c, some (t, true)))
      (wpE_waitDma2_eq 𝒱₀ (c : Thread nD τ) none Set.univ) (Set.mem_univ _) () (O := Owe c n) (W := W) (R := 0) (m := 0) (T := ∅)
      (by rw [Nat.zero_add]; exact hN.trans (Rd_expect m c t true).symm)) $$ [Hcr HO Hat]
  · isplitr; · iapply (ctx_inv m K (c, some (t, true))); iexact HC
    isplitl [Hcr]; · rw [hN]; iexact Hcr
    isplitl [HO]; · iexact HO
    isplitr
    · iapply (ctx_may m K c (.dma (sR t)) n (by have := lvS_recv t; exact lt_of_eq_of_lt this (Nat.add_lt_add_right hn 2))); iexact HC
    iexact Hat
  iintro ⟨HO, Hat, -, Hpay⟩
  ihave Hp := (show _ ⊢ recvP m c t from pay_out m c t true) $$ [Hpay]
  · iexact Hpay
  iapply Hk
  isplitl [Hp]; · iexact Hp
  isplitl [Hat]; · iexact Hat
  iexists _; iexact HO

end Wait

/-- A wait over, its counter is the device's again. -/
theorem over_close (c : Dev nD) (x : Cx) : iprop(Ctx m K ∗ Over c x) ⊢ (|={Set.univ}=> semVal (kcell (c, x)) 0 : sProp 𝕄) := by
  unfold Over
  iintro ⟨#HC, Hat⟩
  iapply (Rounds.cell_close ER (Rd m) (Set.mem_univ (K (c, x))) (fun h => h) (R := 0 + 1) (Rd_later m (kcell (c, x))))
  isplitr; · iapply (ctx_inv m K (c, x)); iexact HC
  iexact Hat

/-! ## A local wait -/

section LocalWait
variable {sp sp' : Space} {s : Shape} {e : EltTy} {src : Memref sig .tc sp s e} {dst : Memref sig .tc sp' s e} {sm : DmaSem sig}

/-- The wait for a local copy. -/
theorem wp_waitL (c : Dev nD) (i : Fin 4) (h : sm = lsem i) {s' : Shape} {e' : EltTy} {sp₀ sp₁ : Space} {srcw : Memref sig .tc sp₀ s' e'} {dstw : Memref sig .tc sp₁ s e}
    {hsrc : srcw.view.WordExact} {hdst : dstw.view.WordExact} {α : Type} {Q : α → sProp 𝕄} {k : PUnit → P F α} {q : PosShare TreeShare} {X : s.Idx → Elt F e}
    (hN : dstw.view.dmaCredit = dst.view.dmaCredit) {n : ℕ} :
    iprop(Ctx m K ∗ flying c src dst sm q X ∗ Run c n)
      ⊢ iprop((iprop(hold c dst fullShare X ∗ hold c src q X ∗ semVal ((c : Thread nD τ), .dma sm) 0 ∗ Run c n) -∗ Wp c (k ⟨⟩) Q)
          -∗ Wp c (.op (.waitDma2 sm srcw dstw hsrc hdst) k) Q) := by
  subst h
  unfold Run
  iintro ⟨#HC, HF, ⟨%W, HO⟩⟩ Hk
  iapply (wp_wait_own c hN (O := Owe c n) (W := W)) $$ [HF HO]
  · isplitl [HF]; · iexact HF
    isplitl [HO]; · iexact HO
    iapply (ctx_may m K c (.dma (lsem i)) n (by rw [lvS_other _ (lsem_ne i)]; omega)); iexact HC
  iintro ⟨⟨Hd, Hs⟩, Hv, HO⟩
  iapply Hk
  isplitl [Hd]; · iexact Hd
  isplitl [Hs]; · iexact Hs
  isplitl [Hv]; · iexact Hv
  iexists _; iexact HO

end LocalWait

/-! ## A part of what is held -/

/-- A slice of what is held, to be given back. -/
theorem hold_lend (c : Dev nD) {sp : Space} {sh : Shape} {e : EltTy} (M : Memref sig .tc sp sh e) (q : PosShare TreeShare) (r : Rect sh)
    (hr : ∀ a, r.stride a = 1) (X : sh.Idx → Elt F e) :
    (hold c M q X : sProp 𝕄) ⊢ iprop(hold c (M.slice r hr) q (fun i => X (r.emb i)) ∗ (hold c (M.slice r hr) q (fun i => X (r.emb i)) -∗ hold c M q X)) := by
  unfold hold
  iintro H
  ihave H' := (owns_slice_split (c : Thread nD τ) M q r hr X) $$ H
  icases H' with ⟨Hs, ⟨%f, %hf, Hr⟩⟩
  isplitl [Hs]; · iexact Hs
  iintro Hs
  have hX : r.overlay (M.view.read (Elt F) f) (fun i => X (r.emb i)) = X := by
    rw [hf]
    funext j
    by_cases hj : j ∈ r.set
    · rw [← Rect.map_emb_univ, Finset.mem_map] at hj
      obtain ⟨i, -, rfl⟩ := hj
      rw [Rect.overlay_emb]
    · rw [Rect.overlay_of_not_mem _ _ _ hj]
  have h := owns_slice_join (Val := Elt F) (Ix := Unit) (Name := ℕ) (U := UU) (Lvl := ℕ) (c : Thread nD τ) M q r hr (fun i => X (r.emb i)) f
  rw [hX] at h
  iapply h
  isplitl [Hs]; · iexact Hs
  iexact Hr

/-- An index of the whole buffer is in its own place. -/
theorem wR_emb (i : S256x4096.Idx) : wR.emb i = i := by
  funext a
  refine Fin.ext ?_
  show wR.off a + wR.stride a * (i a).val = _
  fin_cases a <;> simp

end Cert.KernelIdeal.Steps

end
-- ==== Proof.Emit.lean ====
module

public import proofs.«01_k».proof.Proof.Rules
public import Idealize.SL.BI.BigOpNat

/-! # Writing back

The two write-back slots alternate: write-back `n` waits for `n - 2`, fills its slot and sets it off. And what a loop
of steps does, each with its own means and its own result. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cx → ℕ)

/-! ## Loops -/

/-- The indices below `n + 1` are those below `n` and `n` itself. -/
theorem lt_succ_insert {N : ℕ} (n : ℕ) (h : n < N) :
    (Finset.univ.filter fun i : Fin N => i.val < n + 1) = insert ⟨n, h⟩ (Finset.univ.filter fun i : Fin N => i.val < n) := by
  ext i
  simp only [Finset.mem_filter, Finset.mem_univ, true_and, Finset.mem_insert, Fin.ext_iff]
  omega

/-- An index is not below itself. -/
theorem lt_not_mem {N : ℕ} (n : ℕ) (h : n < N) : (⟨n, h⟩ : Fin N) ∉ (Finset.univ.filter fun i : Fin N => i.val < n) := by
  simp

/-- A separating product over one index more. -/
theorem sep_insert {I : Type} [DecidableEq I] {s : Finset I} {i : I} (hi : i ∉ s) {Φ : I → sProp 𝕄} :
    bigSep (insert i s) Φ = iprop(Φ i ∗ bigSep s Φ) := BI.bigSep_insert hi

/-- The first steps of a loop, each by its own rule, run as one. -/
theorem loop_upto (c : Dev nD) {N : ℕ} [NeZero N] (f : Fin N → P F PUnit) (A B : Fin N → sProp 𝕄) (I : ℕ → sProp 𝕄)
    (h : ∀ j : Fin N, iprop(I j.val ∗ A j) ⊢ Wp c (f j) (fun _ => iprop(I (j.val + 1) ∗ B j))) (n : ℕ) (hn : n ≤ N) :
    iprop(I 0 ∗ bigSep (Finset.univ.filter fun i : Fin N => i.val < n) A)
      ⊢ Wp c (upto (fun j => f (Fin.ofNat N j)) n) (fun _ => iprop(I n ∗ bigSep (Finset.univ.filter fun i : Fin N => i.val < n) B)) := by
  induction n with
  | zero =>
    iintro ⟨HI, -⟩
    unfold upto
    iapply (doneW c)
    isplitl [HI]; · iexact HI
    rw [Finset.filter_false_of_mem (fun i _ => by omega), bigSep_empty]; iempintro
  | succ n ih =>
    rw [lt_succ_insert n hn, sep_insert (lt_not_mem n hn), sep_insert (lt_not_mem n hn)]
    iintro ⟨HI, HA, Hr⟩
    unfold upto
    iapply (seqW c (ih (Nat.le_of_succ_le hn))) $$ [HI Hr]
    · isplitl [HI]; · iexact HI
      iexact Hr
    iintro ⟨HI, Hb⟩
    have e : (Fin.ofNat N n : Fin N) = ⟨n, hn⟩ := Fin.ext (Nat.mod_eq_of_lt hn)
    rw [e]
    iapply (wp_wand_r (Fr := frame) (wpE := wpE (defs₀ (F := F)) 𝒱₀ (c : Thread nD τ) none) (E := Set.univ) (p := f ⟨n, hn⟩)
      (Q := fun _ => iprop(I (n + 1) ∗ B ⟨n, hn⟩)))
    isplitl [HI HA]
    · iapply (h ⟨n, hn⟩)
      isplitl [HI]; · iexact HI
      iexact HA
    · iintro %a ⟨HI, HB⟩
      isplitl [HI]; · iexact HI
      isplitl [HB]; · iexact HB
      iexact Hb

/-- Steps in turn, a state `I` carried along, each with means `A` and result `B` of its own. -/
theorem loopW (c : Dev nD) {N : ℕ} [NeZero N] (f : Fin N → P F PUnit) (A B : Fin N → sProp 𝕄) (I : ℕ → sProp 𝕄)
    (h : ∀ j : Fin N, iprop(I j.val ∗ A j) ⊢ Wp c (f j) (fun _ => iprop(I (j.val + 1) ∗ B j))) :
    iprop(I 0 ∗ bigSep Finset.univ A) ⊢ Wp c (upto (fun j => f (Fin.ofNat N j)) N) (fun _ => iprop(I N ∗ bigSep Finset.univ B)) := by
  have := loop_upto c f A B I h N (Nat.le_refl N)
  rw [Finset.filter_true_of_mem (fun i _ => i.isLt)] at this
  exact this

/-! ## The write-backs -/

abbrev fi (n : ℕ) : Fin 32 := Fin.ofNat 32 n
/-- A write-back's number is itself. -/
theorem fi_val {n : ℕ} (h : n < 32) : (fi n).val = n := Nat.mod_eq_of_lt h

/-- Rows `n` of the result: not written yet, on their way, written. -/
def outAny (c : Dev nD) (n : ℕ) : sProp 𝕄 := anyAt (F := F) c (rows (outN c n))
def Fl (c : Dev nD) (n : ℕ) : sProp 𝕄 :=
  flying c (ybS (par n)) (rows (outN c n)) (sem2 cc0_scratch23 (par n)) fullShare (outr m c (fi n))
def outDone (c : Dev nD) (n : ℕ) : sProp 𝕄 := hold c (rows (outN c n)) fullShare (outr m c (fi n))

/-- A write-back slot at rest. -/
def ybFree (c : Dev nD) (p : Fin 2) : sProp 𝕄 :=
  iprop(anyAt (F := F) c (ybS p) ∗ semVal ((c : Thread nD τ), .dma (sem2 cc0_scratch23 p)) 0)

abbrev ybI (p : Fin 2) : Fin 4 := ⟨2 + p.val, by omega⟩
/-- The two write-back slots have the last two local semaphores. -/
theorem lsem_yb (p : Fin 2) : sem2 cc0_scratch23 p = lsem (ybI p) := by revert p; decide +kernel

/-- Starting a write-back puts its rows on their way. -/
theorem ybGo_W (c : Dev nD) (n : ℕ) (v : FVec F S1x128x4096 .f32) (hv : v = outv m c (fi n)) :
    iprop(ybFree c (par n) ∗ outAny c n) ⊢ Wp c (ybGo c n v) (fun _ => Fl m c n) := by
  subst hv
  unfold ybFree outAny ybGo ybS Fl
  iintro ⟨⟨Hy, Hv⟩, Ho⟩
  simp only [Prog.lift, Prog.bind_op, Prog.bind_ret, Prog.pure_eq_ret]
  ihave Hy := (any_unsqueeze c (ybM.slice (ybR (par n)) (fun _ => rfl)) squeezes_S1x128x4096_S128x4096) $$ Hy
  icases (Entails.of_eq (show anyAt (F := F) c (ybM.slice (ybR (par n)) (fun _ => rfl)) = iprop(∃ X, hold c (ybM.slice (ybR (par n)) (fun _ => rfl)) fullShare X) from rfl)) $$ Hy with ⟨%X, Hy⟩
  iapply (wp_load_own c (M := ybM) (r := ybR (par n)) (hr := fun _ => rfl)) $$ Hy
  iintro Hy
  ihave Hy := (hold_any c _ _) $$ Hy
  iapply (wp_store_own c (M := ybM) (r := ybR (par n)) (hr := fun _ => rfl)) $$ Hy
  iintro Hy
  ihave Hy := (Entails.of_eq (hold_squeeze c (ybM.slice (ybR (par n)) (fun _ => rfl)) squeezes_S1x128x4096_S128x4096 fullShare (outv m c (fi n))).symm) $$ Hy
  iapply (wp_copy_own c (src := ybS (par n)) (dst := rows (outN c n)) (q := fullShare) (X := outr m c (fi n)) (by decide)) $$ [Hy Ho Hv]
  · isplitl [Hy]; · iexact Hy
    isplitl [Ho]; · iexact Ho
    iexact Hv
  iintro HF
  iapply (doneW c)
  iexact HF

/-- Waiting for a write-back gives its slot back and its rows written. -/
theorem ybWait_W (c : Dev nD) (n r : ℕ) :
    iprop(Ctx m K ∗ Fl m c n ∗ Run c r) ⊢ Wp c (ybWait c n) (fun _ => iprop(ybFree c (par n) ∗ outDone m c n ∗ Run c r)) := by
  unfold Fl ybWait ybFree outDone
  simp only [Prog.lift, Prog.bind_op, Prog.bind_ret, Prog.pure_eq_ret]
  iintro ⟨#HC, HF, HR⟩
  iapply (wp_waitL m K c (ybI (par n)) (lsem_yb (par n)) (srcw := ybS (par n)) (hsrc := (View.wordExact_bits rfl).reshape _ _) (hdst := View.wordExact_bits rfl) (src := ybS (par n)) (dst := rows (outN c n)) (dstw := rows (outN c n)) rfl) $$ [HF HR]
  · isplitr; · iexact HC
    isplitl [HF]; · iexact HF
    iexact HR
  iintro ⟨Hd, Hs, Hv, HR⟩
  iapply (doneW c)
  isplitl [Hs Hv]
  · isplitl [Hs]
    · iapply (hold_any c _ _); iexact Hs
    · iexact Hv
  isplitl [Hd]; · iexact Hd
  iexact HR

/-- `k` write-backs done and two on their way. -/
def OutS (c : Dev nD) (k : ℕ) : sProp 𝕄 :=
  iprop((bigSep (Finset.range k) fun i => outDone m c i) ∗ Fl m c k ∗ Fl m c (k + 1) ∗ bigSep (Finset.Ico (k + 2) 32) fun i => outAny (F := F) c i)

/-- Two write-backs apart use the same slot. -/
theorem par_two (k : ℕ) : par (k + 2) = par k := Fin.ext (by show (k + 2) % 2 = k % 2; omega)

/-- The rows a write-back is loaded from are a chunk of the column. -/
theorem ld_eq (M : Memref sig .tc .vmem S1024x4096 .bf16) (c : Dev nD) (k : Fin 8) :
    (M.slice (ldR c k) (fun _ => rfl) : Memref sig .tc .vmem S128x4096 .bf16) = ck M (pl c k) := by
  have h : ∀ (o : Fin 2 → ℕ) (inb : ∀ a, o a + S128x4096.size a ≤ S1024x4096.size a), o = ![128 * (pl c k).val, 0]
      → (M.slice (Rect.unit (s := S1024x4096) o S128x4096.size inb) (fun _ => rfl) : Memref sig .tc .vmem S128x4096 .bf16) = ck M (pl c k) := by
    rintro o inb rfl; rfl
  exact h _ _ (ld_o c k)

/-- A write-back: wait for the one two before it, fill its slot, start it. -/
theorem emit_W (c d : Dev nD) (M : Memref sig .tc .vmem S1024x4096 .bf16) (k : Fin 8) (i r : ℕ) (hi : i + 2 < 32) (q : PosShare TreeShare)
    (hd : srcN c (fi (i + 2)) = d) (hk : kN (fi (i + 2)) = k) :
    iprop(Ctx m K ∗ hold c (ck M (pl c k)) q (colv m d k) ∗ OutS m c i ∗ Run c r)
      ⊢ Wp c (emit c M k (i + 2)) (fun _ => iprop(hold c (ck M (pl c k)) q (colv m d k) ∗ OutS m c (i + 1) ∗ Run c r)) := by
  unfold emit OutS
  rw [← ld_eq M c k]
  iintro ⟨#HC, Hm, ⟨Hdone, HF, HF', Hrest⟩, HR⟩
  simp only [Prog.lift, Prog.bind_op, Prog.bind_ret, Prog.pure_eq_ret]
  iapply (wp_load_own c (M := M) (r := ldR c k) (hr := fun _ => rfl) (q := q) (X := colv m d k)) $$ [Hm]
  · iexact Hm
  iintro Hm
  iapply (seqW c (ybWait_W m K c i r)) $$ [HF HR]
  · isplitr; · iexact HC
    isplitl [HF]; · iexact HF
    iexact HR
  iintro ⟨Hy, Hd, HR⟩
  ihave Hrest := (Entails.of_eq (BI.bigSep_Ico_succ_bot (show i + 2 < 32 from hi) (fun i => outAny (F := F) c i))) $$ Hrest
  icases Hrest with ⟨Ho, Hrest⟩
  iapply (wp_wand_r (Fr := frame) (wpE := wpE (defs₀ (F := F)) 𝒱₀ (c : Thread nD τ) none) (E := Set.univ)
      (Q := fun _ => Fl m c (i + 2)))
  isplitl [Hy Ho]
  · iapply (ybGo_W m c (i + 2) _ (by
      unfold outv
      rw [if_neg (by rw [fi_val hi]; omega), hd, hk]))
    isplitl [Hy]; · rw [par_two]; iexact Hy
    iexact Ho
  iintro %a HFn
  isplitl [Hm]; · iexact Hm
  isplitr [HR]
  · isplitl [Hdone Hd]
    · iapply (Entails.of_eq (BI.bigSep_range_succ i (fun i => outDone m c i)).symm)
      first
        | (isplitl [Hdone]; · iexact Hdone
           iexact Hd)
        | (isplitl [Hd]; · iexact Hd
           iexact Hdone)
    isplitl [HF']; · iexact HF'
    isplitl [HFn]; · iexact HFn
    iexact Hrest
  iexact HR

end Cert.KernelIdeal.Steps

end
-- ==== Proof.Mem.lean ====
module

public import proofs.«01_k».proof.Proof.Rules

/-! # Buffers in pieces

A buffer at any contents is its pieces at any contents; a slot of the travelling buffer is its two halves. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cut and glue -/

section Pieces
variable {I : Type} [Fintype I] [DecidableEq I] {sp : Space} {sh : Shape} {e : EltTy}
variable (c : Dev nD) (M : Memref sig .tc sp sh e) (q : PosShare TreeShare) (r : I → Rect sh) (hr : ∀ i a, (r i).stride a = 1)

/-- Contents given on pieces that share no element are those of one whole. -/
theorem glue_exists {α : Type} [Nonempty α] (hd : ∀ i j, i ≠ j → Disjoint (r i).set (r j).set) (Y : ∀ i, (r i).shape.Idx → α) :
    ∃ X : sh.Idx → α, ∀ i, (fun j => X ((r i).emb j)) = Y i := by
  classical
  refine ⟨fun y => if h : ∃ p : Σ i, (r i).shape.Idx, (r p.1).emb p.2 = y then Y h.choose.1 h.choose.2 else Classical.arbitrary α, ?_⟩
  intro i
  funext j
  have h : ∃ p : Σ i, (r i).shape.Idx, (r p.1).emb p.2 = (r i).emb j := ⟨⟨i, j⟩, rfl⟩
  simp only
  rw [dif_pos h]
  have hs := h.choose_spec
  generalize h.choose = p at hs
  obtain ⟨i', j'⟩ := p
  simp only at hs ⊢
  have hi : i' = i := by
    by_contra hne
    have hdd := Finset.disjoint_left.mp (hd i' i hne)
    refine hdd (a := (r i).emb j) ?_ ?_
    · rw [← hs, ← Rect.map_emb_univ]; exact Finset.mem_map_of_mem _ (Finset.mem_univ _)
    · rw [← Rect.map_emb_univ]; exact Finset.mem_map_of_mem _ (Finset.mem_univ _)
  subst hi
  rw [(r i').emb.injective hs]

/-- A buffer that is held is held piece by piece. -/
theorem hold_cut (hd : ∀ i j, i ≠ j → Disjoint (r i).set (r j).set) (hc : (Finset.univ : Finset I).biUnion (fun i => (r i).set) = Finset.univ) (X : sh.Idx → Elt F e) :
    (hold c M q X : sProp 𝕄) ⊢ bigSep Finset.univ fun i => hold c (M.slice (r i) (hr i)) q (fun j => X ((r i).emb j)) :=
  owns_rects (c : Thread nD τ) M q r hr hd hc X

/-- A buffer that is held piece by piece is held. -/
theorem hold_glue (hd : ∀ i j, i ≠ j → Disjoint (r i).set (r j).set) (hc : (Finset.univ : Finset I).biUnion (fun i => (r i).set) = Finset.univ) (X : sh.Idx → Elt F e) :
    (bigSep Finset.univ fun i => hold c (M.slice (r i) (hr i)) q (fun j => X ((r i).emb j)) : sProp 𝕄) ⊢ hold c M q X :=
  owns_of_rects (c : Thread nD τ) M q r hr hd hc X

/-- A buffer at any contents is so piece by piece. -/
theorem any_cut (hd : ∀ i j, i ≠ j → Disjoint (r i).set (r j).set) (hc : (Finset.univ : Finset I).biUnion (fun i => (r i).set) = Finset.univ) :
    (anyAt (F := F) c M : sProp 𝕄) ⊢ bigSep Finset.univ fun i => anyAt c (M.slice (r i) (hr i)) := by
  have h : ∀ X : sh.Idx → Elt F e, (hold c M fullShare X : sProp 𝕄) ⊢ bigSep Finset.univ fun i => anyAt c (M.slice (r i) (hr i)) := fun X =>
    (hold_cut c M fullShare r hr hd hc X).trans (BI.bigSep_mono fun i _ => hold_any c (M.slice (r i) (hr i)) _)
  unfold anyAt at h ⊢
  iintro ⟨%X, H⟩
  iapply (h X); iexact H

/-- A buffer whose pieces are at any contents is so itself. -/
theorem any_glue (hd : ∀ i j, i ≠ j → Disjoint (r i).set (r j).set) (hc : (Finset.univ : Finset I).biUnion (fun i => (r i).set) = Finset.univ) :
    (bigSep Finset.univ fun i => anyAt c (M.slice (r i) (hr i)) : sProp 𝕄) ⊢ anyAt (F := F) c M := by
  refine (BI.bigSep_exists_pi Finset.univ (fun i (X : (r i).shape.Idx → Elt F e) => hold c (M.slice (r i) (hr i)) fullShare X)).trans ?_
  iintro ⟨%Y, H⟩
  obtain ⟨X, hX⟩ := glue_exists r hd Y
  unfold anyAt
  iexists X
  iapply (hold_glue c M fullShare r hr hd hc X)
  rw [BI.bigSep_congr (Φ := fun i => hold (F := F) c (M.slice (r i) (hr i)) fullShare (fun j => X ((r i).emb j))) (fun i _ => by rw [hX i])]
  iexact H

end Pieces

/-! ## A slot and its halves -/

/-- Half of a slot lies where the half block of the whole buffer does. -/
theorem half_emb (i : Fin 4) (h : Fin 2) (j : S1x128x4096.Idx) : (czR i).emb ((hvR h).emb j) = (czhR i h).emb j := by
  funext a
  refine Fin.ext ?_
  simp only [Rect.emb_apply]
  fin_cases a <;> simp

/-- Half of a slot is the half block of the whole buffer. -/
theorem half_eq (c : Dev nD) (i : Fin 4) (h : Fin 2) (q : PosShare TreeShare) (X : S1x128x4096.Idx → Elt F .bf16) :
    (hold c ((czM.slice (czR i) (fun _ => rfl)).slice (hvR h) (fun _ => rfl)) q X : sProp 𝕄) = hold c (czM.slice (czhR i h) (fun _ => rfl)) q X := by
  have he : ((czM.slice (czR i) (fun _ => rfl)).slice (hvR h) (fun _ => rfl)).view.emb = (czM.slice (czhR i h) (fun _ => rfl)).view.emb :=
    Function.Embedding.ext fun j => half_emb i h j
  have hs : ((czM.slice (czR i) (fun _ => rfl)).slice (hvR h) (fun _ => rfl)).view.set = (czM.slice (czhR i h) (fun _ => rfl)).view.set := by
    exact congrArg (fun g : S1x128x4096.Idx ↪ S4x256x4096.Idx => Finset.univ.map g) he
  have hrd : ∀ f, ((czM.slice (czR i) (fun _ => rfl)).slice (hvR h) (fun _ => rfl)).view.read (Elt F) f = (czM.slice (czhR i h) (fun _ => rfl)).view.read (Elt F) f := by
    intro f; funext j
    exact congrArg f (half_emb i h j)
  unfold hold owns
  rw [hs]
  simp only [hrd]

/-- A slot that is held is held half by half. -/
theorem slot_halves (c : Dev nD) (i : Fin 4) (X : S1x256x4096.Idx → Elt F .bf16) :
    (hold c (czS i) fullShare (sqz squeezes_S1x256x4096_S256x4096 X) : sProp 𝕄)
      ⊢ bigSep Finset.univ fun h : Fin 2 => hold c (czH i h) fullShare (sqz squeezes_S1x128x4096_S128x4096 fun j => X ((hvR h).emb j)) := by
  unfold czS czH
  rw [hold_squeeze]
  refine (hold_cut c _ fullShare hvR (fun _ _ => rfl) hvR_disj hvR_cov X).trans (BI.bigSep_mono fun h _ => ?_)
  rw [hold_squeeze, half_eq]
  exact Idealize.SL.BI.Entails.refl _

/-- Two halves at any contents make up a slot. -/
theorem halves_any (c : Dev nD) (i : Fin 4) :
    (bigSep Finset.univ fun h : Fin 2 => anyAt c (czH i h) : sProp 𝕄) ⊢ anyAt (F := F) c (czS i) := by
  unfold czS czH
  have h₁ : ∀ h : Fin 2, (anyAt (F := F) c ((czM.slice (czhR i h) (fun _ => rfl)).squeeze S128x4096 squeezes_S1x128x4096_S128x4096) : sProp 𝕄)
      ⊢ anyAt c ((czM.slice (czR i) (fun _ => rfl)).slice (hvR h) (fun _ => rfl)) := by
    intro h
    iintro H
    ihave H := (any_unsqueeze c _ _) $$ H
    unfold anyAt
    icases H with ⟨%X, H⟩
    iexists X
    rw [half_eq]; iexact H
  have h₂ := any_glue (F := F) c (czM.slice (czR i) (fun _ => rfl)) hvR (fun _ _ => rfl) hvR_disj hvR_cov
  have h₃ := any_squeeze (F := F) c (czM.slice (czR i) (fun _ => rfl)) squeezes_S1x256x4096_S256x4096
  exact (BI.bigSep_mono fun h _ => h₁ h).trans (h₂.trans h₃)

/-- A slot at any contents is so half by half. -/
theorem any_halves (c : Dev nD) (i : Fin 4) :
    (anyAt (F := F) c (czS i) : sProp 𝕄) ⊢ bigSep Finset.univ fun h : Fin 2 => anyAt c (czH i h) := by
  unfold czS czH
  refine (any_unsqueeze c _ _).trans ((any_cut c _ hvR (fun _ _ => rfl) hvR_disj hvR_cov).trans (BI.bigSep_mono fun h _ => ?_))
  refine BIBase.Entails.trans ?_ (any_squeeze c _ _)
  unfold anyAt
  iintro ⟨%X, H⟩
  iexists X
  rw [← half_eq]; iexact H

end Cert.KernelIdeal.Steps

end
-- ==== Proof.Sends.lean ====
module

public import proofs.«01_k».proof.Proof.Emit
public import proofs.«01_k».proof.Proof.Mem

/-! # The sends and the waits of each family of copies -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cx → ℕ)

/-! ## The handshake -/

/-- A separating product over four indices. -/
theorem sep_four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide, sep_insert (by decide), sep_insert (by decide),
    sep_insert (by decide), bigSep_singleton]

/-- A signal to a neighbour's barrier hands it the places that it will fill. -/
theorem wp_bar (c e : Dev nD) (d : Fin 4) (he : e = nbI c d) {α : Type} {Q : α → sProp 𝕄} {k : PUnit → P F α} {O O' : CellTallies nD τ sig Unit}
    (hO : O' = O + tallyAt (kcell (e, none)) () 1) :
    iprop(Ctx m K ∗ (∃ W, owes (c : Thread nD τ) O' W) ∗ dutyTok ER (kcell (nbI c d, none)) 0 d ∗ barP (nbI c d) d)
      ⊢ iprop(((∃ W, owes (c : Thread nD τ) O W) -∗ Wp c (k ⟨⟩) Q) -∗ Wp c (.op (.semSignal (Dev.tc e) bar (1#32 : BitVec 32).toInt) k) Q) := by
  subst he
  have hd : d ∈ (Rd m).duties ((nbI c d : Thread nD τ), csem none) 0 := by
    have h := Rd_duties m (nbI c d, none)
    exact h ▸ Finset.mem_univ d
  have hp : barP (nbI c d) d ⊢ (Rd m).payload ((nbI c d : Thread nD τ), csem none) 0 d := Entails.of_eq (Rd_payload m (nbI c d, none) d).symm
  iintro ⟨#HC, ⟨%W, HO⟩, Ht, Hp⟩ Hk
  iapply (Rounds.wp_signal 𝒱₀ ER (Rd m) (c : Thread nD τ) none (dst := (nbI c d : Thread nD τ)) (κ := K (nbI c d, none))
      (d := d) hd ((Rd_amount m (nbI c d, none) d).trans (show cxAmount none = (1#32 : BitVec 32).toInt.toNat by decide)) () O hO) $$ [HO Ht Hp]
  · isplitr; · iapply (ctx_inv m K (nbI c d, none)); iexact HC
    isplitl [HO]; · iexact HO
    isplitl [Ht]; · iexact Ht
    isplitl [Hp]; · iapply (show _ ⊢ (Rd m).payload ((nbI c d : Thread nD τ), .reg bar) 0 d from hp); iexact Hp
    iapply (ctx_reached m K (nbI c d, none)); iexact HC
  iintro HO
  iapply Hk
  iexists W; iexact HO

/-- The four signals together hand over every place that the device will fill. -/
theorem rest_bar (c : Dev nD) :
    (bigSep ((Rd m).duties ((c : Thread nD τ), csem none) 0 \ ∅) fun d => (Rd m).payload ((c : Thread nD τ), csem none) 0 d)
      ⊢ bigSep Finset.univ fun t : T => recvAny (F := F) (peer c t) t := Entails.of_eq (Rd_rest_bar m c)

/-- The barrier: four signals and a wait. -/
theorem handshake_W (c : Dev nD) :
    iprop(Ctx m K ∗ (∃ W, owes (c : Thread nD τ) (O₀ c) W) ∗ (bigSep Finset.univ fun d : Fin 4 => dutyTok ER (kcell (nbI c d, none)) 0 d)
        ∗ cred (tallyAt (kcell (c, none)) () 4) ∗ atPos ER (kcell (c, none)) 0 ∅ 0 ∗ bigSep Finset.univ fun t : T => recvAny (F := F) c t)
      ⊢ Wp c (handshake c) (fun _ => iprop(Run c 0 ∗ Over c none ∗ bigSep Finset.univ fun t : T => recvAny (F := F) (peer c t) t)) := by
  rw [room_split c, sep_four, sep_four]
  unfold handshake
  simp only [semSignalWord, semWaitWord, Prog.lift, Prog.bind_op, Prog.bind_ret, Prog.pure_eq_ret]
  iintro ⟨#HC, HO, ⟨Ht0, Ht1, Ht2, Ht3⟩, Hcr, Hat, ⟨Hp0, Hp1, Hp2, Hp3⟩⟩
  iapply (wp_bar m K c (prv c) 0 rfl (O' := O₀ c) rfl) $$ [HO Ht0 Hp0]
  · isplitr; · iexact HC
    isplitl [HO]; · iexact HO
    isplitl [Ht0]; · iexact Ht0
    iexact Hp0
  iintro HO
  iapply (wp_bar m K c (nxt c) 1 rfl rfl) $$ [HO Ht1 Hp1]
  · isplitr; · iexact HC
    isplitl [HO]; · iexact HO
    isplitl [Ht1]; · iexact Ht1
    iexact Hp1
  iintro HO
  iapply (wp_bar m K c (xn c) 2 rfl rfl) $$ [HO Ht2 Hp2]
  · isplitr; · iexact HC
    isplitl [HO]; · iexact HO
    isplitl [Ht2]; · iexact Ht2
    iexact Hp2
  iintro HO
  iapply (wp_bar m K c (yn c) 3 rfl rfl) $$ [HO Ht3 Hp3]
  · isplitr; · iexact HC
    isplitl [HO]; · iexact HO
    isplitl [Ht3]; · iexact Ht3
    iexact Hp3
  iintro ⟨%W, HO⟩
  iapply (Rounds.wp_wait_rest_token 𝒱₀ ER (Rd m) (c : Thread nD τ) none (κ := K (c, none))
      (wpE_semWait_eq 𝒱₀ (c : Thread nD τ) none Set.univ) (Set.mem_univ _) () (O := Owe c 0) (W := W) (R := 0) (m := 0) (T := ∅)
      (by have := Rd_expect_bar m c; exact Eq.trans (by decide) this.symm)) $$ [Hcr HO Hat]
  · isplitr; · iapply (ctx_inv m K (c, none)); iexact HC
    isplitl [Hcr]; · iexact Hcr
    isplitl [HO]; · iexact HO
    isplitr
    · iapply (ctx_may m K c (csem none) 0 (by have := lvS_bar; exact lt_of_eq_of_lt this (by decide))); iexact HC
    iexact Hat
  iintro ⟨HO, Hat, -, Hpay⟩
  iapply (doneW c)
  isplitl [HO]; · unfold Run; iexists _; iexact HO
  isplitl [Hat]; · unfold Over; iexact Hat
  iapply (rest_bar m c); iexact Hpay

/-! ## Sends -/

/-- A chunk sets off along z. -/
theorem sendZ_W (c : Dev nD) (k : Fin 6) :
    iprop(Ctx m K ∗ hold c (ck colM (pl c ⟨k.val, by omega⟩)) shZ (colv m c ⟨k.val, by omega⟩) ∗ Ready c (.ag k) ∗ Run c (pos (.ag k)))
      ⊢ Wp c (sendZ c ⟨k.val, by omega⟩ k) (fun _ => iprop(Sent c (.ag k) ∗ Run c (pos (.ag k) + 1))) := by
  have hp : peer c (.ag k) = nxt c := rfl
  have hN : (chunk colM (chS c ⟨k.val, by omega⟩)).view.dmaCredit = amt (.ag k) := by rw [chunk_chS]; exact amt_ag k _
  have h₁ : (hold c (chunk colM (chS c ⟨k.val, by omega⟩)) shZ (colv m c ⟨k.val, by omega⟩) : sProp 𝕄) ⊢ sendP m c (.ag k) := by
    rw [chunk_chS]; exact BIBase.Entails.rfl
  have h₂ : (hold (peer c (.ag k)) (chunk colM (chS c ⟨k.val, by omega⟩)) fullShare (colv m c ⟨k.val, by omega⟩) : sProp 𝕄) ⊢ recvP m (peer c (.ag k)) (.ag k) := by
    rw [hp, chunk_chS]; unfold recvP; dsimp only; rw [pl_nxt, colv_two, prv_nxt]
  have h₃ : (recvAny (peer c (.ag k)) (.ag k) : sProp 𝕄) ⊢ anyAt (peer c (.ag k)) (chunk colM (chS c ⟨k.val, by omega⟩)) := by
    rw [hp, chunk_chS]; unfold recvAny; dsimp only; rw [pl_nxt]
  unfold sendZ
  simp only [Prog.lift]
  rw [← chunk_chS]
  iintro ⟨#HC, Hs, Hr, HR⟩
  iapply (wp_send_T m K (.ag k) c (nxt c) hp.symm (src := chunk colM (chS c ⟨k.val, by omega⟩)) (dst := chunk colM (chS c ⟨k.val, by omega⟩)) (q := shZ) (X := colv m c ⟨k.val, by omega⟩) rfl rfl hN h₁ h₂ h₃ rfl rfl) $$ [Hs Hr HR]
  · isplitr; · iexact HC
    isplitl [Hs]; · iexact Hs
    isplitl [Hr]; · iexact Hr
    iexact HR
  iintro H
  iapply (doneW c); iexact H

/-- A chunk sets off along x. -/
theorem sendX_W (c : Dev nD) (k : Fin 8) :
    iprop(Ctx m K ∗ hold c (ck colM (pl c k)) shX (colv m c k) ∗ Ready c (.px k) ∗ Run c (pos (.px k)))
      ⊢ Wp c (sendX c k) (fun _ => iprop(Sent c (.px k) ∗ Run c (pos (.px k) + 1))) := by
  have hp : peer c (.px k) = xn c := rfl
  have hN : (chunk gxM (chS c k)).view.dmaCredit = amt (.px k) := by rw [chunk_chS]; exact amt_px k _
  have h₁ : (hold c (chunk colM (chS c k)) shX (colv m c k) : sProp 𝕄) ⊢ sendP m c (.px k) := by
    rw [chunk_chS]; exact BIBase.Entails.rfl
  have h₂ : (hold (peer c (.px k)) (chunk gxM (chS c k)) fullShare (colv m c k) : sProp 𝕄) ⊢ recvP m (peer c (.px k)) (.px k) := by
    rw [hp, chunk_chS]; unfold recvP; dsimp only; rw [pl_xn, xn_xn]
  have h₃ : (recvAny (peer c (.px k)) (.px k) : sProp 𝕄) ⊢ anyAt (peer c (.px k)) (chunk gxM (chS c k)) := by
    rw [hp, chunk_chS]; unfold recvAny; dsimp only; rw [pl_xn]
  unfold sendX
  simp only [Prog.lift]
  rw [← chunk_chS]
  iintro ⟨#HC, Hs, Hr, HR⟩
  iapply (wp_send_T m K (.px k) c (xn c) hp.symm (src := chunk colM (chS c k)) (dst := chunk gxM (chS c k)) (q := shX) (X := colv m c k) rfl rfl hN h₁ h₂ h₃ rfl rfl) $$ [Hs Hr HR]
  · isplitr; · iexact HC
    isplitl [Hs]; · iexact Hs
    isplitl [Hr]; · iexact Hr
    iexact HR
  iintro H
  iapply (doneW c); iexact H

/-- A chunk sets off along y. -/
theorem sendY_W (c : Dev nD) (k : Fin 8) :
    iprop(Ctx m K ∗ hold c (ck colM (pl c k)) shY (colv m c k) ∗ Ready c (.py k) ∗ Run c (pos (.py k)))
      ⊢ Wp c (sendY c k) (fun _ => iprop(Sent c (.py k) ∗ Run c (pos (.py k) + 1))) := by
  have hp : peer c (.py k) = yn c := rfl
  have hN : (chunk gyM (chS c k)).view.dmaCredit = amt (.py k) := by rw [chunk_chS]; exact amt_py k _
  have h₁ : (hold c (chunk colM (chS c k)) shY (colv m c k) : sProp 𝕄) ⊢ sendP m c (.py k) := by
    rw [chunk_chS]; exact BIBase.Entails.rfl
  have h₂ : (hold (peer c (.py k)) (chunk gyM (chS c k)) fullShare (colv m c k) : sProp 𝕄) ⊢ recvP m (peer c (.py k)) (.py k) := by
    rw [hp, chunk_chS]; unfold recvP; dsimp only; rw [pl_yn, yn_yn]
  have h₃ : (recvAny (peer c (.py k)) (.py k) : sProp 𝕄) ⊢ anyAt (peer c (.py k)) (chunk gyM (chS c k)) := by
    rw [hp, chunk_chS]; unfold recvAny; dsimp only; rw [pl_yn]
  unfold sendY
  simp only [Prog.lift]
  rw [← chunk_chS]
  iintro ⟨#HC, Hs, Hr, HR⟩
  iapply (wp_send_T m K (.py k) c (yn c) hp.symm (src := chunk colM (chS c k)) (dst := chunk gyM (chS c k)) (q := shY) (X := colv m c k) rfl rfl hN h₁ h₂ h₃ rfl rfl) $$ [Hs Hr HR]
  · isplitr; · iexact HC
    isplitl [Hs]; · iexact Hs
    isplitl [Hr]; · iexact Hr
    iexact HR
  iintro H
  iapply (doneW c); iexact H

/-- What goes on across the other axis: from `gxM` the first four chunks, -/
theorem fwdX_W (c : Dev nD) (k : Fin 8) (hk : k.val < 4) :
    iprop(Ctx m K ∗ hold c (ck gxM (pl c k)) shF (colv m (xn c) k) ∗ Ready c (.fw k) ∗ Run c (pos (.fw k)))
      ⊢ Wp c (fwdX c k) (fun _ => iprop(Sent c (.fw k) ∗ Run c (pos (.fw k) + 1))) := by
  have hp : peer c (.fw k) = yn c := by
    unfold peer; rw [show duty (.fw k) = 3 from if_pos hk]; rfl
  have hN : (chunk gdM (chX c k)).view.dmaCredit = amt (.fw k) := by rw [chunk_chX]; exact amt_fw k _
  have h₁ : (hold c (chunk gxM (chX c k)) shF (colv m (xn c) k) : sProp 𝕄) ⊢ sendP m c (.fw k) := by
    rw [chunk_chX]; unfold sendP; dsimp only; rw [if_pos hk]
  have h₂ : (hold (peer c (.fw k)) (chunk gdM (chX c k)) fullShare (colv m (xn c) k) : sProp 𝕄) ⊢ recvP m (peer c (.fw k)) (.fw k) := by
    rw [hp, chunk_chX]; unfold recvP; dsimp only; rw [pl_yn, yn_yn]
  have h₃ : (recvAny (peer c (.fw k)) (.fw k) : sProp 𝕄) ⊢ anyAt (peer c (.fw k)) (chunk gdM (chX c k)) := by
    rw [hp, chunk_chX]; unfold recvAny; dsimp only; rw [pl_yn]
  unfold fwdX
  rw [dif_pos hk]
  simp only [Prog.lift]
  rw [← chunk_chX]
  iintro ⟨#HC, Hs, Hr, HR⟩
  iapply (wp_send_T m K (.fw k) c (yn c) hp.symm (src := chunk gxM (chX c k)) (dst := chunk gdM (chX c k)) (q := shF) (X := colv m (xn c) k) (dif_pos hk).symm rfl hN h₁ h₂ h₃ rfl rfl) $$ [Hs Hr HR]
  · isplitr; · iexact HC
    isplitl [Hs]; · iexact Hs
    isplitl [Hr]; · iexact Hr
    iexact HR
  iintro H
  iapply (doneW c); iexact H

/-- from `gyM` the last four. -/
theorem fwdY_W (c : Dev nD) (k : Fin 8) (hk : ¬ k.val < 4) :
    iprop(Ctx m K ∗ hold c (ck gyM (pl c k)) shF (colv m (yn c) k) ∗ Ready c (.fw k) ∗ Run c (pos (.fw k)))
      ⊢ Wp c (fwdY c k) (fun _ => iprop(Sent c (.fw k) ∗ Run c (pos (.fw k) + 1))) := by
  have hp : peer c (.fw k) = xn c := by
    unfold peer; rw [show duty (.fw k) = 2 from if_neg hk]; rfl
  have hN : (chunk gdM (chX c k)).view.dmaCredit = amt (.fw k) := by rw [chunk_chX]; exact amt_fw k _
  have h₁ : (hold c (chunk gyM (chX c k)) shF (colv m (yn c) k) : sProp 𝕄) ⊢ sendP m c (.fw k) := by
    rw [chunk_chX]; unfold sendP; dsimp only; rw [if_neg hk]
  have h₂ : (hold (peer c (.fw k)) (chunk gdM (chX c k)) fullShare (colv m (yn c) k) : sProp 𝕄) ⊢ recvP m (peer c (.fw k)) (.fw k) := by
    rw [hp, chunk_chX]; unfold recvP; dsimp only; rw [pl_xn, xn_yn, xn_xn]
  have h₃ : (recvAny (peer c (.fw k)) (.fw k) : sProp 𝕄) ⊢ anyAt (peer c (.fw k)) (chunk gdM (chX c k)) := by
    rw [hp, chunk_chX]; unfold recvAny; dsimp only; rw [pl_xn]
  unfold fwdY
  rw [dif_neg hk]
  simp only [Prog.lift]
  rw [← chunk_chX]
  iintro ⟨#HC, Hs, Hr, HR⟩
  iapply (wp_send_T m K (.fw k) c (xn c) hp.symm (src := chunk gyM (chX c k)) (dst := chunk gdM (chX c k)) (q := shF) (X := colv m (yn c) k) (dif_neg hk).symm rfl hN h₁ h₂ h₃ rfl rfl) $$ [Hs Hr HR]
  · isplitr; · iexact HC
    isplitl [Hs]; · iexact Hs
    isplitl [Hr]; · iexact Hr
    iexact HR
  iintro H
  iapply (doneW c); iexact H

end Cert.KernelIdeal.Steps

end
-- ==== Proof.Head.lean ====
module

public import proofs.«01_k».proof.Proof.Sends

/-! # The reduce-scatter

The first block, two steps round the ring of four, the third in two halves, and the own block. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cx → ℕ)

/-- The partial sums and the residual a device is given, as it holds them. -/
def xHold (c : Dev nD) : sProp 𝕄 := hold c xM fullShare (xin m c)
def rHold (c : Dev nD) : sProp 𝕄 := hold c rM fullShare (rin m c)
/-- A local copy's semaphore at rest. -/
def lFree (c : Dev nD) (i : Fin 4) : sProp 𝕄 := semVal ((c : Thread nD τ), .dma (lsem i)) 0

/-- Loading a block of the partial sums leaves its rows in the local buffer. -/
theorem loadX_W (c : Dev nD) (o : Fin 3 → ℕ) (h : ∀ a, o a + S1x256x4096.size a ≤ S1x4096x4096.size a) (r : ℕ) :
    iprop(Ctx m K ∗ xHold m c ∗ anyAt c locM ∗ lFree c 0 ∗ Run c r)
      ⊢ Wp c (loadX o h) (fun _ => iprop(xHold m c ∗ hold c locM fullShare (xblk m c o h) ∗ lFree c 0 ∗ Run c r)) := by
  unfold loadX xHold lFree
  simp only [Prog.lift, Prog.bind_op, Prog.bind_ret, Prog.pure_eq_ret]
  have hsq : (hold c (xsl o h) fullShare (xblk m c o h) : sProp 𝕄)
      = hold c (xM.slice (Rect.unit (s := S1x4096x4096) o S1x256x4096.size h) (fun _ => rfl)) fullShare
          (fun i => xin m c ((Rect.unit (s := S1x4096x4096) o S1x256x4096.size h).emb i)) :=
    hold_squeeze c (xM.slice (Rect.unit (s := S1x4096x4096) o S1x256x4096.size h) (fun _ => rfl)) squeezes_S1x256x4096_S256x4096 fullShare
      (fun i => xin m c ((Rect.unit (s := S1x4096x4096) o S1x256x4096.size h).emb i))
  iintro ⟨#HC, Hx, Hl, Hv, HR⟩
  ihave Hx := (hold_lend c xM fullShare (Rect.unit (s := S1x4096x4096) o S1x256x4096.size h) (fun _ => rfl) (xin m c)) $$ Hx
  icases Hx with ⟨Hx, Hback⟩
  ihave Hx := (Entails.of_eq hsq.symm) $$ Hx
  iapply (wp_copy_own c (src := xsl o h) (dst := locM) (sm := cc0_scratch21.sem) (q := fullShare) (X := xblk m c o h) (by decide)) $$ [Hx Hl Hv]
  · isplitl [Hx]; · iexact Hx
    isplitl [Hl]; · iexact Hl
    iexact Hv
  iintro HF
  iapply (wp_waitL m K c 0 rfl (srcw := xsl o h) (hsrc := (View.wordExact_bits rfl).reshape _ _) (hdst := (Memref.isWhole_whole _).wordExact) (src := xsl o h) (dst := locM) (dstw := locM) rfl) $$ [HF HR]
  · isplitr; · iexact HC
    isplitl [HF]; · iexact HF
    iexact HR
  iintro ⟨Hl, Hx, Hv, HR⟩
  ihave Hx := (Entails.of_eq hsq) $$ Hx
  iapply (doneW c)
  isplitl [Hx Hback]; · iapply Hback; iexact Hx
  isplitl [Hl]; · iexact Hl
  isplitl [Hv]; · iexact Hv
  iexact HR

/-- Starting the residual's copy puts its rows on their way. -/
theorem resGo_W (c : Dev nD) :
    iprop(rHold m c ∗ anyAt c resM ∗ lFree c 1)
      ⊢ Wp c (resGo c) (fun _ => iprop(flying c (rsl c) resM cc0_scratch22.sem fullShare (rblk m c) ∗ (hold c (rsl c) fullShare (rblk m c) -∗ rHold m c))) := by
  unfold resGo rHold lFree
  simp only [Prog.lift, Prog.bind_op, Prog.bind_ret, Prog.pure_eq_ret]
  iintro ⟨Hr, Hl, Hv⟩
  ihave Hr := (hold_lend c rM fullShare (Rect.unit (s := S4096x4096) (k0_off2 c) S256x4096.size (k0_off2_inb c)) (fun _ => rfl) (rin m c)) $$ Hr
  icases Hr with ⟨Hr, Hback⟩
  iapply (wp_copy_own c (src := rsl c) (dst := resM) (sm := cc0_scratch22.sem) (q := fullShare) (X := rblk m c) (by decide)) $$ [Hr Hl Hv]
  · isplitl [Hr]; · iexact Hr
    isplitl [Hl]; · iexact Hl
    iexact Hv
  iintro HF
  iapply (doneW c)
  isplitl [HF]; · iexact HF
  iexact Hback

/-- Waiting for the residual's copy leaves its rows in their buffer. -/
theorem resWait_W (c : Dev nD) (r : ℕ) :
    iprop(Ctx m K ∗ (flying c (rsl c) resM cc0_scratch22.sem fullShare (rblk m c) ∗ (hold c (rsl c) fullShare (rblk m c) -∗ rHold m c)) ∗ Run c r)
      ⊢ Wp c (resWait c) (fun _ => iprop(rHold m c ∗ hold c resM fullShare (rblk m c) ∗ lFree c 1 ∗ Run c r)) := by
  unfold resWait lFree
  simp only [Prog.lift, Prog.bind_op, Prog.bind_ret, Prog.pure_eq_ret]
  iintro ⟨#HC, ⟨HF, Hback⟩, HR⟩
  iapply (wp_waitL m K c 1 rfl (srcw := rsl c) (hsrc := View.wordExact_bits rfl) (hdst := (Memref.isWhole_whole _).wordExact) (src := rsl c) (dst := resM) (dstw := resM) rfl) $$ [HF HR]
  · isplitr; · iexact HC
    isplitl [HF]; · iexact HF
    iexact HR
  iintro ⟨Hl, Hx, Hv, HR⟩
  iapply (doneW c)
  isplitl [Hx Hback]; · iapply Hback; iexact Hx
  isplitl [Hl]; · iexact Hl
  isplitl [Hv]; · iexact Hv
  iexact HR

/-- A load of the whole buffer reads its contents. -/
theorem whole_load {α : Type} (X : S256x4096.Idx → α) : (fun i => X (wR.emb i)) = X := funext fun i => congrArg X (wR_emb i)

/-- The first block, rounded, becomes the running sum. -/
theorem first_W (c : Dev nD) (r : ℕ) :
    iprop(Ctx m K ∗ xHold m c ∗ anyAt c locM ∗ lFree c 0 ∗ anyAt c (czS 0) ∗ Run c r)
      ⊢ Wp c (first c) (fun _ => iprop(xHold m c ∗ anyAt c locM ∗ lFree c 0
          ∗ hold c (czS 0) fullShare (sqz squeezes_S1x256x4096_S256x4096 (ps m 0 c)) ∗ Run c r)) := by
  unfold first
  simp only [Prog.lift, Prog.bind_op, Prog.bind_ret, Prog.pure_eq_ret]
  iintro ⟨#HC, Hx, Hl, Hv, Hz, HR⟩
  iapply (seqW c (loadX_W m K c (k0_off1 c) (k0_off1_inb c) r)) $$ [Hx Hl Hv HR]
  · isplitr; · iexact HC
    isplitl [Hx]; · iexact Hx
    isplitl [Hl]; · iexact Hl
    isplitl [Hv]; · iexact Hv
    iexact HR
  iintro ⟨Hx, Hl, Hv, HR⟩
  iapply (wp_load_sub c (M := locM) (r := wR) (q := fullShare) (X := xblk m c (k0_off1 c) (k0_off1_inb c))) $$ Hl
  iintro Hl
  unfold czS
  ihave Hz := (any_unsqueeze c (czM.slice (czR 0) (fun _ => rfl)) squeezes_S1x256x4096_S256x4096) $$ Hz
  icases (Entails.of_eq (show anyAt (F := F) c (czM.slice (czR 0) (fun _ => rfl)) = iprop(∃ X, hold c (czM.slice (czR 0) (fun _ => rfl)) fullShare X) from rfl)) $$ Hz with ⟨%X, Hz⟩
  iapply (wp_load_own c (M := czM) (r := czR 0) (hr := fun _ => rfl) (q := fullShare) (X := X)) $$ Hz
  iintro Hz
  ihave Hz := (hold_any c _ _) $$ Hz
  iapply (wp_store_own c (M := czM) (r := czR 0) (hr := fun _ => rfl)) $$ Hz
  iintro Hz
  iapply (doneW c)
  isplitl [Hx]; · iexact Hx
  isplitl [Hl]; · iapply (hold_any c _ _); iexact Hl
  isplitl [Hv]; · iexact Hv
  isplitl [Hz]
  · rw [hold_squeeze, whole_load]; iexact Hz
  iexact HR

/-- The running sum of the device before, and one block more. -/
theorem ps_succ (c : Dev nD) (s : Fin 2) :
    ps m (s.val + 1) c = k0_pay2 (ps m s.val (prv c)) (xblk m c (k0_off3 c (BitVec.ofNat 32 s.val)) (k0_off3_inb c s)) := by
  fin_cases s <;> rfl

/-- One step of the running sum along z: send it, load a block, receive one and add. -/
theorem rsStep_W (c : Dev nD) (s : Fin 2) :
    iprop(Ctx m K ∗ hold c (czS (up2 s)) fullShare (sqz squeezes_S1x256x4096_S256x4096 (ps m s.val c)) ∗ Ready c (.rs s) ∗ Await c (.rs s)
        ∗ xHold m c ∗ anyAt c locM ∗ lFree c 0 ∗ Run c s.val)
      ⊢ Wp c (rsStep c s) (fun _ => iprop(sendP m c (.rs s) ∗ Over c (some (.rs s, false)) ∗ Over c (some (.rs s, true))
          ∗ hold c (czS (up2' s)) fullShare (sqz squeezes_S1x256x4096_S256x4096 (ps m (s.val + 1) c))
          ∗ xHold m c ∗ anyAt c locM ∗ lFree c 0 ∗ Run c (s.val + 1))) := by
  have h₁ : (hold c (czS (up2 s)) fullShare (sqz squeezes_S1x256x4096_S256x4096 (ps m s.val c)) : sProp 𝕄) ⊢ sendP m c (.rs s) := BIBase.Entails.rfl
  have h₂ : (hold (peer c (.rs s)) (czS (up2' s)) fullShare (sqz squeezes_S1x256x4096_S256x4096 (ps m s.val c)) : sProp 𝕄) ⊢ recvP m (peer c (.rs s)) (.rs s) := by
    rw [show peer c (.rs s) = nxt c from rfl]; unfold recvP; dsimp only; rw [prv_nxt]
  have h₃ : (recvAny (peer c (.rs s)) (.rs s) : sProp 𝕄) ⊢ anyAt (peer c (.rs s)) (czS (up2' s)) := BIBase.Entails.rfl
  have hN : (czS (up2' s)).view.dmaCredit = amt (.rs s) := rfl
  unfold rsStep
  simp only [Prog.lift, Prog.bind_op, Prog.bind_ret, Prog.pure_eq_ret]
  iintro ⟨#HC, Hs, Hr, Ha, Hx, Hl, Hv, HR⟩
  iapply (wp_send_T m K (.rs s) c (nxt c) rfl (src := czS (up2 s)) (dst := czS (up2' s)) (q := fullShare)
      (X := sqz squeezes_S1x256x4096_S256x4096 (ps m s.val c)) rfl rfl hN h₁ h₂ h₃ (n := s.val) (n' := s.val + 1) rfl rfl) $$ [Hs Hr HR]
  · isplitr; · iexact HC
    isplitl [Hs]; · iexact Hs
    isplitl [Hr]; · iexact Hr
    iexact HR
  iintro ⟨Hsent, HR⟩
  iapply (seqW c (loadX_W m K c (k0_off3 c (BitVec.ofNat 32 s.val)) (k0_off3_inb c s) (s.val + 1))) $$ [Hx Hl Hv HR]
  · isplitr; · iexact HC
    isplitl [Hx]; · iexact Hx
    isplitl [Hl]; · iexact Hl
    isplitl [Hv]; · iexact Hv
    iexact HR
  iintro ⟨Hx, Hl, Hv, HR⟩
  iapply (wp_waitS m K (.rs s) c rfl (src := czS (up2' s)) (dst := czS (up2 s)) (hsrc := czS_we _) (hdst := czS_we _) (amt_rsS s) (n := s.val + 1)) $$ [Hsent HR]
  · isplitr; · iexact HC
    isplitl [Hsent]; · iexact Hsent
    iexact HR
  iintro ⟨Hsp, Ho, HR⟩
  iapply (wp_waitR m K (.rs s) c rfl (src := czS (up2 s)) (dst := czS (up2' s)) (hsrc := czS_we _) (hdst := czS_we _) hN (n := s.val + 1) (Nat.lt_succ_self s.val)) $$ [Ha HR]
  · isplitr; · iexact HC
    isplitl [Ha]; · iexact Ha
    iexact HR
  iintro ⟨Hz, Ho', HR⟩
  ihave Hz := (show recvP m c (.rs s) ⊢ hold c (czM.slice (czR (up2' s)) (fun _ => rfl)) fullShare (ps m s.val (prv c)) from by
    unfold recvP czS; dsimp only; rw [hold_squeeze]) $$ Hz
  iapply (wp_load_own c (M := czM) (r := czR (up2' s)) (hr := fun _ => rfl) (q := fullShare) (X := ps m s.val (prv c))) $$ Hz
  iintro Hz
  iapply (wp_load_sub c (M := locM) (r := wR) (q := fullShare) (X := xblk m c (k0_off3 c (BitVec.ofNat 32 s.val)) (k0_off3_inb c s))) $$ Hl
  iintro Hl
  iapply (wp_load_own c (M := czM) (r := czR (up2' s)) (hr := fun _ => rfl) (q := fullShare) (X := ps m s.val (prv c))) $$ Hz
  iintro Hz
  ihave Hz := (hold_any c _ _) $$ Hz
  iapply (wp_store_own c (M := czM) (r := czR (up2' s)) (hr := fun _ => rfl)) $$ Hz
  iintro Hz
  iapply (doneW c)
  isplitl [Hsp]; · iexact Hsp
  isplitl [Ho]; · iexact Ho
  isplitl [Ho']; · iexact Ho'
  isplitl [Hz]
  · unfold czS
    rw [hold_squeeze, whole_load, ps_succ]; iexact Hz
  isplitl [Hx]; · iexact Hx
  isplitl [Hl]; · iapply (hold_any c _ _); iexact Hl
  isplitl [Hv]; · iexact Hv
  iexact HR

/-- Half of the sum of three sets off to the next device. -/
theorem lastGo_W (c : Dev nD) (h : Fin 2) :
    iprop(Ctx m K ∗ hold c (czH 2 h) fullShare (sqz squeezes_S1x128x4096_S128x4096 (ph m c h)) ∗ Ready c (.rh h) ∗ Run c (2 + h.val))
      ⊢ Wp c (lastGo c h) (fun _ => iprop(Sent c (.rh h) ∗ Run c (2 + h.val + 1))) := by
  have h₁ : (hold c (czH 2 h) fullShare (sqz squeezes_S1x128x4096_S128x4096 (ph m c h)) : sProp 𝕄) ⊢ sendP m c (.rh h) := BIBase.Entails.rfl
  have h₂ : (hold (peer c (.rh h)) (czH 3 h) fullShare (sqz squeezes_S1x128x4096_S128x4096 (ph m c h)) : sProp 𝕄) ⊢ recvP m (peer c (.rh h)) (.rh h) := by
    rw [show peer c (.rh h) = nxt c from rfl]; unfold recvP; dsimp only; rw [prv_nxt]
  have h₃ : (recvAny (peer c (.rh h)) (.rh h) : sProp 𝕄) ⊢ anyAt (peer c (.rh h)) (czH 3 h) := BIBase.Entails.rfl
  have hN : (czH 3 h).view.dmaCredit = amt (.rh h) := rfl
  unfold lastGo
  simp only [Prog.lift, Prog.bind_op, Prog.bind_ret, Prog.pure_eq_ret]
  iintro ⟨#HC, Hs, Hr, HR⟩
  iapply (wp_send_T m K (.rh h) c (nxt c) rfl (src := czH 2 h) (dst := czH 3 h) (q := fullShare)
      (X := sqz squeezes_S1x128x4096_S128x4096 (ph m c h)) rfl rfl hN h₁ h₂ h₃ (n := 2 + h.val) (n' := 2 + h.val + 1) rfl rfl) $$ [Hs Hr HR]
  · isplitr; · iexact HC
    isplitl [Hs]; · iexact Hs
    isplitl [Hr]; · iexact Hr
    iexact HR
  iintro H
  iapply (doneW c); iexact H

/-- Half of the sum of three has arrived, and the one sent is back. -/
theorem lastWait_W (c : Dev nD) (h : Fin 2) (n : ℕ) (hn : 4 ≤ n) :
    iprop(Ctx m K ∗ Sent c (.rh h) ∗ Await c (.rh h) ∗ Run c n)
      ⊢ Wp c (lastWait c h) (fun _ => iprop(sendP m c (.rh h) ∗ recvP m c (.rh h) ∗ Over c (some (.rh h, false)) ∗ Over c (some (.rh h, true)) ∗ Run c n)) := by
  have hN : (czH 3 h).view.dmaCredit = amt (.rh h) := rfl
  unfold lastWait
  simp only [Prog.lift, Prog.bind_op, Prog.bind_ret, Prog.pure_eq_ret]
  iintro ⟨#HC, Hs, Ha, HR⟩
  iapply (wp_waitS m K (.rh h) c rfl (src := czH 3 h) (dst := czH 2 h) (hsrc := czH_we _ _) (hdst := czH_we _ _) (amt_rhS h) (n := n)) $$ [Hs HR]
  · isplitr; · iexact HC
    isplitl [Hs]; · iexact Hs
    iexact HR
  iintro ⟨Hsp, Ho, HR⟩
  iapply (wp_waitR m K (.rh h) c rfl (src := czH 2 h) (dst := czH 3 h) (hsrc := czH_we _ _) (hdst := czH_we _ _) hN (n := n)
      (show 2 + h.val < n by omega)) $$ [Ha HR]
  · isplitr; · iexact HC
    isplitl [Ha]; · iexact Ha
    iexact HR
  iintro ⟨Hz, Ho', HR⟩
  iapply (doneW c)
  isplitl [Hsp]; · iexact Hsp
  isplitl [Hz]; · iexact Hz
  isplitl [Ho]; · iexact Ho
  isplitl [Ho']; · iexact Ho'
  iexact HR

end Cert.KernelIdeal.Steps

end
-- ==== Proof.Chain.lean ====
module

public import proofs.«01_k».proof.Proof.Head

/-! # The all-gather

The own block in two halves, then the chunks along z, across x and y, and diagonally; and the waits for the sends. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cx → ℕ)

/-- Whole ownership splits into four shares: for the copies along z, x and y, and for the device's own reading. -/
theorem hold_quarters (c : Dev nD) {sp : Space} {sh : Shape} {e : EltTy} (M : Memref sig .tc sp sh e) (X : sh.Idx → Elt F e) :
    (hold c M fullShare X : sProp 𝕄) ⊢ iprop(hold c M shZ X ∗ hold c M shX X ∗ hold c M shY X ∗ hold c M shL X) := by
  iintro H
  ihave H := (hold_halves c M fullShare X) $$ H
  icases H with ⟨Hl, Hr⟩
  ihave Hl := (hold_halves c M (fullShare : PosShare TreeShare).left X) $$ Hl
  icases Hl with ⟨H1, H2⟩
  ihave Hr := (hold_halves c M (fullShare : PosShare TreeShare).right X) $$ Hr
  icases Hr with ⟨H3, H4⟩
  isplitl [H1]; · iexact H1
  isplitl [H2]; · iexact H2
  isplitl [H3]; · iexact H3
  iexact H4

/-! ## The own block -/

abbrev k6 (h : Fin 2) : Fin 6 := ⟨h.val, by omega⟩
abbrev k8 (h : Fin 2) : Fin 8 := ⟨h.val, by omega⟩

/-- The rows that a device stores its normalised half block into are a chunk of its column. -/
theorem st_eq (c : Dev nD) (h : Fin 2) :
    (colM.slice (stR c h) (fun _ => rfl) : Memref sig .tc .vmem S128x4096 .bf16) = ck colM (pl c (k8 h)) := by
  have e : ∀ (o : Fin 2 → ℕ) (inb : ∀ a, o a + S128x4096.size a ≤ S1024x4096.size a), o = ![128 * (pl c (k8 h)).val, 0]
      → (colM.slice (Rect.unit (s := S1024x4096) o S128x4096.size inb) (fun _ => rfl) : Memref sig .tc .vmem S128x4096 .bf16) = ck colM (pl c (k8 h)) := by
    rintro o inb rfl; rfl
  exact e _ _ (st_o c h)

/-- The first two chunks of a column are the device's own block. -/
theorem colv_own (c : Dev nD) (h : Fin 2) : colv m c (k8 h) = oB m c h := by
  have h1 : (k8 h).val / 2 = 0 := by show h.val / 2 = 0; omega
  have h2 : hOf (k8 h) = h := Fin.ext (by show h.val % 2 = h.val; omega)
  unfold colv
  rw [h1, h2]; rfl

/-- The first two write-backs write the own block's unrounded rows. -/
theorem outv_own (c : Dev nD) (h : Fin 2) : outv m c (fi h.val) = k0_pay10 (oF m c h) := by
  have h1 : (fi h.val).val = h.val := fi_val (by omega)
  have h2 : (Fin.ofNat 2 (fi h.val).val : Fin 2) = h := Fin.ext (by rw [h1]; show h.val % 2 = h.val; omega)
  unfold outv
  rw [if_pos (by rw [h1]; omega), h2]

/-- The three copies of an own half block set off one after another. -/
theorem pos_own (h : Fin 2) : pos (.ag (k6 h)) = 4 + 3 * h.val ∧ pos (.ag (k6 h)) + 1 = pos (.px (k8 h)) ∧ pos (.px (k8 h)) + 1 = pos (.py (k8 h))
    ∧ pos (.py (k8 h)) + 1 = 7 + 3 * h.val := by revert h; decide

/-- Copies of chunk `k` sent three ways, from a chunk just there. -/
theorem own_W (c : Dev nD) (h : Fin 2) (q : PosShare TreeShare) :
    iprop(Ctx m K ∗ recvP m c (.rh h) ∗ hold c locM fullShare (xblk m c (k0_off4 c) (k0_off4_inb c)) ∗ hold c resM fullShare (rblk m c) ∗ hold c gamM q (gin m c)
        ∗ anyAt c (ck colM (pl c (k8 h))) ∗ Ready c (.ag (k6 h)) ∗ Ready c (.px (k8 h)) ∗ Ready c (.py (k8 h)) ∗ ybFree c (par h.val) ∗ outAny c h.val ∗ Run c (4 + 3 * h.val))
      ⊢ Wp c (own c h) (fun _ => iprop(recvP m c (.rh h) ∗ hold c locM fullShare (xblk m c (k0_off4 c) (k0_off4_inb c)) ∗ hold c resM fullShare (rblk m c) ∗ hold c gamM q (gin m c)
        ∗ hold c (ck colM (pl c (k8 h))) shL (colv m c (k8 h)) ∗ Sent c (.ag (k6 h)) ∗ Sent c (.px (k8 h)) ∗ Sent c (.py (k8 h)) ∗ Fl m c h.val ∗ Run c (7 + 3 * h.val))) := by
  have hz : (recvP m c (.rh h) : sProp 𝕄) = hold c (czM.slice (czhR 3 h) (fun _ => rfl)) fullShare (ph m (prv c) h) := by
    unfold recvP czH; dsimp only; rw [hold_squeeze]
  have hcol : ∀ X : S128x4096.Idx → Elt F .bf16, (hold c (ck colM (pl c (k8 h))) fullShare X : sProp 𝕄) = hold c (colM.slice (stR c h) (fun _ => rfl)) fullShare X := by
    intro X; exact congrArg (fun M => (hold c M fullShare X : sProp 𝕄)) (st_eq c h).symm
  obtain ⟨p1, p2, p3, p4⟩ := pos_own h
  rw [hz]
  unfold own
  simp only [Prog.lift, Prog.bind_op, Prog.bind_ret, Prog.pure_eq_ret]
  iintro ⟨#HC, Hz, Hl, Hr, Hg, Hc, HrZ, HrX, HrY, Hy, Ho, HR⟩
  icases (Entails.of_eq (show anyAt (F := F) c (ck colM (pl c (k8 h))) = iprop(∃ X, hold c (ck colM (pl c (k8 h))) fullShare X) from rfl)) $$ Hc with ⟨%X, Hc⟩
  iapply (wp_load_own c (M := czM) (r := czhR 3 h) (hr := fun _ => rfl) (q := fullShare) (X := ph m (prv c) h)) $$ Hz
  iintro Hz
  iapply (wp_load_sub c (M := locM) (r := lhR h) (q := fullShare) (X := xblk m c (k0_off4 c) (k0_off4_inb c))) $$ Hl
  iintro Hl
  iapply (wp_load_sub c (M := resM) (r := lhR h) (q := fullShare) (X := rblk m c)) $$ Hr
  iintro Hr
  iapply (wp_load_sub c (M := gamM) (r := Rect.unit (s := S4096) ![0] S4096.size inb_S4096_S4096_0) (q := q) (X := gin m c)) $$ Hg
  iintro Hg
  ihave Hc := (Entails.of_eq (hcol X)) $$ Hc
  iapply (wp_load_own c (M := colM) (r := stR c h) (hr := fun _ => rfl) (q := fullShare) (X := X)) $$ [Hc]
  · iexact Hc
  iintro Hc
  ihave Hc := (hold_any c (colM.slice (stR c h) (fun _ => rfl)) X) $$ [Hc]
  · iexact Hc
  iapply (wp_store_own c (M := colM) (r := stR c h) (hr := fun _ => rfl)) $$ [Hc]
  · iexact Hc
  iintro Hc
  ihave Hc := (Entails.of_eq (hcol (colv m c (k8 h))).symm) $$ [Hc]
  · rw [colv_own]; iexact Hc
  ihave Hc := (hold_quarters c _ _) $$ Hc
  icases Hc with ⟨HcZ, HcX, HcY, HcL⟩
  iapply (seqW c (sendZ_W m K c (k6 h))) $$ [HcZ HrZ HR]
  · isplitr; · iexact HC
    isplitl [HcZ]; · iexact HcZ
    isplitl [HrZ]; · iexact HrZ
    rw [p1]; iexact HR
  iintro ⟨HsZ, HR⟩
  iapply (seqW c (sendX_W m K c (k8 h))) $$ [HcX HrX HR]
  · isplitr; · iexact HC
    isplitl [HcX]; · iexact HcX
    isplitl [HrX]; · iexact HrX
    rw [← p2]; iexact HR
  iintro ⟨HsX, HR⟩
  iapply (seqW c (sendY_W m K c (k8 h))) $$ [HcY HrY HR]
  · isplitr; · iexact HC
    isplitl [HcY]; · iexact HcY
    isplitl [HrY]; · iexact HrY
    rw [← p3]; iexact HR
  iintro ⟨HsY, HR⟩
  iapply (wp_wand_r (Fr := frame) (wpE := wpE (defs₀ (F := F)) 𝒱₀ (c : Thread nD τ) none) (E := Set.univ) (Q := fun _ => Fl m c h.val))
  isplitl [Hy Ho]
  · iapply (ybGo_W m c h.val _ (outv_own m c h).symm)
    isplitl [Hy]; · iexact Hy
    iexact Ho
  iintro %a HF
  isplitl [Hz]; · iexact Hz
  isplitl [Hl]; · iexact Hl
  isplitl [Hr]; · iexact Hr
  isplitl [Hg]; · iexact Hg
  isplitl [HcL]; · iexact HcL
  isplitl [HsZ]; · iexact HsZ
  isplitl [HsX]; · iexact HsX
  isplitl [HsY]; · iexact HsY
  isplitl [HF]; · iexact HF
  rw [← p4]; iexact HR

/-! ## The chain along z -/

abbrev z8 (j : Fin 6) : Fin 8 := ⟨j.val + 2, by omega⟩
/-- How many copies have set off before step `j`. -/
def zp (j : ℕ) : ℕ := if j < 4 then 10 + 3 * j else 22 + 2 * (j - 4)

/-- Chunk `n` on its way along z. -/
def zFly (c : Dev nD) (n : ℕ) : sProp 𝕄 := if h : n < 6 then Sent c (.ag ⟨n, h⟩) else iprop(emp)

def zI (c : Dev nD) (j : ℕ) : sProp 𝕄 := iprop(Ctx m K ∗ Run c (zp j) ∗ zFly c j ∗ zFly c (j + 1) ∗ OutS m c j)
def zA (c : Dev nD) (j : Fin 6) : sProp 𝕄 :=
  iprop(Await c (.ag j) ∗ Ready (F := F) c (.px (z8 j)) ∗ Ready (F := F) c (.py (z8 j)) ∗ if h : j.val < 4 then Ready (F := F) c (.ag ⟨j.val + 2, by omega⟩) else iprop(emp))
def zB (c : Dev nD) (j : Fin 6) : sProp 𝕄 :=
  iprop(sendP m c (.ag j) ∗ Over c (some (.ag j, false)) ∗ Over c (some (.ag j, true)) ∗ Sent c (.px (z8 j)) ∗ Sent c (.py (z8 j))
    ∗ hold c (ck colM (pl c (z8 j))) shL (colv m c (z8 j)) ∗ if j.val < 4 then iprop(emp) else hold c (ck colM (pl c (z8 j))) shZ (colv m c (z8 j)))

/-- A copy along z is waited for after it has set off. -/
theorem zp_lt (j : Fin 6) : pos (.ag j) < zp j.val := by revert j; decide
/-- A chunk passed on along z sets off first of its step, then its copy along x. -/
theorem zp_ag (j : Fin 6) (h : j.val < 4) : zp j.val = pos (.ag ⟨j.val + 2, by omega⟩) ∧ pos (.ag ⟨j.val + 2, by omega⟩) + 1 = pos (.px (z8 j)) := by revert j; decide
/-- A chunk that is not passed on along z starts its step with the copy along x. -/
theorem zp_px (j : Fin 6) (h : ¬ j.val < 4) : zp j.val = pos (.px (z8 j)) := by revert j; decide
/-- A step ends with the copies along x and y. -/
theorem zp_py (j : Fin 6) : pos (.px (z8 j)) + 1 = pos (.py (z8 j)) ∧ pos (.py (z8 j)) + 1 = zp (j.val + 1) := by revert j; decide
/-- What a step writes back is the chunk that came along z. -/
theorem z_src (c : Dev nD) (j : Fin 6) : srcN c (fi (j.val + 2)) = c ∧ kN (fi (j.val + 2)) = z8 j := by revert c j; decide +kernel

/-- The end of a step: across x, across y, and written back. -/
theorem zTail_W (c : Dev nD) (j : Fin 6) :
    iprop(Ctx m K ∗ hold c (ck colM (pl c (z8 j))) shX (colv m c (z8 j)) ∗ hold c (ck colM (pl c (z8 j))) shY (colv m c (z8 j))
        ∗ hold c (ck colM (pl c (z8 j))) shL (colv m c (z8 j)) ∗ Ready c (.px (z8 j)) ∗ Ready c (.py (z8 j)) ∗ OutS m c j.val ∗ Run c (pos (.px (z8 j))))
      ⊢ Wp c (do sendX c (z8 j); sendY c (z8 j); emit c colM (z8 j) (j.val + 2))
          (fun _ => iprop(Sent c (.px (z8 j)) ∗ Sent c (.py (z8 j)) ∗ hold c (ck colM (pl c (z8 j))) shL (colv m c (z8 j)) ∗ OutS m c (j.val + 1) ∗ Run c (zp (j.val + 1)))) := by
  obtain ⟨p2, p3⟩ := zp_py j
  iintro ⟨#HC, HcX, HcY, HcL, HrX, HrY, HO, HR⟩
  iapply (seqW c (sendX_W m K c (z8 j))) $$ [HcX HrX HR]
  · isplitr; · iexact HC
    isplitl [HcX]; · iexact HcX
    isplitl [HrX]; · iexact HrX
    iexact HR
  iintro ⟨HsX, HR⟩
  iapply (seqW c (sendY_W m K c (z8 j))) $$ [HcY HrY HR]
  · isplitr; · iexact HC
    isplitl [HcY]; · iexact HcY
    isplitl [HrY]; · iexact HrY
    rw [← p2]; iexact HR
  iintro ⟨HsY, HR⟩
  iapply (wp_wand_r (Fr := frame) (wpE := wpE (defs₀ (F := F)) 𝒱₀ (c : Thread nD τ) none) (E := Set.univ)
    (Q := fun _ => iprop(hold c (ck colM (pl c (z8 j))) shL (colv m c (z8 j)) ∗ OutS m c (j.val + 1) ∗ Run c (zp (j.val + 1)))))
  isplitl [HcL HO HR]
  · iapply (emit_W m K c c colM (z8 j) j.val (zp (j.val + 1)) (by omega) shL (z_src c j).1 (z_src c j).2)
    isplitr; · iexact HC
    isplitl [HcL]; · iexact HcL
    isplitl [HO]; · iexact HO
    rw [← p3]; iexact HR
  iintro %a ⟨HcL, HO, HR⟩
  isplitl [HsX]; · iexact HsX
  isplitl [HsY]; · iexact HsY
  isplitl [HcL]; · iexact HcL
  isplitl [HO]; · iexact HO
  iexact HR

/-- One step of the chain along z runs from its invariant to the next. -/
theorem zStep_W (c : Dev nD) (j : Fin 6) : iprop(zI m K c j.val ∗ zA c j) ⊢ Wp c (zStep c j) (fun _ => iprop(zI m K c (j.val + 1) ∗ zB m c j)) := by
  have hN : (chunk colM (chS c ⟨j.val, by omega⟩)).view.dmaCredit = amt (.ag j) := by rw [chunk_chS]; exact amt_ag j _
  have hf : (zFly c j.val : sProp 𝕄) = Sent c (.ag j) := dif_pos j.isLt
  unfold zI zA zB zStep
  rw [hf]
  simp only [Prog.lift, Prog.bind_op, Prog.bind_ret, Prog.pure_eq_ret]
  iintro ⟨⟨#HC, HR, HS, HS', HO⟩, ⟨Ha, HrX, HrY, HrZ⟩⟩
  iapply (wp_waitS m K (.ag j) c rfl (src := chunk colM (chS c ⟨j.val, by omega⟩)) (dst := chunk colM (chS c ⟨j.val, by omega⟩))
      (hsrc := chunk_we (Memref.isWhole_whole _) _) (hdst := chunk_we (Memref.isWhole_whole _) _) hN (n := zp j.val)) $$ [HS HR]
  · isplitr; · iexact HC
    isplitl [HS]; · iexact HS
    iexact HR
  iintro ⟨Hsp, Ho, HR⟩
  iapply (wp_waitR m K (.ag j) c rfl (src := chunk colM (chS c ⟨j.val, by omega⟩)) (dst := chunk colM (chS c ⟨j.val, by omega⟩))
      (hsrc := chunk_we (Memref.isWhole_whole _) _) (hdst := chunk_we (Memref.isWhole_whole _) _) hN (n := zp j.val) (zp_lt j)) $$ [Ha HR]
  · isplitr; · iexact HC
    isplitl [Ha]; · iexact Ha
    iexact HR
  iintro ⟨Hc, Ho', HR⟩
  ihave Hc := (show recvP m c (.ag j) ⊢ _ from hold_quarters c (ck colM (pl c (z8 j))) (colv m c (z8 j))) $$ Hc
  icases Hc with ⟨HcZ, HcX, HcY, HcL⟩
  by_cases h4 : j.val < 4
  · have hf2 : (zFly c (j.val + 1 + 1) : sProp 𝕄) = Sent c (.ag ⟨j.val + 2, by omega⟩) := dif_pos (by omega)
    obtain ⟨p1, p2⟩ := zp_ag j h4
    rw [hf2]
    simp only [dif_pos h4, if_pos h4]
    have hlt : j.val + 2 < 6 := by omega
    iapply (seqW c (sendZ_W m K c ⟨j.val + 2, hlt⟩)) $$ [HcZ HrZ HR]
    · isplitr; · iexact HC
      isplitl [HcZ]; · iexact HcZ
      isplitl [HrZ]; · iexact HrZ
      rw [← p1]; iexact HR
    iintro ⟨HsZ, HR⟩
    iapply (wp_wand_r (Fr := frame) (wpE := wpE (defs₀ (F := F)) 𝒱₀ (c : Thread nD τ) none) (E := Set.univ)
      (Q := fun _ => iprop(Sent c (.px (z8 j)) ∗ Sent c (.py (z8 j)) ∗ hold c (ck colM (pl c (z8 j))) shL (colv m c (z8 j)) ∗ OutS m c (j.val + 1) ∗ Run c (zp (j.val + 1)))))
    isplitl [HcX HcY HcL HrX HrY HO HR]
    · iapply (zTail_W m K c j)
      isplitr; · iexact HC
      isplitl [HcX]; · iexact HcX
      isplitl [HcY]; · iexact HcY
      isplitl [HcL]; · iexact HcL
      isplitl [HrX]; · iexact HrX
      isplitl [HrY]; · iexact HrY
      isplitl [HO]; · iexact HO
      rw [← p2]; iexact HR
    iintro %a ⟨HsX, HsY, HcL, HO, HR⟩
    isplitl [HR HS' HsZ HO]
    · isplitr; · iexact HC
      isplitl [HR]; · iexact HR
      isplitl [HS']; · iexact HS'
      isplitl [HsZ]; · iexact HsZ
      iexact HO
    isplitl [Hsp]; · iexact Hsp
    isplitl [Ho]; · iexact Ho
    isplitl [Ho']; · iexact Ho'
    isplitl [HsX]; · iexact HsX
    isplitl [HsY]; · iexact HsY
    isplitl [HcL]; · iexact HcL
    iempintro
  · have hf2 : (zFly c (j.val + 1 + 1) : sProp 𝕄) = iprop(emp) := dif_neg (by omega)
    rw [hf2]
    simp only [dif_neg h4, if_neg h4, Prog.bind_ret]
    iapply (wp_wand_r (Fr := frame) (wpE := wpE (defs₀ (F := F)) 𝒱₀ (c : Thread nD τ) none) (E := Set.univ)
      (Q := fun _ => iprop(Sent c (.px (z8 j)) ∗ Sent c (.py (z8 j)) ∗ hold c (ck colM (pl c (z8 j))) shL (colv m c (z8 j)) ∗ OutS m c (j.val + 1) ∗ Run c (zp (j.val + 1)))))
    isplitl [HcX HcY HcL HrX HrY HO HR]
    · iapply (zTail_W m K c j)
      isplitr; · iexact HC
      isplitl [HcX]; · iexact HcX
      isplitl [HcY]; · iexact HcY
      isplitl [HcL]; · iexact HcL
      isplitl [HrX]; · iexact HrX
      isplitl [HrY]; · iexact HrY
      isplitl [HO]; · iexact HO
      rw [← zp_px j h4]; iexact HR
    iintro %a ⟨HsX, HsY, HcL, HO, HR⟩
    isplitl [HR HS' HrZ HO]
    · isplitr; · iexact HC
      isplitl [HR]; · iexact HR
      isplitl [HS']; · iexact HS'
      isplitl [HrZ]; · iexact HrZ
      iexact HO
    isplitl [Hsp]; · iexact Hsp
    isplitl [Ho]; · iexact Ho
    isplitl [Ho']; · iexact Ho'
    isplitl [HsX]; · iexact HsX
    isplitl [HsY]; · iexact HsY
    isplitl [HcL]; · iexact HcL
    iexact HcZ

end Cert.KernelIdeal.Steps

end
-- ==== Proof.Cross.lean ====
module

public import proofs.«01_k».proof.Proof.Chain

/-! # The neighbours' columns

The chunks that arrive from across x, across y and from the diagonal device, and the waits for the sends. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cx → ℕ)

/-! ## Across x and across y -/

/-- The copies passed on are the last eight. -/
theorem pos_fw (k : Fin 8) : pos (.fw k) = 26 + k.val := rfl
/-- A chunk is waited for after the device's own copies along x and y have set off. -/
theorem px_lt (k : Fin 8) : pos (.px k) < 26 + k.val ∧ pos (.py k) < 26 + k.val + 1 ∧ pos (.py k) < 26 + k.val := by revert k; decide
/-- What is written back of the x neighbour's column at a step. -/
theorem x_src (c : Dev nD) (k : Fin 8) : srcN c (fi (6 + 2 * k.val + 2)) = xn c ∧ kN (fi (6 + 2 * k.val + 2)) = k := by revert c k; decide +kernel
/-- What is written back of the y neighbour's column at a step. -/
theorem y_src (c : Dev nD) (k : Fin 8) : srcN c (fi (6 + 2 * k.val + 1 + 2)) = yn c ∧ kN (fi (6 + 2 * k.val + 1 + 2)) = k := by revert c k; decide +kernel
/-- What is written back of the diagonal device's column at a step. -/
theorem g_src (c : Dev nD) (k : Fin 8) : srcN c (fi (22 + k.val + 2)) = xn (yn c) ∧ kN (fi (22 + k.val + 2)) = k := by revert c k; decide +kernel

/-- How many copies have set off between the two. -/
def midN (k : Fin 8) : ℕ := if k.val < 4 then 26 + k.val + 1 else 26 + k.val
/-- The wait for a chunk along y comes after the device's own copy along y. -/
theorem midN_py (k : Fin 8) : pos (.py k) < midN k := by revert k; decide
def midP (c : Dev nD) (k : Fin 8) : sProp 𝕄 :=
  if k.val < 4 then Sent c (.fw k) else iprop(hold c (ck gxM (pl c k)) shF (colv m (xn c) k) ∗ Ready (F := F) c (.fw k))
/-- The half the diagonal copy did not take. -/
def restP (c : Dev nD) (k : Fin 8) : sProp 𝕄 :=
  if k.val < 4 then hold c (ck gyM (pl c k)) shF (colv m (yn c) k) else hold c (ck gxM (pl c k)) shF (colv m (xn c) k)

/-- Passing on a chunk of the x neighbour, where the step does so. -/
theorem fwdX_mid (c : Dev nD) (k : Fin 8) :
    iprop(Ctx m K ∗ hold c (ck gxM (pl c k)) shF (colv m (xn c) k) ∗ Ready c (.fw k) ∗ Run c (26 + k.val))
      ⊢ Wp c (fwdX c k) (fun _ => iprop(midP m c k ∗ Run c (midN k))) := by
  by_cases h : k.val < 4
  · unfold midP midN
    simp only [if_pos h]
    exact fwdX_W m K c k h
  · unfold midP midN fwdX
    simp only [if_neg h, dif_neg h, Prog.pure_eq_ret]
    iintro ⟨HC, Hx, Hr, HR⟩
    iapply (doneW c)
    isplitl [Hx Hr]
    · isplitl [Hx]; · iexact Hx
      iexact Hr
    iexact HR

/-- Passing on a chunk of the y neighbour, where the step does so. -/
theorem fwdY_mid (c : Dev nD) (k : Fin 8) :
    iprop(Ctx m K ∗ midP m c k ∗ hold c (ck gyM (pl c k)) shF (colv m (yn c) k) ∗ Run c (midN k))
      ⊢ Wp c (fwdY c k) (fun _ => iprop(Sent c (.fw k) ∗ restP m c k ∗ Run c (26 + k.val + 1))) := by
  by_cases h : k.val < 4
  · unfold midP midN restP fwdY
    simp only [if_pos h, dif_pos h, Prog.pure_eq_ret]
    iintro ⟨HC, Hs, Hy, HR⟩
    iapply (doneW c)
    isplitl [Hs]; · iexact Hs
    isplitl [Hy]; · iexact Hy
    iexact HR
  · unfold midP midN restP
    simp only [if_neg h]
    iintro ⟨HC, ⟨Hx, Hr⟩, Hy, HR⟩
    iapply (wp_wand_r (Fr := frame) (wpE := wpE (defs₀ (F := F)) 𝒱₀ (c : Thread nD τ) none) (E := Set.univ)
      (Q := fun _ => iprop(Sent c (.fw k) ∗ Run c (26 + k.val + 1))))
    isplitl [HC Hr Hy HR]
    · iapply (fwdY_W m K c k h)
      isplitl [HC]; · iexact HC
      isplitl [Hy]; · iexact Hy
      isplitl [Hr]; · iexact Hr
      iexact HR
    iintro %a ⟨HS, HR⟩
    isplitl [HS]; · iexact HS
    isplitl [Hx]; · iexact Hx
    iexact HR

def xyI (c : Dev nD) (k : ℕ) : sProp 𝕄 := iprop(Ctx m K ∗ Run c (26 + k) ∗ OutS m c (6 + 2 * k))
def xyA (c : Dev nD) (k : Fin 8) : sProp 𝕄 := iprop(Await c (.px k) ∗ Await c (.py k) ∗ Ready (F := F) c (.fw k))
def xyB (c : Dev nD) (k : Fin 8) : sProp 𝕄 :=
  iprop(Over c (some (.px k, true)) ∗ Over c (some (.py k, true)) ∗ Sent c (.fw k) ∗ restP m c k
    ∗ hold c (ck gxM (pl c k)) shG (colv m (xn c) k) ∗ hold c (ck gyM (pl c k)) shG (colv m (yn c) k))

/-- One step of the exchange along x and y runs from its invariant to the next. -/
theorem xyStep_W (c : Dev nD) (k : Fin 8) : iprop(xyI m K c k.val ∗ xyA c k) ⊢ Wp c (xyStep c k) (fun _ => iprop(xyI m K c (k.val + 1) ∗ xyB m c k)) := by
  have hNx : (chunk gxM (chX c k)).view.dmaCredit = amt (.px k) := by rw [chunk_chX]; exact amt_px k _
  have hNy : (chunk gyM (chX c k)).view.dmaCredit = amt (.py k) := by rw [chunk_chX]; exact amt_py k _
  have e1 : 8 + 2 * k.val = 6 + 2 * k.val + 2 := by omega
  have e2 : 9 + 2 * k.val = 6 + 2 * k.val + 1 + 2 := by omega
  have e3 : 6 + 2 * (k.val + 1) = 6 + 2 * k.val + 1 + 1 := by omega
  unfold xyI xyA xyB xyStep chWait
  rw [e1, e2, e3]
  simp only [Prog.lift, Prog.bind_op, Prog.bind_ret, Prog.pure_eq_ret]
  iintro ⟨⟨#HC, HR, HO⟩, ⟨Hax, Hay, Hr⟩⟩
  iapply (wp_waitR m K (.px k) c rfl (src := chunk gxM (chX c k)) (dst := chunk gxM (chX c k))
      (hsrc := chunk_we (Memref.isWhole_whole _) _) (hdst := chunk_we (Memref.isWhole_whole _) _) hNx (n := 26 + k.val) (px_lt k).1) $$ [Hax HR]
  · isplitr; · iexact HC
    isplitl [Hax]; · iexact Hax
    iexact HR
  iintro ⟨Hx, Hox, HR⟩
  ihave Hx := (show recvP m c (.px k) ⊢ _ from hold_halves c (ck gxM (pl c k)) fullShare (colv m (xn c) k)) $$ Hx
  icases Hx with ⟨HxF, HxG⟩
  iapply (seqW c (fwdX_mid m K c k)) $$ [HxF Hr HR]
  · isplitr; · iexact HC
    isplitl [HxF]; · iexact HxF
    isplitl [Hr]; · iexact Hr
    iexact HR
  iintro ⟨Hm, HR⟩
  iapply (seqW c (emit_W m K c (xn c) gxM k (6 + 2 * k.val) (midN k) (by omega) shG (x_src c k).1 (x_src c k).2)) $$ [HxG HO HR]
  · isplitr; · iexact HC
    isplitl [HxG]; · iexact HxG
    isplitl [HO]; · iexact HO
    iexact HR
  iintro ⟨HxG, HO, HR⟩
  iapply (wp_waitR m K (.py k) c rfl (src := chunk gyM (chX c k)) (dst := chunk gyM (chX c k))
      (hsrc := chunk_we (Memref.isWhole_whole _) _) (hdst := chunk_we (Memref.isWhole_whole _) _) hNy (n := midN k) (midN_py k)) $$ [Hay HR]
  · isplitr; · iexact HC
    isplitl [Hay]; · iexact Hay
    iexact HR
  iintro ⟨Hy, Hoy, HR⟩
  ihave Hy := (show recvP m c (.py k) ⊢ _ from hold_halves c (ck gyM (pl c k)) fullShare (colv m (yn c) k)) $$ Hy
  icases Hy with ⟨HyF, HyG⟩
  iapply (seqW c (fwdY_mid m K c k)) $$ [Hm HyF HR]
  · isplitr; · iexact HC
    isplitl [Hm]; · iexact Hm
    isplitl [HyF]; · iexact HyF
    iexact HR
  iintro ⟨HS, Hrest, HR⟩
  iapply (wp_wand_r (Fr := frame) (wpE := wpE (defs₀ (F := F)) 𝒱₀ (c : Thread nD τ) none) (E := Set.univ)
    (Q := fun _ => iprop(hold c (ck gyM (pl c k)) shG (colv m (yn c) k) ∗ OutS m c (6 + 2 * k.val + 1 + 1) ∗ Run c (26 + k.val + 1))))
  isplitl [HyG HO HR]
  · iapply (emit_W m K c (yn c) gyM k (6 + 2 * k.val + 1) (26 + k.val + 1) (by omega) shG (y_src c k).1 (y_src c k).2)
    isplitr; · iexact HC
    isplitl [HyG]; · iexact HyG
    isplitl [HO]; · iexact HO
    iexact HR
  iintro %a ⟨HyG, HO, HR⟩
  isplitl [HR HO]
  · isplitr; · iexact HC
    isplitl [HR]; · iexact HR
    iexact HO
  isplitl [Hox]; · iexact Hox
  isplitl [Hoy]; · iexact Hoy
  isplitl [HS]; · iexact HS
  isplitl [Hrest]; · iexact Hrest
  isplitl [HxG]; · iexact HxG
  iexact HyG

/-! ## From the diagonal device -/

def gdI (c : Dev nD) (k : ℕ) : sProp 𝕄 := iprop(Ctx m K ∗ Run c 34 ∗ OutS m c (22 + k))
def gdB (c : Dev nD) (k : Fin 8) : sProp 𝕄 := iprop(Over c (some (.fw k, true)) ∗ hold c (ck gdM (pl c k)) fullShare (colv m (xn (yn c)) k))

/-- One step for the diagonal device's column runs from its invariant to the next. -/
theorem gdStep_W (c : Dev nD) (k : Fin 8) :
    iprop(gdI m K c k.val ∗ Await c (.fw k)) ⊢ Wp c (gdStep c k) (fun _ => iprop(gdI m K c (k.val + 1) ∗ gdB m c k)) := by
  have hN : (chunk gdM (chX c k)).view.dmaCredit = amt (.fw k) := by rw [chunk_chX]; exact amt_fw k _
  have e1 : 24 + k.val = 22 + k.val + 2 := by omega
  have hlt : pos (.fw k) < 34 := by rw [pos_fw]; omega
  unfold gdI gdB gdStep chWait
  rw [e1, show 22 + (k.val + 1) = 22 + k.val + 1 from rfl]
  simp only [Prog.lift, Prog.bind_op, Prog.bind_ret, Prog.pure_eq_ret]
  iintro ⟨⟨#HC, HR, HO⟩, Ha⟩
  iapply (wp_waitR m K (.fw k) c rfl (src := chunk gdM (chX c k)) (dst := chunk gdM (chX c k))
      (hsrc := chunk_we (Memref.isWhole_whole _) _) (hdst := chunk_we (Memref.isWhole_whole _) _) hN (n := 34) hlt) $$ [Ha HR]
  · isplitr; · iexact HC
    isplitl [Ha]; · iexact Ha
    iexact HR
  iintro ⟨Hx, Hox, HR⟩
  iapply (wp_wand_r (Fr := frame) (wpE := wpE (defs₀ (F := F)) 𝒱₀ (c : Thread nD τ) none) (E := Set.univ)
    (Q := fun _ => iprop(hold c (ck gdM (pl c k)) fullShare (colv m (xn (yn c)) k) ∗ OutS m c (22 + k.val + 1) ∗ Run c 34)))
  isplitl [Hx HO HR]
  · iapply (emit_W m K c (xn (yn c)) gdM k (22 + k.val) 34 (by omega) fullShare (g_src c k).1 (g_src c k).2)
    isplitr; · iexact HC
    isplitl [Hx]; · unfold recvP; iexact Hx
    isplitl [HO]; · iexact HO
    iexact HR
  iintro %a ⟨Hx, HO, HR⟩
  isplitl [HR HO]
  · isplitr; · iexact HC
    isplitl [HR]; · iexact HR
    iexact HO
  isplitl [Hox]; · iexact Hox
  iexact Hx

/-! ## The waits for the sends -/

def drI (c : Dev nD) (k : ℕ) : sProp 𝕄 := iprop(Ctx m K ∗ Run c 34)
/-- A copy whose source is back. -/
def Back (c : Dev nD) (t : T) : sProp 𝕄 := iprop(sendP m c t ∗ Over c (some (t, false)))

/-- The waits for a chunk's sends along x and y give back its two shares. -/
theorem drainXY_W (c : Dev nD) (k : Fin 8) :
    iprop(drI m K c k.val ∗ iprop(Sent c (.px k) ∗ Sent c (.py k))) ⊢ Wp c (drainXY c k) (fun _ => iprop(drI m K c (k.val + 1) ∗ iprop(Back m c (.px k) ∗ Back m c (.py k)))) := by
  have hNx : (chunk colM (chS c k)).view.dmaCredit = amt (.px k) := by rw [chunk_chS]; exact amt_pxS k _
  have hNy : (chunk colM (chS c k)).view.dmaCredit = amt (.py k) := by rw [chunk_chS]; exact amt_pyS k _
  unfold drI Back drainXY
  simp only [Prog.lift, Prog.bind_op, Prog.bind_ret, Prog.pure_eq_ret]
  iintro ⟨⟨#HC, HR⟩, ⟨Hx, Hy⟩⟩
  iapply (wp_waitS m K (.px k) c rfl (src := chunk gxM (chS c k)) (dst := chunk colM (chS c k))
      (hsrc := chunk_we (Memref.isWhole_whole _) _) (hdst := chunk_we (Memref.isWhole_whole _) _) hNx (n := 34)) $$ [Hx HR]
  · isplitr; · iexact HC
    isplitl [Hx]; · iexact Hx
    iexact HR
  iintro ⟨Hx, Hox, HR⟩
  iapply (wp_waitS m K (.py k) c rfl (src := chunk gyM (chS c k)) (dst := chunk colM (chS c k))
      (hsrc := chunk_we (Memref.isWhole_whole _) _) (hdst := chunk_we (Memref.isWhole_whole _) _) hNy (n := 34)) $$ [Hy HR]
  · isplitr; · iexact HC
    isplitl [Hy]; · iexact Hy
    iexact HR
  iintro ⟨Hy, Hoy, HR⟩
  iapply (doneW c)
  isplitl [HR]
  · isplitr; · iexact HC
    iexact HR
  isplitl [Hx Hox]
  · isplitl [Hx]; · iexact Hx
    iexact Hox
  isplitl [Hy]; · iexact Hy
  iexact Hoy

/-- The wait for the send of a chunk passed on gives back its share. -/
theorem drainF_W (c : Dev nD) (k : Fin 8) :
    iprop(drI m K c k.val ∗ Sent c (.fw k)) ⊢ Wp c (drainF c k) (fun _ => iprop(drI m K c (k.val + 1) ∗ Back m c (.fw k))) := by
  have hNx : (chunk gxM (chX c k)).view.dmaCredit = amt (.fw k) := by rw [chunk_chX]; exact amt_fwX k _
  have hNy : (chunk gyM (chX c k)).view.dmaCredit = amt (.fw k) := by rw [chunk_chX]; exact amt_fwY k _
  unfold drI Back drainF
  by_cases h : k.val < 4
  · have hs : sem4 cc0_scratch19 ⟨k.val, h⟩ = sS (.fw k) := by unfold sS; dsimp only; rw [dif_pos h]
    simp only [dif_pos h, Prog.lift]
    iintro ⟨⟨#HC, HR⟩, Hx⟩
    iapply (wp_waitS m K (.fw k) c hs (src := chunk gdM (chX c k)) (dst := chunk gxM (chX c k))
        (hsrc := chunk_we (Memref.isWhole_whole _) _) (hdst := chunk_we (Memref.isWhole_whole _) _) hNx (n := 34)) $$ [Hx HR]
    · isplitr; · iexact HC
      isplitl [Hx]; · iexact Hx
      iexact HR
    iintro ⟨Hx, Hox, HR⟩
    iapply (doneW c)
    isplitl [HR]
    · isplitr; · iexact HC
      iexact HR
    isplitl [Hx]; · iexact Hx
    iexact Hox
  · have hs : sem4 cc0_scratch18 ⟨k.val - 4, by omega⟩ = sS (.fw k) := by unfold sS; dsimp only; rw [dif_neg h]
    simp only [dif_neg h, Prog.lift]
    iintro ⟨⟨#HC, HR⟩, Hx⟩
    iapply (wp_waitS m K (.fw k) c hs (src := chunk gdM (chX c k)) (dst := chunk gyM (chX c k))
        (hsrc := chunk_we (Memref.isWhole_whole _) _) (hdst := chunk_we (Memref.isWhole_whole _) _) hNy (n := 34)) $$ [Hx HR]
    · isplitr; · iexact HC
      isplitl [Hx]; · iexact Hx
      iexact HR
    iintro ⟨Hx, Hox, HR⟩
    iapply (doneW c)
    isplitl [HR]
    · isplitr; · iexact HC
      iexact HR
    isplitl [Hx]; · iexact Hx
    iexact Hox

/-- The last two write-backs. -/
theorem lastOut_W (c : Dev nD) (r : ℕ) :
    iprop(Ctx m K ∗ OutS m c 30 ∗ Run c r)
      ⊢ Wp c (do ybWait c 30; ybWait c 31) (fun _ => iprop(ybFree c 0 ∗ ybFree c 1 ∗ BI.bigSep (Finset.range 32) (outDone m c) ∗ Run c r)) := by
  unfold OutS
  iintro ⟨#HC, ⟨HD, H1, H2, HA⟩, HR⟩
  iapply (seqW c (ybWait_W m K c 30 r)) $$ [H1 HR]
  · isplitr; · iexact HC
    isplitl [H1]; · iexact H1
    iexact HR
  iintro ⟨Hy0, Hd0, HR⟩
  iapply (wp_wand_r (Fr := frame) (wpE := wpE (defs₀ (F := F)) 𝒱₀ (c : Thread nD τ) none) (E := Set.univ)
    (Q := fun _ => iprop(ybFree c (par 31) ∗ outDone m c 31 ∗ Run c r)))
  isplitl [H2 HR]
  · iapply (ybWait_W m K c 31 r)
    isplitr; · iexact HC
    isplitl [H2]; · iexact H2
    iexact HR
  iintro %a ⟨Hy1, Hd1, HR⟩
  isplitl [Hy0]; · iexact Hy0
  isplitl [Hy1]; · iexact Hy1
  isplitl [HD Hd0 Hd1]
  · iapply (Entails.of_eq (BI.bigSep_range_succ 31 (outDone m c)).symm)
    isplitl [Hd1]; · iexact Hd1
    iapply (Entails.of_eq (BI.bigSep_range_succ 30 (outDone m c)).symm)
    isplitl [Hd0]; · iexact Hd0
    iexact HD
  iexact HR

end Cert.KernelIdeal.Steps

end
-- ==== Proof.Pieces.lean ====
module

public import proofs.«01_k».proof.Proof.Cross
public import Idealize.ShloMosaic.Lib.MemrefSat

/-! # Dealing out and gathering in

The buffers cut into what the steps work on, and put together again; big stars family by family. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Big stars written out -/

/-- A separating product over two indices. -/
theorem sep_two (Φ : Fin 2 → sProp 𝕄) : bigSep Finset.univ Φ = iprop(Φ 0 ∗ Φ 1) := bigSep_univ_two Φ

/-- A separating product over six indices. -/
theorem sep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = insert 0 (insert 1 (insert 2 (insert 3 (insert 4 {5})))) from by decide, sep_insert (by decide), sep_insert (by decide),
    sep_insert (by decide), sep_insert (by decide), sep_insert (by decide), bigSep_singleton]

/-- A separating product over eight indices. -/
theorem sep_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = insert 0 (insert 1 (insert 2 (insert 3 (insert 4 (insert 5 (insert 6 {7})))))) from by decide,
    sep_insert (by decide), sep_insert (by decide), sep_insert (by decide), sep_insert (by decide), sep_insert (by decide), sep_insert (by decide),
    sep_insert (by decide), bigSep_singleton]

/-- The first two apart from the rest. -/
theorem eight_split (Φ : Fin 8 → sProp 𝕄) : bigSep Finset.univ Φ = iprop(Φ 0 ∗ Φ 1 ∗ bigSep Finset.univ fun j : Fin 6 => Φ (z8 j)) := by
  rw [sep_eight, sep_six]; rfl

/-- Two places on. -/
theorem six_shift (Φ : Fin 6 → sProp 𝕄) :
    (bigSep Finset.univ Φ : sProp 𝕄) ⊢ iprop(Φ 0 ∗ Φ 1 ∗ bigSep Finset.univ fun j : Fin 6 => if h : j.val < 4 then Φ ⟨j.val + 2, by omega⟩ else iprop(emp)) := by
  rw [sep_six, sep_six]
  show iprop(Φ 0 ∗ Φ 1 ∗ Φ 2 ∗ Φ 3 ∗ Φ 4 ∗ Φ 5) ⊢ iprop(Φ 0 ∗ Φ 1 ∗ Φ 2 ∗ Φ 3 ∗ Φ 4 ∗ Φ 5 ∗ emp ∗ emp)
  iintro ⟨H0, H1, H2, H3, H4, H5⟩
  isplitl [H0]; · iexact H0
  isplitl [H1]; · iexact H1
  isplitl [H2]; · iexact H2
  isplitl [H3]; · iexact H3
  isplitl [H4]; · iexact H4
  isplitl [H5]; · iexact H5
  isplitl []; · iempintro
  iempintro

/-- Six and the last two. -/
theorem six_join (Φ : Fin 8 → sProp 𝕄) :
    iprop((bigSep Finset.univ fun j : Fin 6 => Φ ⟨j.val, by omega⟩) ∗ bigSep Finset.univ fun j : Fin 6 => if j.val < 4 then iprop(emp) else Φ (z8 j))
      ⊢ bigSep Finset.univ Φ := by
  rw [sep_six, sep_six, sep_eight]
  show iprop((Φ 0 ∗ Φ 1 ∗ Φ 2 ∗ Φ 3 ∗ Φ 4 ∗ Φ 5) ∗ (emp ∗ emp ∗ emp ∗ emp ∗ Φ 6 ∗ Φ 7)) ⊢ iprop(Φ 0 ∗ Φ 1 ∗ Φ 2 ∗ Φ 3 ∗ Φ 4 ∗ Φ 5 ∗ Φ 6 ∗ Φ 7)
  iintro ⟨⟨H0, H1, H2, H3, H4, H5⟩, ⟨-, -, -, -, H6, H7⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A separating product over a sum of two types. -/
theorem sep_sum {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ

/-- A separating product over the copies, kind by kind. -/
theorem sep_T (Φ : T → sProp 𝕄) :
    bigSep Finset.univ Φ = iprop((bigSep Finset.univ fun s => Φ (.rs s)) ∗ (bigSep Finset.univ fun h => Φ (.rh h)) ∗ (bigSep Finset.univ fun k => Φ (.ag k))
      ∗ (bigSep Finset.univ fun k => Φ (.px k)) ∗ (bigSep Finset.univ fun k => Φ (.py k)) ∗ bigSep Finset.univ fun k => Φ (.fw k)) := by
  rw [BI.bigSep_univ_equiv famE Φ, sep_sum, sep_sum, sep_sum, sep_sum, sep_sum]
  rfl

/-- A separating product over the protocol's semaphores. -/
theorem sep_cx (Φ : Cx → sProp 𝕄) :
    bigSep Finset.univ Φ = iprop((bigSep Finset.univ fun t : T => iprop(Φ (some (t, false)) ∗ Φ (some (t, true)))) ∗ Φ none) := by
  rw [BI.bigSep_univ_equiv (Equiv.optionEquivSumPUnit (T × Bool)).symm Φ, sep_sum, BI.bigSep_univ_prod, BI.bigSep_univ_of_subsingleton PUnit.unit]
  have h : ∀ t : T, (bigSep Finset.univ fun b : Bool => Φ ((Equiv.optionEquivSumPUnit (T × Bool)).symm (.inl (t, b)))) = iprop(Φ (some (t, false)) ∗ Φ (some (t, true))) := by
    intro t
    rw [show (Finset.univ : Finset Bool) = insert false {true} from by decide, sep_insert (by decide), bigSep_singleton]
    rfl
  rw [BI.bigSep_congr fun t _ => h t]
  rfl

/-- A separating product over the numbers below `n`. -/
theorem sep_range {n : ℕ} (Φ : ℕ → sProp 𝕄) : bigSep (Finset.range n) Φ = bigSep Finset.univ fun i : Fin n => Φ i.val := by
  have h : Finset.range n = (Finset.univ : Finset (Fin n)).map Fin.valEmbedding := by
    ext i; simp only [Finset.mem_range, Finset.mem_map, Finset.mem_univ, true_and, Fin.valEmbedding_apply]
    exact ⟨fun h => ⟨⟨i, h⟩, rfl⟩, fun ⟨a, ha⟩ => ha ▸ a.isLt⟩
  rw [h, BI.bigSep_map]
  rfl

/-! ## Buffers -/

/-- The running sum's buffer, slot by slot. -/
theorem cut_cz (c : Dev nD) : (anyAt (F := F) c czM : sProp 𝕄) ⊢ bigSep Finset.univ fun i : Fin 4 => anyAt c (czS i) := by
  refine (any_cut c czM czP (fun _ _ => rfl) czP_disj czP_cov).trans ?_
  rw [BI.bigSep_univ_prod]
  exact BI.bigSep_mono fun i _ => BIBase.Entails.trans (BI.bigSep_mono fun h _ => any_squeeze c (czM.slice (czhR i h) (fun _ => rfl)) squeezes_S1x128x4096_S128x4096) (halves_any c i)

/-- The slots make up the running sum's buffer. -/
theorem glue_cz (c : Dev nD) : (bigSep Finset.univ fun i : Fin 4 => anyAt (F := F) c (czS i) : sProp 𝕄) ⊢ anyAt c czM := by
  refine BIBase.Entails.trans ?_ (any_glue c czM czP (fun _ _ => rfl) czP_disj czP_cov)
  rw [BI.bigSep_univ_prod]
  exact BI.bigSep_mono fun i _ => BIBase.Entails.trans (any_halves c i) (BI.bigSep_mono fun h _ => any_unsqueeze c (czM.slice (czhR i h) (fun _ => rfl)) squeezes_S1x128x4096_S128x4096)

/-- A column's buffer, chunk by chunk. -/
theorem cut_ck (c : Dev nD) (M : Memref sig .tc .vmem S1024x4096 .bf16) : (anyAt (F := F) c M : sProp 𝕄) ⊢ bigSep Finset.univ fun k : Fin 8 => anyAt c (ck M (pl c k)) := by
  refine (any_cut c M cR (fun _ _ => rfl) cR_disj cR_cov).trans ?_
  rw [BI.bigSep_univ_equiv (plE c)]
  exact BIBase.Entails.rfl

/-- The chunks make up the column's buffer. -/
theorem glue_ck (c : Dev nD) (M : Memref sig .tc .vmem S1024x4096 .bf16) : (bigSep Finset.univ fun k : Fin 8 => anyAt (F := F) c (ck M (pl c k)) : sProp 𝕄) ⊢ anyAt c M := by
  refine BIBase.Entails.trans ?_ (any_glue c M cR (fun _ _ => rfl) cR_disj cR_cov)
  rw [BI.bigSep_univ_equiv (plE c) (fun i => anyAt (F := F) c (M.slice (cR i) (fun _ => rfl)))]
  exact BIBase.Entails.rfl

/-- The write-back buffer, slot by slot. -/
theorem cut_yb (c : Dev nD) : (anyAt (F := F) c ybM : sProp 𝕄) ⊢ iprop(anyAt c (ybS 0) ∗ anyAt c (ybS 1)) := by
  rw [← sep_two (fun i => anyAt (F := F) c (ybS i))]
  exact (any_cut c ybM ybR (fun _ _ => rfl) ybR_disj ybR_cov).trans (BI.bigSep_mono fun i _ => any_squeeze c (ybM.slice (ybR i) (fun _ => rfl)) squeezes_S1x128x4096_S128x4096)

/-- The two slots make up the write-back buffer. -/
theorem glue_yb (c : Dev nD) : (iprop(anyAt (F := F) c (ybS 0) ∗ anyAt c (ybS 1)) : sProp 𝕄) ⊢ anyAt c ybM := by
  rw [← sep_two (fun i => anyAt (F := F) c (ybS i))]
  exact BIBase.Entails.trans (BI.bigSep_mono fun i _ => any_unsqueeze c (ybM.slice (ybR i) (fun _ => rfl)) squeezes_S1x128x4096_S128x4096) (any_glue c ybM ybR (fun _ _ => rfl) ybR_disj ybR_cov)

/-- The result's rows, those of the first two write-backs apart. -/
theorem cut_out (c : Dev nD) : (anyAt (F := F) c outM : sProp 𝕄) ⊢ iprop(outAny c 0 ∗ outAny c 1 ∗ bigSep (Finset.Ico 2 32) (outAny c)) := by
  refine (any_cut c outM oR (fun _ _ => rfl) oR_disj oR_cov).trans ?_
  rw [BI.bigSep_univ_equiv (poE c), ← BI.bigSep_Ico_succ_bot (show 1 < 32 by decide), ← BI.bigSep_Ico_succ_bot (show 0 < 32 by decide), ← Finset.range_eq_Ico, sep_range]
  refine BI.bigSep_mono fun i _ => ?_
  show (anyAt (F := F) c (ro (po c i)) : sProp 𝕄) ⊢ anyAt c (rows (outN c i.val))
  rw [rows_outN]

/-- The rows written make up the whole result. -/
theorem glue_out (c : Dev nD) : (bigSep (Finset.range 32) (outDone m c) : sProp 𝕄) ⊢ hold c outM fullShare (outAll m c) := by
  refine BIBase.Entails.trans ?_ (hold_glue c outM fullShare oR (fun _ _ => rfl) oR_disj oR_cov (outAll m c))
  rw [sep_range, BI.bigSep_univ_equiv (poE c) (fun i => hold c (outM.slice (oR i) (fun _ => rfl)) fullShare (fun j => outAll m c ((oR i).emb j)))]
  refine BI.bigSep_mono fun i _ => ?_
  have h1 : fi i.val = i := Fin.ext (fi_val i.isLt)
  have h2 : (fun j => outAll m c ((oR (po c i)).emb j)) = outr m c i := funext fun j => outAll_at m c i j
  show (hold c (rows (outN c i.val)) fullShare (outr m c (fi i.val)) : sProp 𝕄) ⊢ hold c (ro (po c i)) fullShare (fun j => outAll m c ((oR (po c i)).emb j))
  rw [rows_outN, h1]
  exact Entails.of_eq (congrArg (fun X => (hold c (ro (po c i)) fullShare X : sProp 𝕄)) h2.symm)

/-! ## Shares of a chunk -/

/-- Two half shares of the same contents are the share. -/
theorem join_halves (c : Dev nD) {sp : Space} {sh : Shape} {e : EltTy} (M : Memref sig .tc sp sh e) (q : PosShare TreeShare) (X : sh.Idx → Elt F e) :
    iprop(hold c M q.left X ∗ hold c M q.right X) ⊢ (hold c M q X : sProp 𝕄) := (owns_halves (c : Thread nD τ) M q X).2

/-- The four shares of the same contents are the whole. -/
theorem join_quarters (c : Dev nD) {sp : Space} {sh : Shape} {e : EltTy} (M : Memref sig .tc sp sh e) (X : sh.Idx → Elt F e) :
    iprop(hold c M shZ X ∗ hold c M shX X ∗ hold c M shY X ∗ hold c M shL X) ⊢ (hold c M fullShare X : sProp 𝕄) := by
  iintro ⟨H1, H2, H3, H4⟩
  iapply (join_halves c M fullShare X)
  isplitl [H1 H2]
  · iapply (join_halves c M (fullShare : PosShare TreeShare).left X)
    isplitl [H1]; · iexact H1
    iexact H2
  · iapply (join_halves c M (fullShare : PosShare TreeShare).right X)
    isplitl [H3]; · iexact H3
    iexact H4

end Cert.KernelIdeal.Steps

end
-- ==== Proof.Gather.lean ====
module

public import proofs.«01_k».proof.Proof.Pieces

/-! # What the steps start from and what they leave

Every copy's room and tokens dealt to the steps; every buffer and semaphore gathered from them. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Dealt out -/

/-- The room a device has for what its neighbours send, and what is left for its own block. -/
theorem room (c : Dev nD) :
    (iprop(anyAt (F := F) c czM ∗ anyAt c colM ∗ anyAt c gxM ∗ anyAt c gyM ∗ anyAt c gdM) : sProp 𝕄)
      ⊢ iprop(anyAt c (czS 0) ∗ anyAt c (ck colM (pl c (k8 0))) ∗ anyAt c (ck colM (pl c (k8 1))) ∗ bigSep Finset.univ fun t : T => recvAny c t) := by
  rw [sep_T, sep_two]
  iintro ⟨Hz, Hc, Hx, Hy, Hd⟩
  ihave Hz := (cut_cz c) $$ Hz
  ihave Hz := (Entails.of_eq (sep_four fun i => anyAt (F := F) c (czS i))) $$ Hz
  icases Hz with ⟨Hz0, Hz1, Hz2, Hz3⟩
  ihave Hc := (cut_ck c colM) $$ Hc
  ihave Hc := (Entails.of_eq (eight_split fun k => anyAt (F := F) c (ck colM (pl c k)))) $$ Hc
  icases Hc with ⟨Hc0, Hc1, Hc⟩
  ihave Hz3 := (any_halves c 3) $$ Hz3
  ihave Hx := (cut_ck c gxM) $$ Hx
  ihave Hy := (cut_ck c gyM) $$ Hy
  ihave Hd := (cut_ck c gdM) $$ Hd
  isplitl [Hz0]; · iexact Hz0
  isplitl [Hc0]; · iexact Hc0
  isplitl [Hc1]; · iexact Hc1
  isplitl [Hz1 Hz2]
  · isplitl [Hz1]; · iapply (show (anyAt (F := F) c (czS 1) : sProp 𝕄) ⊢ recvAny c (.rs 0) from BIBase.Entails.rfl); iexact Hz1
    iapply (show (anyAt (F := F) c (czS 2) : sProp 𝕄) ⊢ recvAny c (.rs 1) from BIBase.Entails.rfl); iexact Hz2
  isplitl [Hz3]; · iexact Hz3
  isplitl [Hc]; · iexact Hc
  isplitl [Hx]; · iexact Hx
  isplitl [Hy]; · iexact Hy
  iexact Hd

/-! ## Gathered in -/

/-- The slots of the travelling buffer. -/
theorem back_cz (c : Dev nD) :
    iprop(sendP m c (.rs 0) ∗ sendP m c (.rs 1) ∗ sendP m c (.rh 0) ∗ sendP m c (.rh 1) ∗ recvP m c (.rh 0) ∗ recvP m c (.rh 1)) ⊢ (anyAt c czM : sProp 𝕄) := by
  have e0 : (sendP m c (.rs 0) : sProp 𝕄) ⊢ anyAt c (czS 0) := hold_any c (czS 0) _
  have e1 : (sendP m c (.rs 1) : sProp 𝕄) ⊢ anyAt c (czS 1) := hold_any c (czS 1) _
  have e2 : ∀ h, (sendP m c (.rh h) : sProp 𝕄) ⊢ anyAt c (czH 2 h) := fun h => hold_any c (czH 2 h) _
  have e3 : ∀ h, (recvP m c (.rh h) : sProp 𝕄) ⊢ anyAt c (czH 3 h) := fun h => hold_any c (czH 3 h) _
  iintro ⟨H0, H1, H2, H3, H4, H5⟩
  iapply (glue_cz c)
  iapply (Entails.of_eq (sep_four fun i => anyAt (F := F) c (czS i)).symm)
  isplitl [H0]; · iapply e0; iexact H0
  isplitl [H1]; · iapply e1; iexact H1
  isplitl [H2 H3]
  · iapply (halves_any c 2)
    iapply (Entails.of_eq (sep_two fun h => anyAt (F := F) c (czH 2 h)).symm)
    isplitl [H2]; · iapply (e2 0); iexact H2
    iapply (e2 1); iexact H3
  · iapply (halves_any c 3)
    iapply (Entails.of_eq (sep_two fun h => anyAt (F := F) c (czH 3 h)).symm)
    isplitl [H4]; · iapply (e3 0); iexact H4
    iapply (e3 1); iexact H5

/-- The column, from the four shares of each chunk. -/
theorem back_col (c : Dev nD) :
    iprop((bigSep Finset.univ fun k : Fin 8 => hold c (ck colM (pl c k)) shZ (colv m c k)) ∗ (bigSep Finset.univ fun k : Fin 8 => hold c (ck colM (pl c k)) shX (colv m c k))
        ∗ (bigSep Finset.univ fun k : Fin 8 => hold c (ck colM (pl c k)) shY (colv m c k)) ∗ bigSep Finset.univ fun k : Fin 8 => hold c (ck colM (pl c k)) shL (colv m c k))
      ⊢ (anyAt c colM : sProp 𝕄) := by
  rw [← bigSep_sep', ← bigSep_sep', ← bigSep_sep']
  exact BIBase.Entails.trans (BI.bigSep_mono fun k _ => (join_quarters c (ck colM (pl c k)) (colv m c k)).trans (hold_any c _ _)) (glue_ck c colM)

/-- The neighbours' columns. -/
theorem back_gxy (c : Dev nD) :
    iprop((bigSep Finset.univ fun k : Fin 8 => hold c (ck gxM (pl c k)) shG (colv m (xn c) k)) ∗ (bigSep Finset.univ fun k : Fin 8 => hold c (ck gyM (pl c k)) shG (colv m (yn c) k))
        ∗ (bigSep Finset.univ fun k : Fin 8 => restP m c k) ∗ bigSep Finset.univ fun k : Fin 8 => sendP m c (.fw k))
      ⊢ (iprop(anyAt c gxM ∗ anyAt c gyM) : sProp 𝕄) := by
  have hk : ∀ k : Fin 8, iprop(hold c (ck gxM (pl c k)) shG (colv m (xn c) k) ∗ hold c (ck gyM (pl c k)) shG (colv m (yn c) k) ∗ restP m c k ∗ sendP m c (.fw k))
      ⊢ (iprop(anyAt c (ck gxM (pl c k)) ∗ anyAt c (ck gyM (pl c k))) : sProp 𝕄) := by
    intro k
    have hx := join_halves c (ck gxM (pl c k)) fullShare (colv m (xn c) k)
    have hy := join_halves c (ck gyM (pl c k)) fullShare (colv m (yn c) k)
    unfold restP sendP
    dsimp only
    by_cases h : k.val < 4
    · rw [if_pos h, if_pos h]
      iintro ⟨Hx, Hy, Hr, Hs⟩
      isplitl [Hx Hs]
      · iapply (hold_any c (ck gxM (pl c k)) (colv m (xn c) k))
        iapply hx
        isplitl [Hs]; · iexact Hs
        iexact Hx
      · iapply (hold_any c (ck gyM (pl c k)) (colv m (yn c) k))
        iapply hy
        isplitl [Hr]; · iexact Hr
        iexact Hy
    · rw [if_neg h, if_neg h]
      iintro ⟨Hx, Hy, Hr, Hs⟩
      isplitl [Hx Hr]
      · iapply (hold_any c (ck gxM (pl c k)) (colv m (xn c) k))
        iapply hx
        isplitl [Hr]; · iexact Hr
        iexact Hx
      · iapply (hold_any c (ck gyM (pl c k)) (colv m (yn c) k))
        iapply hy
        isplitl [Hs]; · iexact Hs
        iexact Hy
  rw [← bigSep_sep', ← bigSep_sep', ← bigSep_sep']
  refine BIBase.Entails.trans (BI.bigSep_mono fun k _ => hk k) ?_
  rw [bigSep_sep']
  iintro ⟨Hx, Hy⟩
  isplitl [Hx]; · iapply (glue_ck c gxM); iexact Hx
  iapply (glue_ck c gyM); iexact Hy

/-! ## What the loops leave, one kind at a time -/

/-- What the six steps along z need, put together step by step. -/
theorem zA_join (c : Dev nD) :
    iprop((bigSep Finset.univ fun j : Fin 6 => Await c (.ag j)) ∗ (bigSep Finset.univ fun j : Fin 6 => Ready (F := F) c (.px (z8 j))) ∗ (bigSep Finset.univ fun j : Fin 6 => Ready (F := F) c (.py (z8 j)))
        ∗ bigSep Finset.univ fun j : Fin 6 => if h : j.val < 4 then Ready (F := F) c (.ag ⟨j.val + 2, by omega⟩) else iprop(emp))
      ⊢ bigSep Finset.univ fun j => zA c j := by
  unfold zA
  simp only [bigSep_sep']
  exact BIBase.Entails.rfl

/-- What the six steps along z leave, sorted by kind. -/
theorem zB_split (c : Dev nD) :
    (bigSep Finset.univ fun j => zB m c j) = iprop((bigSep Finset.univ fun j : Fin 6 => sendP m c (.ag j)) ∗ (bigSep Finset.univ fun j : Fin 6 => Over (F := F) c (some (.ag j, false)))
        ∗ (bigSep Finset.univ fun j : Fin 6 => Over (F := F) c (some (.ag j, true))) ∗ (bigSep Finset.univ fun j : Fin 6 => Sent c (.px (z8 j))) ∗ (bigSep Finset.univ fun j : Fin 6 => Sent c (.py (z8 j)))
        ∗ (bigSep Finset.univ fun j : Fin 6 => hold c (ck colM (pl c (z8 j))) shL (colv m c (z8 j)))
        ∗ bigSep Finset.univ fun j : Fin 6 => if j.val < 4 then iprop(emp) else hold c (ck colM (pl c (z8 j))) shZ (colv m c (z8 j))) := by
  unfold zB
  simp only [bigSep_sep']

/-- What the eight steps of the exchange need, put together step by step. -/
theorem xyA_join (c : Dev nD) :
    iprop((bigSep Finset.univ fun k : Fin 8 => Await c (.px k)) ∗ (bigSep Finset.univ fun k : Fin 8 => Await c (.py k)) ∗ bigSep Finset.univ fun k : Fin 8 => Ready (F := F) c (.fw k))
      ⊢ bigSep Finset.univ fun k => xyA c k := by
  unfold xyA
  simp only [bigSep_sep']
  exact BIBase.Entails.rfl

/-- What the eight steps of the exchange leave, sorted by kind. -/
theorem xyB_split (c : Dev nD) :
    (bigSep Finset.univ fun k => xyB m c k) = iprop((bigSep Finset.univ fun k : Fin 8 => Over (F := F) c (some (.px k, true))) ∗ (bigSep Finset.univ fun k : Fin 8 => Over (F := F) c (some (.py k, true)))
        ∗ (bigSep Finset.univ fun k : Fin 8 => Sent c (.fw k)) ∗ (bigSep Finset.univ fun k : Fin 8 => restP m c k)
        ∗ (bigSep Finset.univ fun k : Fin 8 => hold c (ck gxM (pl c k)) shG (colv m (xn c) k)) ∗ bigSep Finset.univ fun k : Fin 8 => hold c (ck gyM (pl c k)) shG (colv m (yn c) k)) := by
  unfold xyB
  simp only [bigSep_sep']

/-- What the eight steps for the diagonal column leave, sorted by kind. -/
theorem gdB_split (c : Dev nD) :
    (bigSep Finset.univ fun k => gdB m c k) = iprop((bigSep Finset.univ fun k : Fin 8 => Over (F := F) c (some (.fw k, true)))
        ∗ bigSep Finset.univ fun k : Fin 8 => hold c (ck gdM (pl c k)) fullShare (colv m (xn (yn c)) k)) := by
  unfold gdB
  simp only [bigSep_sep']

/-- What the waits for the sends give back, sorted by kind. -/
theorem back_split (c : Dev nD) {N : ℕ} (f : Fin N → T) :
    (bigSep Finset.univ fun k => Back m c (f k)) = iprop((bigSep Finset.univ fun k => sendP m c (f k)) ∗ bigSep Finset.univ fun k => Over (F := F) c (some (f k, false))) := by
  unfold Back
  simp only [bigSep_sep']

/-- The diagonal column's chunks are its buffer again. -/
theorem back_gd (c : Dev nD) :
    (bigSep Finset.univ fun k : Fin 8 => hold c (ck gdM (pl c k)) fullShare (colv m (xn (yn c)) k)) ⊢ (anyAt c gdM : sProp 𝕄) :=
  BIBase.Entails.trans (BI.bigSep_mono fun k _ => hold_any c _ _) (glue_ck c gdM)

/-- Every copy's semaphore, at both ends. -/
theorem over_all (c : Dev nD) :
    iprop((bigSep Finset.univ fun s : Fin 2 => iprop(Over (F := F) c (some (.rs s, false)) ∗ Over c (some (.rs s, true))))
        ∗ (bigSep Finset.univ fun h : Fin 2 => iprop(Over c (some (.rh h, false)) ∗ Over c (some (.rh h, true))))
        ∗ ((bigSep Finset.univ fun k : Fin 6 => Over c (some (.ag k, false))) ∗ bigSep Finset.univ fun k : Fin 6 => Over c (some (.ag k, true)))
        ∗ ((bigSep Finset.univ fun k : Fin 8 => Over c (some (.px k, false))) ∗ bigSep Finset.univ fun k : Fin 8 => Over c (some (.px k, true)))
        ∗ ((bigSep Finset.univ fun k : Fin 8 => Over c (some (.py k, false))) ∗ bigSep Finset.univ fun k : Fin 8 => Over c (some (.py k, true)))
        ∗ ((bigSep Finset.univ fun k : Fin 8 => Over c (some (.fw k, false))) ∗ bigSep Finset.univ fun k : Fin 8 => Over c (some (.fw k, true)))
        ∗ Over c none)
      ⊢ (bigSep Finset.univ fun x : Cx => Over c x : sProp 𝕄) := by
  rw [sep_cx, sep_T]
  simp only [bigSep_sep']
  iintro ⟨H1, H2, H3, H4, H5, H6, H7⟩
  isplitr [H7]
  · isplitl [H1]; · iexact H1
    isplitl [H2]; · iexact H2
    isplitl [H3]; · iexact H3
    isplitl [H4]; · iexact H4
    isplitl [H5]; · iexact H5
    iexact H6
  iexact H7

end Cert.KernelIdeal.Steps

end
-- ==== Proof.Whole.lean ====
module

public import proofs.«01_k».proof.Proof.Gather

/-! # The whole body

From the handshake to the last write-back, at any device. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cx → ℕ)

/-! ## Up to the residual's arrival -/

/-- The first step of the running sum. -/
theorem rs0_W (c : Dev nD) :
    iprop(Ctx m K ∗ hold c (czS 0) fullShare (sqz squeezes_S1x256x4096_S256x4096 (ps m 0 c)) ∗ Ready c (.rs 0) ∗ Await c (.rs 0) ∗ xHold m c ∗ anyAt c locM ∗ lFree c 0 ∗ Run c 0)
      ⊢ Wp c (rsStep c 0) (fun _ => iprop(sendP m c (.rs 0) ∗ Over c (some (.rs 0, false)) ∗ Over c (some (.rs 0, true))
          ∗ hold c (czS 1) fullShare (sqz squeezes_S1x256x4096_S256x4096 (ps m 1 c)) ∗ xHold m c ∗ anyAt c locM ∗ lFree c 0 ∗ Run c 1)) := rsStep_W m K c 0

/-- The second step of the running sum. -/
theorem rs1_W (c : Dev nD) :
    iprop(Ctx m K ∗ hold c (czS 1) fullShare (sqz squeezes_S1x256x4096_S256x4096 (ps m 1 c)) ∗ Ready c (.rs 1) ∗ Await c (.rs 1) ∗ xHold m c ∗ anyAt c locM ∗ lFree c 0 ∗ Run c 1)
      ⊢ Wp c (rsStep c 1) (fun _ => iprop(sendP m c (.rs 1) ∗ Over c (some (.rs 1, false)) ∗ Over c (some (.rs 1, true))
          ∗ hold c (czS 2) fullShare (sqz squeezes_S1x256x4096_S256x4096 (ps m 2 c)) ∗ xHold m c ∗ anyAt c locM ∗ lFree c 0 ∗ Run c 2)) := rsStep_W m K c 1

/-- The first half of the sum of three sets off. -/
theorem go0_W (c : Dev nD) :
    iprop(Ctx m K ∗ hold c (czH 2 0) fullShare (sqz squeezes_S1x128x4096_S128x4096 (ph m c 0)) ∗ Ready c (.rh 0) ∗ Run c 2)
      ⊢ Wp c (lastGo c 0) (fun _ => iprop(Sent c (.rh 0) ∗ Run c 3)) := lastGo_W m K c 0
/-- The second half of the sum of three sets off. -/
theorem go1_W (c : Dev nD) :
    iprop(Ctx m K ∗ hold c (czH 2 1) fullShare (sqz squeezes_S1x128x4096_S128x4096 (ph m c 1)) ∗ Ready c (.rh 1) ∗ Run c 3)
      ⊢ Wp c (lastGo c 1) (fun _ => iprop(Sent c (.rh 1) ∗ Run c 4)) := lastGo_W m K c 1

/-- From the barrier to the sum of three on its way. -/
theorem head_W (c : Dev nD) :
    iprop(Ctx m K ∗ (∃ W, owes (c : Thread nD τ) (O₀ c) W) ∗ (bigSep Finset.univ fun d : Fin 4 => dutyTok ER (kcell (nbI c d, none)) 0 d)
        ∗ cred (tallyAt (kcell (c, none)) () 4) ∗ atPos ER (kcell (c, none)) 0 ∅ 0 ∗ (bigSep Finset.univ fun t : T => recvAny (F := F) c t)
        ∗ (bigSep Finset.univ fun t : T => Ready₀ c t) ∗ (bigSep Finset.univ fun s : Fin 2 => Await c (.rs s))
        ∗ xHold m c ∗ rHold m c ∗ anyAt c (czS 0) ∗ anyAt c locM ∗ anyAt c resM ∗ lFree c 0 ∗ lFree c 1)
      ⊢ Wp c (head c) (fun _ => iprop(Run c 4 ∗ Over c none ∗ (sendP m c (.rs 0) ∗ sendP m c (.rs 1)) ∗ (bigSep Finset.univ fun s : Fin 2 => iprop(Over c (some (.rs s, false)) ∗ Over c (some (.rs s, true))))
        ∗ (Sent c (.rh 0) ∗ Sent c (.rh 1)) ∗ (bigSep Finset.univ fun k => Ready c (.ag k)) ∗ (bigSep Finset.univ fun k => Ready c (.px k)) ∗ (bigSep Finset.univ fun k => Ready c (.py k)) ∗ (bigSep Finset.univ fun k => Ready c (.fw k))
        ∗ xHold m c ∗ rHold m c ∗ hold c locM fullShare (xblk m c (k0_off4 c) (k0_off4_inb c)) ∗ hold c resM fullShare (rblk m c) ∗ lFree c 0 ∗ lFree c 1)) := by
  have hready : (iprop((bigSep Finset.univ fun t : T => Ready₀ (F := F) c t) ∗ bigSep Finset.univ fun t : T => recvAny (F := F) (peer c t) t) : sProp 𝕄) = bigSep Finset.univ fun t : T => Ready c t := by
    unfold Ready; rw [bigSep_sep']
  unfold head
  iintro ⟨#HC, HO, Hd, Hcr, Hat, Hrecv, Hrdy, Haw, Hx, Hr, Hz, Hl, Hs, Hl0, Hl1⟩
  iapply (seqW c (handshake_W m K c)) $$ [HO Hd Hcr Hat Hrecv]
  · isplitr; · iexact HC
    isplitl [HO]; · iexact HO
    isplitl [Hd]; · iexact Hd
    isplitl [Hcr]; · iexact Hcr
    isplitl [Hat]; · iexact Hat
    iexact Hrecv
  iintro ⟨HR, Hnone, Hrecv⟩
  ihave Hrdy := (Entails.of_eq hready) $$ [Hrdy Hrecv]
  · isplitl [Hrdy]; · iexact Hrdy
    iexact Hrecv
  ihave Hrdy := (Entails.of_eq (sep_T fun t => Ready (F := F) c t)) $$ Hrdy
  icases Hrdy with ⟨Hrs, Hrh, Hag, Hpx, Hpy, Hfw⟩
  ihave Hrs := (Entails.of_eq (sep_two fun s => Ready (F := F) c (.rs s))) $$ Hrs
  icases Hrs with ⟨Hrs0, Hrs1⟩
  ihave Hrh := (Entails.of_eq (sep_two fun s => Ready (F := F) c (.rh s))) $$ Hrh
  icases Hrh with ⟨Hrh0, Hrh1⟩
  ihave Haw := (Entails.of_eq (sep_two fun s => Await (F := F) c (.rs s))) $$ Haw
  icases Haw with ⟨Haw0, Haw1⟩
  iapply (seqW c (first_W m K c 0)) $$ [Hx Hl Hl0 Hz HR]
  · isplitr; · iexact HC
    isplitl [Hx]; · iexact Hx
    isplitl [Hl]; · iexact Hl
    isplitl [Hl0]; · iexact Hl0
    isplitl [Hz]; · iexact Hz
    iexact HR
  iintro ⟨Hx, Hl, Hl0, Hz, HR⟩
  iapply (seqW c (resGo_W m c)) $$ [Hr Hs Hl1]
  · isplitl [Hr]; · iexact Hr
    isplitl [Hs]; · iexact Hs
    iexact Hl1
  iintro Hres
  iapply (seqW c (rs0_W m K c)) $$ [Hz Hrs0 Haw0 Hx Hl Hl0 HR]
  · isplitr; · iexact HC
    isplitl [Hz]; · iexact Hz
    isplitl [Hrs0]; · iexact Hrs0
    isplitl [Haw0]; · iexact Haw0
    isplitl [Hx]; · iexact Hx
    isplitl [Hl]; · iexact Hl
    isplitl [Hl0]; · iexact Hl0
    iexact HR
  iintro ⟨Hs0, Ho0, Ho0', Hz, Hx, Hl, Hl0, HR⟩
  iapply (seqW c (rs1_W m K c)) $$ [Hz Hrs1 Haw1 Hx Hl Hl0 HR]
  · isplitr; · iexact HC
    isplitl [Hz]; · iexact Hz
    isplitl [Hrs1]; · iexact Hrs1
    isplitl [Haw1]; · iexact Haw1
    isplitl [Hx]; · iexact Hx
    isplitl [Hl]; · iexact Hl
    isplitl [Hl0]; · iexact Hl0
    iexact HR
  iintro ⟨Hs1, Ho1, Ho1', Hz, Hx, Hl, Hl0, HR⟩
  ihave Hz := ((slot_halves c 2 (ps m 2 c)).trans (Entails.of_eq (sep_two fun h => hold c (czH 2 h) fullShare (sqz squeezes_S1x128x4096_S128x4096 (ph m c h))))) $$ Hz
  icases Hz with ⟨Hz0, Hz1⟩
  iapply (seqW c (go0_W m K c)) $$ [Hz0 Hrh0 HR]
  · isplitr; · iexact HC
    isplitl [Hz0]; · iexact Hz0
    isplitl [Hrh0]; · iexact Hrh0
    iexact HR
  iintro ⟨Hh0, HR⟩
  iapply (seqW c (go1_W m K c)) $$ [Hz1 Hrh1 HR]
  · isplitr; · iexact HC
    isplitl [Hz1]; · iexact Hz1
    isplitl [Hrh1]; · iexact Hrh1
    iexact HR
  iintro ⟨Hh1, HR⟩
  iapply (seqW c (loadX_W m K c (k0_off4 c) (k0_off4_inb c) 4)) $$ [Hx Hl Hl0 HR]
  · isplitr; · iexact HC
    isplitl [Hx]; · iexact Hx
    isplitl [Hl]; · iexact Hl
    isplitl [Hl0]; · iexact Hl0
    iexact HR
  iintro ⟨Hx, Hl, Hl0, HR⟩
  iapply (wp_wand_r (Fr := frame) (wpE := wpE (defs₀ (F := F)) 𝒱₀ (c : Thread nD τ) none) (E := Set.univ)
    (Q := fun _ => iprop(rHold m c ∗ hold c resM fullShare (rblk m c) ∗ lFree c 1 ∗ Run c 4)))
  isplitl [Hres HR]
  · iapply (resWait_W m K c 4)
    isplitr; · iexact HC
    isplitl [Hres]; · iexact Hres
    iexact HR
  iintro %a ⟨Hr, Hs, Hl1, HR⟩
  isplitl [HR]; · iexact HR
  isplitl [Hnone]; · iexact Hnone
  isplitl [Hs0 Hs1]
  · isplitl [Hs0]; · iexact Hs0
    iexact Hs1
  isplitl [Ho0 Ho0' Ho1 Ho1']
  · iapply (Entails.of_eq (sep_two fun s => iprop(Over (F := F) c (some (.rs s, false)) ∗ Over c (some (.rs s, true)))).symm)
    isplitl [Ho0 Ho0']
    · isplitl [Ho0]; · iexact Ho0
      iexact Ho0'
    · isplitl [Ho1]; · iexact Ho1
      iexact Ho1'
  isplitl [Hh0 Hh1]
  · isplitl [Hh0]; · iexact Hh0
    iexact Hh1
  isplitl [Hag]; · iexact Hag
  isplitl [Hpx]; · iexact Hpx
  isplitl [Hpy]; · iexact Hpy
  isplitl [Hfw]; · iexact Hfw
  isplitl [Hx]; · iexact Hx
  isplitl [Hr]; · iexact Hr
  isplitl [Hl]; · iexact Hl
  isplitl [Hs]; · iexact Hs
  isplitl [Hl0]; · iexact Hl0
  iexact Hl1

/-! ## The own block -/

/-- What half `h` starts from, -/
def ownA (c : Dev nD) (h : Fin 2) : sProp 𝕄 :=
  iprop(Sent c (.rh h) ∗ Await c (.rh h) ∗ anyAt (F := F) c (ck colM (pl c (k8 h))) ∗ Ready (F := F) c (.ag (k6 h)) ∗ Ready (F := F) c (.px (k8 h)) ∗ Ready (F := F) c (.py (k8 h)) ∗ ybFree (F := F) c (par h.val) ∗ outAny (F := F) c h.val)
/-- and leaves. -/
def ownB (c : Dev nD) (h : Fin 2) : sProp 𝕄 :=
  iprop((sendP m c (.rh h) ∗ recvP m c (.rh h)) ∗ (Over c (some (.rh h, false)) ∗ Over c (some (.rh h, true))) ∗ hold c (ck colM (pl c (k8 h))) shL (colv m c (k8 h))
    ∗ Sent c (.ag (k6 h)) ∗ Sent c (.px (k8 h)) ∗ Sent c (.py (k8 h)) ∗ Fl m c h.val)
/-- The blocks both halves read. -/
def blocks (c : Dev nD) (q : PosShare TreeShare) : sProp 𝕄 :=
  iprop(hold c locM fullShare (xblk m c (k0_off4 c) (k0_off4_inb c)) ∗ hold c resM fullShare (rblk m c) ∗ hold c gamM q (gin m c))

/-- One half after the other two's summand is there. -/
theorem half_W (c : Dev nD) (h : Fin 2) (q : PosShare TreeShare) {α : Type} {Q : α → sProp 𝕄} {k : PUnit → P F α} :
    iprop(Ctx m K ∗ blocks m c q ∗ ownA c h ∗ Run c (4 + 3 * h.val))
      ⊢ iprop((iprop(blocks m c q ∗ ownB m c h ∗ Run c (7 + 3 * h.val)) -∗ Wp c (k ⟨⟩) Q) -∗ Wp c (lastWait c h >>= fun _ => own c h >>= k) Q) := by
  unfold blocks ownA ownB
  iintro ⟨#HC, ⟨Hl, Hr, Hg⟩, ⟨HS, HA, Hc, HrZ, HrX, HrY, Hy, Ho⟩, HR⟩ Hk
  iapply (seqW c (lastWait_W m K c h (4 + 3 * h.val) (by omega))) $$ [HS HA HR]
  · isplitr; · iexact HC
    isplitl [HS]; · iexact HS
    isplitl [HA]; · iexact HA
    iexact HR
  iintro ⟨Hsp, Hrp, Ho1, Ho2, HR⟩
  iapply (seqW c (own_W m K c h q)) $$ [Hrp Hl Hr Hg Hc HrZ HrX HrY Hy Ho HR]
  · isplitr; · iexact HC
    isplitl [Hrp]; · iexact Hrp
    isplitl [Hl]; · iexact Hl
    isplitl [Hr]; · iexact Hr
    isplitl [Hg]; · iexact Hg
    isplitl [Hc]; · iexact Hc
    isplitl [HrZ]; · iexact HrZ
    isplitl [HrX]; · iexact HrX
    isplitl [HrY]; · iexact HrY
    isplitl [Hy]; · iexact Hy
    isplitl [Ho]; · iexact Ho
    iexact HR
  iintro ⟨Hrp, Hl, Hr, Hg, Hc, HsZ, HsX, HsY, HF, HR⟩
  iapply Hk
  isplitl [Hl Hr Hg]
  · isplitl [Hl]; · iexact Hl
    isplitl [Hr]; · iexact Hr
    iexact Hg
  isplitr [HR]
  · isplitl [Hsp Hrp]
    · isplitl [Hsp]; · iexact Hsp
      iexact Hrp
    isplitl [Ho1 Ho2]
    · isplitl [Ho1]; · iexact Ho1
      iexact Ho2
    isplitl [Hc]; · iexact Hc
    isplitl [HsZ]; · iexact HsZ
    isplitl [HsX]; · iexact HsX
    isplitl [HsY]; · iexact HsY
    iexact HF
  iexact HR

/-! ## The four loops -/

/-- Eight of a kind from the first two and the other six. -/
theorem eight_join (Φ : Fin 8 → sProp 𝕄) : iprop(Φ (k8 0) ∗ Φ (k8 1) ∗ bigSep Finset.univ fun j : Fin 6 => Φ (z8 j)) ⊢ bigSep Finset.univ Φ := Entails.of_eq (eight_split Φ).symm

end Cert.KernelIdeal.Steps

end
-- ==== Proof.Loops.lean ====
module

public import proofs.«01_k».proof.Proof.Whole

/-! # The loops, and the body from end to end

The four loops and the last waits; then the whole body. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cx → ℕ)

/-- The end of a program. -/
def loops (c : Dev nD) : P F PUnit := do
  upto (fun j => zStep c (Fin.ofNat 6 j)) 6
  upto (fun k => xyStep c (Fin.ofNat 8 k)) 8
  upto (fun k => gdStep c (Fin.ofNat 8 k)) 8
  upto (fun k => drainXY c (Fin.ofNat 8 k)) 8
  upto (fun k => drainF c (Fin.ofNat 8 k)) 8
  ybWait c 30
  ybWait c 31

/-- What the copies yet to come start from. -/
def loopA (c : Dev nD) : sProp 𝕄 :=
  iprop((bigSep Finset.univ fun k => Await (F := F) c (.ag k)) ∗ (bigSep Finset.univ fun k => Await (F := F) c (.px k)) ∗ (bigSep Finset.univ fun k => Await (F := F) c (.py k))
    ∗ (bigSep Finset.univ fun k => Await (F := F) c (.fw k))
    ∗ (bigSep Finset.univ fun j : Fin 6 => if h : j.val < 4 then Ready (F := F) c (.ag ⟨j.val + 2, by omega⟩) else iprop(emp))
    ∗ (bigSep Finset.univ fun j => Ready (F := F) c (.px (z8 j))) ∗ (bigSep Finset.univ fun j => Ready (F := F) c (.py (z8 j))) ∗ (bigSep Finset.univ fun k => Ready (F := F) c (.fw k))
    ∗ bigSep (Finset.Ico 2 32) (outAny (F := F) c))

/-- What a half of the own block has set off. -/
def halfA (c : Dev nD) (h : Fin 2) : sProp 𝕄 :=
  iprop(hold c (ck colM (pl c (k8 h))) shL (colv m c (k8 h)) ∗ Sent c (.ag (k6 h)) ∗ Sent c (.px (k8 h)) ∗ Sent c (.py (k8 h)) ∗ Fl m c h.val)

/-- What the loops leave. -/
def loopB (c : Dev nD) : sProp 𝕄 :=
  iprop((anyAt (F := F) c colM ∗ anyAt (F := F) c gxM ∗ anyAt (F := F) c gyM ∗ anyAt (F := F) c gdM)
    ∗ (((bigSep Finset.univ fun k : Fin 6 => Over (F := F) c (some (.ag k, false))) ∗ bigSep Finset.univ fun k : Fin 6 => Over (F := F) c (some (.ag k, true)))
        ∗ ((bigSep Finset.univ fun k : Fin 8 => Over (F := F) c (some (.px k, false))) ∗ bigSep Finset.univ fun k : Fin 8 => Over (F := F) c (some (.px k, true)))
        ∗ ((bigSep Finset.univ fun k : Fin 8 => Over (F := F) c (some (.py k, false))) ∗ bigSep Finset.univ fun k : Fin 8 => Over (F := F) c (some (.py k, true)))
        ∗ ((bigSep Finset.univ fun k : Fin 8 => Over (F := F) c (some (.fw k, false))) ∗ bigSep Finset.univ fun k : Fin 8 => Over (F := F) c (some (.fw k, true))))
    ∗ ybFree c 0 ∗ ybFree c 1 ∗ hold c outM fullShare (outAll m c) ∗ Run c 34)

/-- The chain along z begins where the own block has ended. -/
theorem zI_start (c : Dev nD) :
    iprop(Ctx m K ∗ Run c 10 ∗ Sent c (.ag (k6 0)) ∗ Sent c (.ag (k6 1)) ∗ Fl m c 0 ∗ Fl m c 1 ∗ bigSep (Finset.Ico 2 32) (outAny (F := F) c)) ⊢ zI m K c 0 := by
  have h0 : (zFly c 0 : sProp 𝕄) = Sent c (.ag (k6 0)) := dif_pos (by decide)
  have h1 : (zFly c (0 + 1) : sProp 𝕄) = Sent c (.ag (k6 1)) := dif_pos (by decide)
  unfold zI OutS
  rw [h0, h1]
  iintro ⟨#HC, HR, HS0, HS1, HF0, HF1, HO⟩
  isplitr; · iexact HC
  isplitl [HR]; · iexact HR
  isplitl [HS0]; · iexact HS0
  isplitl [HS1]; · iexact HS1
  isplitl []
  · rw [Finset.range_zero, bigSep_empty]; iempintro
  isplitl [HF0]; · iexact HF0
  isplitl [HF1]; · iexact HF1
  iexact HO

/-- The exchange along x and y begins where the chain along z has ended. -/
theorem zI_xyI (c : Dev nD) : zI m K c 6 ⊢ xyI m K c 0 := by
  unfold zI xyI
  iintro ⟨#HC, HR, -, -, HO⟩
  isplitr; · iexact HC
  isplitl [HR]; · iexact HR
  iexact HO
/-- The diagonal column begins where the exchange along x and y has ended. -/
theorem xyI_gdI (c : Dev nD) : xyI m K c 8 ⊢ gdI m K c 0 := by unfold xyI gdI; exact BIBase.Entails.rfl
/-- The waits for the sends begin where the diagonal column has ended. -/
theorem gdI_drI (c : Dev nD) : gdI m K c 8 ⊢ iprop(drI m K c 0 ∗ OutS m c 30) := by
  unfold gdI drI
  iintro ⟨#HC, HR, HO⟩
  isplitl [HR]
  · isplitr; · iexact HC
    iexact HR
  iexact HO

/-- The chain, the exchange, the diagonal column and the last waits run one after another. -/
theorem loops_W (c : Dev nD) :
    iprop(Ctx m K ∗ Run c 10 ∗ loopA c ∗ halfA m c 0 ∗ halfA m c 1) ⊢ Wp c (loops c) (fun _ => loopB m c) := by
  unfold loops loopA halfA loopB
  iintro ⟨#HC, HR, ⟨Aag, Apx, Apy, Afw, Rag, Rpx, Rpy, Rfw, Ho⟩, ⟨Hc0, Sag0, Spx0, Spy0, HF0⟩, ⟨Hc1, Sag1, Spx1, Spy1, HF1⟩⟩
  iapply (seqW c (loopW c (zStep c) (zA c) (zB m c) (zI m K c) (zStep_W m K c))) $$ [HR Aag Rag Rpx Rpy Ho Sag0 Sag1 HF0 HF1]
  · isplitl [HR Sag0 Sag1 HF0 HF1 Ho]
    · iapply (zI_start m K c)
      isplitr; · iexact HC
      isplitl [HR]; · iexact HR
      isplitl [Sag0]; · iexact Sag0
      isplitl [Sag1]; · iexact Sag1
      isplitl [HF0]; · iexact HF0
      isplitl [HF1]; · iexact HF1
      iexact Ho
    · iapply (zA_join c)
      isplitl [Aag]; · iexact Aag
      isplitl [Rpx]; · iexact Rpx
      isplitl [Rpy]; · iexact Rpy
      iexact Rag
  iintro ⟨HI, HB⟩
  ihave HB := (Entails.of_eq (zB_split m c)) $$ HB
  icases HB with ⟨Pag, Oag, Oag', Spx, Spy, HcL, HcZ⟩
  ihave HI := (zI_xyI m K c) $$ HI
  iapply (seqW c (loopW c (xyStep c) (xyA c) (xyB m c) (xyI m K c) (xyStep_W m K c))) $$ [HI Apx Apy Rfw]
  · isplitl [HI]; · iexact HI
    iapply (xyA_join c)
    isplitl [Apx]; · iexact Apx
    isplitl [Apy]; · iexact Apy
    iexact Rfw
  iintro ⟨HI, HB⟩
  ihave HB := (Entails.of_eq (xyB_split m c)) $$ HB
  icases HB with ⟨Opx, Opy, Sfw, Hrest, Hgx, Hgy⟩
  ihave HI := (xyI_gdI m K c) $$ HI
  iapply (seqW c (loopW c (gdStep c) (fun k => Await c (.fw k)) (gdB m c) (gdI m K c) (gdStep_W m K c))) $$ [HI Afw]
  · isplitl [HI]; · iexact HI
    iexact Afw
  iintro ⟨HI, HB⟩
  ihave HB := (Entails.of_eq (gdB_split m c)) $$ HB
  icases HB with ⟨Ofw, Hgd⟩
  ihave HI := (gdI_drI m K c) $$ HI
  icases HI with ⟨HI, HOut⟩
  iapply (seqW c (loopW c (drainXY c) (fun k => iprop(Sent c (.px k) ∗ Sent c (.py k))) (fun k => iprop(Back m c (.px k) ∗ Back m c (.py k))) (drI m K c) (drainXY_W m K c))) $$ [HI Spx0 Spx1 Spx Spy0 Spy1 Spy]
  · isplitl [HI]; · iexact HI
    iapply (Entails.of_eq (bigSep_sep' Finset.univ (fun k => Sent (F := F) c (.px k)) (fun k => Sent (F := F) c (.py k))).symm)
    isplitl [Spx0 Spx1 Spx]
    · iapply (eight_join fun k => Sent (F := F) c (.px k))
      isplitl [Spx0]; · iexact Spx0
      isplitl [Spx1]; · iexact Spx1
      iexact Spx
    · iapply (eight_join fun k => Sent (F := F) c (.py k))
      isplitl [Spy0]; · iexact Spy0
      isplitl [Spy1]; · iexact Spy1
      iexact Spy
  iintro ⟨HI, HB⟩
  ihave HB := (Entails.of_eq (bigSep_sep' Finset.univ (fun k => Back m c (.px k)) (fun k => Back m c (.py k)))) $$ HB
  icases HB with ⟨Hbx, Hby⟩
  ihave Hbx := (Entails.of_eq (back_split m c T.px)) $$ Hbx
  icases Hbx with ⟨Px, Opx'⟩
  ihave Hby := (Entails.of_eq (back_split m c T.py)) $$ Hby
  icases Hby with ⟨Py, Opy'⟩
  iapply (seqW c (loopW c (drainF c) (fun k => Sent c (.fw k)) (fun k => Back m c (.fw k)) (drI m K c) (drainF_W m K c))) $$ [HI Sfw]
  · isplitl [HI]; · iexact HI
    iexact Sfw
  iintro ⟨HI, HB⟩
  ihave Hbf := (Entails.of_eq (back_split m c T.fw)) $$ HB
  icases Hbf with ⟨Pf, Ofw'⟩
  ihave HI := (show drI m K c 8 ⊢ Run c 34 from by unfold drI; iintro ⟨-, H⟩; iexact H) $$ HI
  iapply (wp_wand_r (Fr := frame) (wpE := wpE (defs₀ (F := F)) 𝒱₀ (c : Thread nD τ) none) (E := Set.univ)
    (Q := fun _ => iprop(ybFree c 0 ∗ ybFree c 1 ∗ BI.bigSep (Finset.range 32) (outDone m c) ∗ Run c 34)))
  isplitl [HOut HI]
  · iapply (lastOut_W m K c 34)
    isplitr; · iexact HC
    isplitl [HOut]; · iexact HOut
    iexact HI
  iintro %a ⟨Hy0, Hy1, HD, HR⟩
  isplitl [Pag HcZ Px Py Hc0 Hc1 HcL Hgx Hgy Hrest Pf Hgd]
  · isplitl [Pag HcZ Px Py Hc0 Hc1 HcL]
    · iapply (back_col m c)
      isplitl [Pag HcZ]
      · iapply (six_join fun k => hold c (ck colM (pl c k)) shZ (colv m c k))
        isplitl [Pag]; · iexact Pag
        iexact HcZ
      isplitl [Px]; · iexact Px
      isplitl [Py]; · iexact Py
      iapply (eight_join fun k => hold c (ck colM (pl c k)) shL (colv m c k))
      isplitl [Hc0]; · iexact Hc0
      isplitl [Hc1]; · iexact Hc1
      iexact HcL
    ihave Hg := (back_gxy m c) $$ [Hgx Hgy Hrest Pf]
    · isplitl [Hgx]; · iexact Hgx
      isplitl [Hgy]; · iexact Hgy
      isplitl [Hrest]; · iexact Hrest
      iexact Pf
    icases Hg with ⟨Hgx, Hgy⟩
    isplitl [Hgx]; · iexact Hgx
    isplitl [Hgy]; · iexact Hgy
    iapply (back_gd m c); iexact Hgd
  isplitl [Oag Oag' Opx Opx' Opy Opy' Ofw Ofw']
  · isplitl [Oag Oag']
    · isplitl [Oag]; · iexact Oag
      iexact Oag'
    isplitl [Opx Opx']
    · isplitl [Opx']; · iexact Opx'
      iexact Opx
    isplitl [Opy Opy']
    · isplitl [Opy']; · iexact Opy'
      iexact Opy
    isplitl [Ofw']; · iexact Ofw'
    iexact Ofw
  isplitl [Hy0]; · iexact Hy0
  isplitl [Hy1]; · iexact Hy1
  isplitl [HD]; · iapply (glue_out m c); iexact HD
  iexact HR

/-! ## From end to end -/

/-- A device's tokens and semaphores at the start of the body. -/
def tok (c : Dev nD) : sProp 𝕄 :=
  iprop((∃ W, owes (c : Thread nD τ) (O₀ c) W) ∗ (bigSep Finset.univ fun d : Fin 4 => dutyTok ER (kcell (nbI c d, none)) 0 d)
    ∗ cred (tallyAt (kcell (c, none)) () 4) ∗ atPos ER (kcell (c, none)) 0 ∅ 0 ∗ (bigSep Finset.univ fun t : T => Ready₀ (F := F) c t) ∗ (bigSep Finset.univ fun t : T => Await (F := F) c t))
/-- Its own copies' semaphores. -/
def loc0 (c : Dev nD) : sProp 𝕄 := iprop(lFree (F := F) c 0 ∗ lFree (F := F) c 1 ∗ lFree (F := F) c 2 ∗ lFree (F := F) c 3)
/-- Its scratch buffers. -/
def bufs (c : Dev nD) : sProp 𝕄 :=
  iprop(anyAt (F := F) c czM ∗ anyAt (F := F) c colM ∗ anyAt (F := F) c gxM ∗ anyAt (F := F) c gyM ∗ anyAt (F := F) c gdM ∗ anyAt (F := F) c ybM ∗ anyAt (F := F) c locM ∗ anyAt (F := F) c resM)

/-- The body of one device, from its start to its end. -/
theorem prog_W (c : Dev nD) (q : PosShare TreeShare) :
    iprop(Ctx m K ∗ tok c ∗ loc0 c ∗ bufs c ∗ hold c gamM q (gin m c) ∗ xHold m c ∗ rHold m c ∗ anyAt c outM)
      ⊢ Wp c (do head c; lastWait c 0; own c 0; lastWait c 1; own c 1; loops c)
          (fun _ => iprop(Run c 34 ∗ (bigSep Finset.univ fun x : Cx => Over c x) ∗ loc0 c ∗ bufs c ∗ hold c gamM q (gin m c) ∗ xHold m c ∗ rHold m c ∗ hold c outM fullShare (outAll m c))) := by
  have hawait := sep_T fun t => Await (F := F) c t
  unfold tok loc0 bufs
  rw [hawait]
  iintro ⟨#HC, ⟨HO, Hd, Hcr, Hat, Hrdy, ⟨Ars, Arh, Aag, Apx, Apy, Afw⟩⟩, ⟨Hl0, Hl1, Hl2, Hl3⟩, ⟨Bz, Bc, Bx, By, Bd, Byb, Bl, Br⟩, Hg, Hx, Hr, Ho⟩
  ihave Hroom := (room c) $$ [Bz Bc Bx By Bd]
  · isplitl [Bz]; · iexact Bz
    isplitl [Bc]; · iexact Bc
    isplitl [Bx]; · iexact Bx
    isplitl [By]; · iexact By
    iexact Bd
  icases Hroom with ⟨Hz, Hc0, Hc1, Hrecv⟩
  ihave Byb := (cut_yb c) $$ Byb
  icases Byb with ⟨Hy0, Hy1⟩
  ihave Ho := (cut_out c) $$ Ho
  icases Ho with ⟨Ho0, Ho1, Ho⟩
  iapply (seqW c (head_W m K c)) $$ [HO Hd Hcr Hat Hrecv Hrdy Ars Hx Hr Hz Bl Br Hl0 Hl1]
  · isplitr; · iexact HC
    isplitl [HO]; · iexact HO
    isplitl [Hd]; · iexact Hd
    isplitl [Hcr]; · iexact Hcr
    isplitl [Hat]; · iexact Hat
    isplitl [Hrecv]; · iexact Hrecv
    isplitl [Hrdy]; · iexact Hrdy
    isplitl [Ars]; · iexact Ars
    isplitl [Hx]; · iexact Hx
    isplitl [Hr]; · iexact Hr
    isplitl [Hz]; · iexact Hz
    isplitl [Bl]; · iexact Bl
    isplitl [Br]; · iexact Br
    isplitl [Hl0]; · iexact Hl0
    iexact Hl1
  iintro ⟨HR, Onone, ⟨Prs0, Prs1⟩, Ors, ⟨Srh0, Srh1⟩, Rag, Rpx, Rpy, Rfw, Hx, Hr, Bl, Br, Hl0, Hl1⟩
  ihave Arh := (Entails.of_eq (sep_two fun h => Await (F := F) c (.rh h))) $$ Arh
  icases Arh with ⟨Arh0, Arh1⟩
  ihave Rag := (six_shift fun k => Ready (F := F) c (.ag k)) $$ Rag
  icases Rag with ⟨Rag0, Rag1, Rag⟩
  ihave Rpx := (Entails.of_eq (eight_split fun k => Ready (F := F) c (.px k))) $$ Rpx
  icases Rpx with ⟨Rpx0, Rpx1, Rpx⟩
  ihave Rpy := (Entails.of_eq (eight_split fun k => Ready (F := F) c (.py k))) $$ Rpy
  icases Rpy with ⟨Rpy0, Rpy1, Rpy⟩
  iapply (half_W m K c 0 q) $$ [HR Bl Br Hg Srh0 Arh0 Hc0 Rag0 Rpx0 Rpy0 Hy0 Hl2 Ho0]
  · isplitr; · iexact HC
    isplitl [Bl Br Hg]
    · unfold blocks
      isplitl [Bl]; · iexact Bl
      isplitl [Br]; · iexact Br
      iexact Hg
    isplitr [HR]
    · unfold ownA
      isplitl [Srh0]; · iexact Srh0
      isplitl [Arh0]; · iexact Arh0
      isplitl [Hc0]; · iexact Hc0
      isplitl [Rag0]; · iexact Rag0
      isplitl [Rpx0]; · iexact Rpx0
      isplitl [Rpy0]; · iexact Rpy0
      isplitl [Hy0 Hl2]
      · iapply (show iprop(anyAt (F := F) c (ybS 0) ∗ lFree (F := F) c 2) ⊢ ybFree c (par (0 : Fin 2).val) from BIBase.Entails.rfl)
        isplitl [Hy0]; · iexact Hy0
        iexact Hl2
      iexact Ho0
    iexact HR
  iintro ⟨Hbl, HB0, HR⟩
  iapply (half_W m K c 1 q) $$ [HR Hbl Srh1 Arh1 Hc1 Rag1 Rpx1 Rpy1 Hy1 Hl3 Ho1]
  · isplitr; · iexact HC
    isplitl [Hbl]; · iexact Hbl
    isplitr [HR]
    · unfold ownA
      isplitl [Srh1]; · iexact Srh1
      isplitl [Arh1]; · iexact Arh1
      isplitl [Hc1]; · iexact Hc1
      isplitl [Rag1]; · iexact Rag1
      isplitl [Rpx1]; · iexact Rpx1
      isplitl [Rpy1]; · iexact Rpy1
      isplitl [Hy1 Hl3]
      · iapply (show iprop(anyAt (F := F) c (ybS 1) ∗ lFree (F := F) c 3) ⊢ ybFree c (par (1 : Fin 2).val) from BIBase.Entails.rfl)
        isplitl [Hy1]; · iexact Hy1
        iexact Hl3
      iexact Ho1
    iexact HR
  iintro ⟨Hbl, HB1, HR⟩
  unfold ownB blocks
  icases HB0 with ⟨⟨Psrh0, Prrh0⟩, Orh0, HA0⟩
  icases HB1 with ⟨⟨Psrh1, Prrh1⟩, Orh1, HA1⟩
  icases Hbl with ⟨Bl, Br, Hg⟩
  iapply (wp_wand_r (Fr := frame) (wpE := wpE (defs₀ (F := F)) 𝒱₀ (c : Thread nD τ) none) (E := Set.univ) (Q := fun _ => loopB m c))
  isplitl [HR Aag Apx Apy Afw Rag Rpx Rpy Rfw Ho HA0 HA1]
  · iapply (loops_W m K c)
    isplitr; · iexact HC
    isplitl [HR]; · iexact HR
    isplitr [HA0 HA1]
    · unfold loopA
      isplitl [Aag]; · iexact Aag
      isplitl [Apx]; · iexact Apx
      isplitl [Apy]; · iexact Apy
      isplitl [Afw]; · iexact Afw
      isplitl [Rag]; · iexact Rag
      isplitl [Rpx]; · iexact Rpx
      isplitl [Rpy]; · iexact Rpy
      isplitl [Rfw]; · iexact Rfw
      iexact Ho
    isplitl [HA0]; · unfold halfA; iexact HA0
    unfold halfA; iexact HA1
  iintro %a HL
  unfold loopB
  icases HL with ⟨⟨Bc, Bx, By, Bd⟩, ⟨Oag, Opx, Opy, Ofw⟩, Hy0, Hy1, Ho, HR⟩
  unfold ybFree
  icases Hy0 with ⟨Hy0, Hl2⟩
  icases Hy1 with ⟨Hy1, Hl3⟩
  isplitl [HR]; · iexact HR
  isplitl [Ors Orh0 Orh1 Oag Opx Opy Ofw Onone]
  · iapply (over_all c)
    isplitl [Ors]; · iexact Ors
    isplitl [Orh0 Orh1]
    · iapply (Entails.of_eq (sep_two fun h => iprop(Over (F := F) c (some (.rh h, false)) ∗ Over c (some (.rh h, true)))).symm)
      isplitl [Orh0]; · iexact Orh0
      iexact Orh1
    isplitl [Oag]; · iexact Oag
    isplitl [Opx]; · iexact Opx
    isplitl [Opy]; · iexact Opy
    isplitl [Ofw]; · iexact Ofw
    iexact Onone
  isplitl [Hl0 Hl1 Hl2 Hl3]
  · isplitl [Hl0]; · iexact Hl0
    isplitl [Hl1]; · iexact Hl1
    isplitl [Hl2]
    · iapply (show (semVal ((c : Thread nD τ), .dma (sem2 cc0_scratch23 0)) 0 : sProp 𝕄) ⊢ lFree c 2 from BIBase.Entails.rfl); iexact Hl2
    iapply (show (semVal ((c : Thread nD τ), .dma (sem2 cc0_scratch23 1)) 0 : sProp 𝕄) ⊢ lFree c 3 from BIBase.Entails.rfl); iexact Hl3
  isplitl [Prs0 Prs1 Psrh0 Psrh1 Prrh0 Prrh1 Bc Bx By Bd Hy0 Hy1 Bl Br]
  · isplitl [Prs0 Prs1 Psrh0 Psrh1 Prrh0 Prrh1]
    · iapply (back_cz m c)
      isplitl [Prs0]; · iexact Prs0
      isplitl [Prs1]; · iexact Prs1
      isplitl [Psrh0]; · iexact Psrh0
      isplitl [Psrh1]; · iexact Psrh1
      isplitl [Prrh0]; · iexact Prrh0
      iexact Prrh1
    isplitl [Bc]; · iexact Bc
    isplitl [Bx]; · iexact Bx
    isplitl [By]; · iexact By
    isplitl [Bd]; · iexact Bd
    isplitl [Hy0 Hy1]
    · iapply (glue_yb c)
      isplitl [Hy0]; · iexact Hy0
      iexact Hy1
    isplitl [Bl]; · iapply (hold_any c locM (xblk m c (k0_off4 c) (k0_off4_inb c))); iexact Bl
    iapply (hold_any c resM (rblk m c)); iexact Br
  isplitl [Hg]; · iexact Hg
  isplitl [Hx]; · iexact Hx
  isplitl [Hr]; · iexact Hr
  iexact Ho

end Cert.KernelIdeal.Steps

end
-- ==== Proof.BodyEq.lean ====
module

public import proofs.«01_k».proof.Proof.Prog

@[expose] public section

set_option maxRecDepth 100000

noncomputable section

namespace Cert.KernelIdeal.Steps

open Idealize.ShloMosaic Idealize.ShloMosaic.TcCoe Idealize.SL.Sem
open Cert.KernelIdeal.Gen

variable {F : FTy → Type} [FloatOps F]

/-- The printed body is the line of steps. -/
theorem body_eq (t : Fin cfg0.N) : bodyAt0 (F := F) t = prog := by
  unfold bodyAt0
  sl_kernel_rfl

end Cert.KernelIdeal.Steps

end
-- ==== Proof.Start.lean ====
module

public import proofs.«01_k».proof.Proof.Loops
public import proofs.«01_k».proof.Proof.BodyEq
public import proofs.«01_k».proof.Proof.Gen.KernelIdeal.Launch
public import proofs.«01_k».proof.Proof.Gen.KernelIdeal.Points
public import Idealize.ShloMosaic.Lib.Pipeline.Value

/-! # The body at the launch's terms

What a device holds before and after the one grid point, and the body between them. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a device starts from: the semaphores' invariants, its tokens, and its buffers. -/
def Φ₀ (c : Dev nD) : sProp 𝕄 :=
  iprop((∃ K, Ctx m K ∗ (bigSep Finset.univ fun d : Fin 4 => dutyTok ER (kcell (nbI c d, none)) 0 d)
      ∗ atPos ER (kcell (c, none)) 0 ∅ 0 ∗ (bigSep Finset.univ fun t : T => Ready₀ (F := F) c t)
      ∗ (bigSep Finset.univ fun t : T => atPos ER (kcell (c, some (t, true))) 0 ∅ 0))
    ∗ (cred (tallyAt (kcell (c, none)) () 4) ∗ (bigSep Finset.univ fun t : T => cred (tallyAt (kcell (c, some (t, true))) () (amt t))))
    ∗ loc0 (F := F) c ∗ bufs (F := F) c ∗ xHold m c ∗ rHold m c ∗ anyAt (F := F) c outM)
/-- What it ends with: every semaphore at zero, and the result written. -/
def Φ₁ (c : Dev nD) : sProp 𝕄 :=
  iprop((bigSep Finset.univ fun x : Cx => semVal (kcell (c, x)) 0) ∗ loc0 (F := F) c ∗ bufs (F := F) c ∗ xHold m c ∗ rHold m c ∗ hold c outM fullShare (outAll m c))

/-- The weights as staged. -/
def gstg (c : Dev nD) : (cc0_stg0_0 : Ref sig .tc).ty.Contents (Elt F) :=
  (win0_0.blk (0 : Fin 1)).view.read (Elt F) (m ((c : Thread nD τ).loc main_arg2))
/-- The weights' window holds the weights. -/
theorem gstg_eq (c : Dev nD) : gstg m c = gin m c := by
  funext i
  unfold gstg gin
  show m ((c : Thread nD τ).loc main_arg2) ((win0_0.rect (0 : Fin 1)).emb i) = _
  congr 1
  funext a
  exact Fin.ext (Pipeline.Window.rect_emb_val_of_index_zero win0_0 (0 : Fin 1) a rfl i)

def dats (_ : Fin 1) (c : Dev nD) : Dat τ (Elt F) Unit ℕ UU ℕ cfg0 c where
  A w := m ((cfg0.win w).arr.view.loc (c : Thread nD τ))
  after w _ := match w with
    | ⟨0, _⟩ => gstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Every wait over, every semaphore is back at zero. -/
theorem close_all (K : Dev nD × Cx → ℕ) (c : Dev nD) :
    iprop(Ctx m K ∗ (bigSep Finset.univ fun x : Cx => Over (F := F) c x)) ⊢ |={Set.univ}=> bigSep Finset.univ fun x : Cx => semVal (kcell (c, x)) 0 :=
  (sep_mono_left (BI.bigSep_of_persistent Finset.univ (Ctx m K))).trans (by
    rw [← bigSep_sep']
    exact (bigSep_mono fun x _ => over_close m K c x).trans (bigSep_fupd _ _))

def bodyPre (c : Dev nD) : sProp 𝕄 :=
  iprop(Φ₀ m c ∗ (dats m 0 c).owesAt () t0_0.castSucc ∗ (∃ d, owns (c : Thread nD τ) gamM fullShare ((dats m 0 c).before (0 : Fin 1) t0_0 d)))
def bodyPost (c : Dev nD) : sProp 𝕄 :=
  iprop(Φ₁ m c ∗ (dats m 0 c).owesAt () t0_0.succ ∗ owns (c : Thread nD τ) gamM fullShare (gstg m c))

/-- The program once the device is known. -/
theorem prog_open (c : Dev nD) (Q : PUnit → sProp 𝕄) :
    Wp c prog Q = Wp c (do head c; lastWait c 0; own c 0; lastWait c 1; own c 1; loops c) Q := by
  rw [show (prog : P F PUnit) = .op .deviceId (fun d => do head d; lastWait d 0; own d 0; lastWait d 1; own d 1; loops d) from rfl]
  simp only [wp_deviceId]

/-- The whole body, from the pipeline's precondition to its postcondition. -/
theorem body_W (c : Dev nD) : bodyPre m c ⊢ Wp c prog (fun _ => bodyPost m c) := by
  rw [prog_open]
  unfold bodyPre Φ₀
  iintro ⟨⟨⟨%K, #HC, Hd, Hb, Hr, Ha⟩, ⟨Hcb, Hcr⟩, Hl, Hu, Hx, Hres, Ho⟩, Hw, ⟨%d, Hg⟩⟩
  have hx : (dats m 0 c).before (0 : Fin 1) t0_0 d = gin m c := by
    unfold Dat.before; rw [if_pos (fetch0_0 t0_0)]; exact gstg_eq m c
  rw [hx]
  unfold Dat.owesAt Pipeline.owesWithin
  icases Hw with ⟨%W, %hW, HO⟩
  rw [show (dats m 0 c).owed t0_0.castSucc = O₀ c from rfl]
  iapply (wp_fupd frame (wpE (defs₀ (F := F)) 𝒱₀ (c : Thread nD τ) none) Set.univ)
  iapply (wp_wand_r (Fr := frame) (wpE := wpE (defs₀ (F := F)) 𝒱₀ (c : Thread nD τ) none) (E := Set.univ)
    (Q := fun _ => iprop(Run c 34 ∗ (bigSep Finset.univ fun x : Cx => Over (F := F) c x) ∗ loc0 (F := F) c ∗ bufs (F := F) c
      ∗ hold c gamM fullShare (gin m c) ∗ xHold m c ∗ rHold m c ∗ hold c outM fullShare (outAll m c))))
  isplitl [Hd Hb Hr Ha Hcb Hcr Hl Hu Hx Hres Ho Hg HO]
  · iapply (prog_W m K c fullShare)
    isplitr; · iexact HC
    isplitl [HO Hd Hcb Hb Hr Hcr Ha]
    · unfold tok
      isplitl [HO]; · iexists W; iexact HO
      isplitl [Hd]; · iexact Hd
      isplitl [Hcb]; · iexact Hcb
      isplitl [Hb]; · iexact Hb
      isplitl [Hr]; · iexact Hr
      unfold Await
      rw [bigSep_sep']
      isplitl [Hcr]; · iexact Hcr
      iexact Ha
    isplitl [Hl]; · iexact Hl
    isplitl [Hu]; · iexact Hu
    isplitl [Hg]; · unfold hold; iexact Hg
    isplitl [Hx]; · iexact Hx
    isplitl [Hres]; · iexact Hres
    iexact Ho
  iintro %a ⟨HR, Hov, Hl, Hu, Hg, Hx, Hres, Ho⟩
  imod (close_all m K c) $$ [Hov] with Hz
  · isplitr; · iexact HC
    iexact Hov
  imodintro
  unfold bodyPost Φ₁ Dat.owesAt Pipeline.owesWithin
  rw [show (dats m 0 c).owed t0_0.succ = 0 from rfl]
  isplitl [Hz Hl Hu Hx Hres Ho]
  · isplitl [Hz]; · iexact Hz
    isplitl [Hl]; · iexact Hl
    isplitl [Hu]; · iexact Hu
    isplitl [Hx]; · iexact Hx
    isplitl [Hres]; · iexact Hres
    iexact Ho
  isplitl [HR]
  · unfold Run
    rw [Owe_end]
    icases HR with ⟨%W', HO⟩
    iexists W'
    isplitr; · ipureintro; exact fun _ _ => Or.inl trivial
    iexact HO
  rw [gstg_eq]
  unfold hold
  iexact Hg

set_option maxRecDepth 100000 in
/-- The body's triple as the launch asks for it. -/
theorem body_obligation (c : Dev nD) : BodyObligation (dats (F := F) m 0 c) (defs₀ (F := F)) 𝒱₀ () Set.univ := fun t => by
  rw [fin_N0 t]
  rw [bigSep_W0, bigSep_W0]
  show bodyPre m c ⊢ Wp c (bodyAt0 t0_0) (fun _ => bodyPost m c)
  rw [body_eq]
  exact body_W m c

end Cert.KernelIdeal.Steps

end
-- ==== Proof.Fund.lean ====
module

public import proofs.«01_k».proof.Proof.Start

/-! # The launch's ghost state

The semaphores' invariants are set up for every device at once, and the tokens dealt to the devices that pay them. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores -/

/-- The kernel's own semaphores: two per copy between devices, and its own copies'. -/
def osem : (T × Bool) ⊕ Fin 4 → SemLoc sig
  | .inl y => csem (some y)
  | .inr i => .dma (lsem i)

/-- Each semaphore of the call's own scope is among the protocol's or the local ones. -/
theorem ownSemFacts : Pipeline.OwnSemFacts cfg0.spec osem where
  isScoped := by decide +kernel
  inj := by
    rintro (y | i) (y' | j) h
    · exact congrArg _ (Option.some.inj (csem_inj h))
    · exact absurd h (lsem_ne j _)
    · exact absurd h.symm (lsem_ne i _)
    · exact congrArg _ (lsem_inj i j (SemLoc.dma.inj h))
  disj := by decide +kernel

abbrev own0 (c : Dev nD) : sProp 𝕄 := Pipeline.ownSems0 (Ix := Unit) (Name := ℕ) (U := UU) (Lvl := ℕ) (Val := Elt F) (τ := τ) osem c

/-- A separating product over the two ends of every copy. -/
theorem sep_pair (Φ : T × Bool → sProp 𝕄) :
    bigSep Finset.univ Φ = iprop((bigSep Finset.univ fun t : T => Φ (t, false)) ∗ bigSep Finset.univ fun t : T => Φ (t, true)) := by
  rw [BI.bigSep_univ_prod, ← bigSep_sep']
  refine BI.bigSep_congr fun t _ => ?_
  rw [show (Finset.univ : Finset Bool) = insert false {true} from by decide, sep_insert (by decide), bigSep_singleton]

/-- A separating product over the copies' semaphores and the barrier. -/
theorem sep_opt (Φ : Cx → sProp 𝕄) :
    bigSep Finset.univ Φ = iprop((bigSep Finset.univ fun y : T × Bool => Φ (some y)) ∗ Φ none) := by
  rw [sep_cx, sep_pair, bigSep_sep']

/-- The last two of three change places. -/
theorem swap_last (A B C : sProp 𝕄) : iprop((A ∗ B) ∗ C) = iprop((A ∗ C) ∗ B) := by
  have h : ∀ A B C : sProp 𝕄, iprop((A ∗ B) ∗ C) ⊢ iprop((A ∗ C) ∗ B) := by
    intro A B C
    iintro ⟨⟨H1, H2⟩, H3⟩
    isplitr [H2]
    · isplitl [H1] <;> iassumption
    iexact H2
  exact BI.equiv_iff.mp ⟨h A B C, h A C B⟩

/-- At launch and at the end: all semaphores at zero. -/
theorem sems_eq (c : Dev nD) : iprop(own0 (F := F) c ∗ unscopedSems0 c) = iprop((bigSep Finset.univ fun x : Cx => (semVal (kcell (c, x)) 0 : sProp 𝕄)) ∗ loc0 c) := by
  have h1 : (own0 (F := F) c : sProp 𝕄) = iprop((bigSep Finset.univ fun y : T × Bool => semVal (kcell (c, some y)) 0) ∗ loc0 c) := by
    unfold own0 Pipeline.ownSems0
    rw [sep_sum]
    have h4 : (bigSep Finset.univ fun i : Fin 4 => (lFree (F := F) c i : sProp 𝕄)) = loc0 c := by
      unfold loc0
      exact bigSep_univ_eq_bigSepL [(0 : Fin 4), 1, 2, 3] (by decide) (by decide) _
    rw [← h4]
    rfl
  have h2 : (unscopedSems0 c : sProp 𝕄) = semVal (kcell (c, none)) 0 := by
    unfold unscopedSems0; rw [bigSep_eq_bigSepL_of_eq [SemLoc.reg bar] (by decide +kernel) (by decide)]; rfl
  rw [h1, h2, sep_opt]
  exact swap_last _ _ _

/-! ## The launch element -/

def xCells : Finset (GSem nD τ sig) := Finset.univ.map ⟨kcell, kcell_inj⟩

/-- The tokens: the handshake's four, and one for each of a copy's semaphores. -/
def tokOf (p : Dev nD × (Fin 4 ⊕ (T × Bool))) : GSem nD τ sig × ℕ × Fin 4 :=
  match p.2 with
  | .inl d => (kcell (p.1, none), 0, d)
  | .inr y => (kcell (p.1, some y), 0, 0)
/-- Different duties have different tokens. -/
theorem tokOf_inj : Function.Injective tokOf := by
  rintro ⟨c, d | y⟩ ⟨c', d' | y'⟩ h
  · have h1 := kcell_inj (congrArg Prod.fst h)
    have h2 : d = d' := congrArg (fun x : GSem nD τ sig × ℕ × Fin 4 => x.2.2) h
    have h3 : c = c' := (Prod.mk.inj h1).1
    rw [h3, h2]
  · exact absurd (Prod.mk.inj (kcell_inj (congrArg Prod.fst h))).2 (by simp)
  · exact absurd (Prod.mk.inj (kcell_inj (congrArg Prod.fst h))).2 (by simp)
  · have h1 := Prod.mk.inj (kcell_inj (congrArg Prod.fst h))
    have h3 : c = c' := h1.1
    rw [h3, Option.some.inj h1.2]
def xToks : Finset (GSem nD τ sig × ℕ × Fin 4) := Finset.univ.map ⟨tokOf, tokOf_inj⟩

def u₀ : UU :=
  (initOf (Pipeline.cells cfgs cellOf_inj) (Pipeline.launchToks cfgs cellOf_inj), (initOf xCells xToks, 1))

/-- The launch element is the two protocols' elements side by side. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of a device's own semaphores, as minted, -/
def minted (c : Dev nD) : sProp 𝕄 :=
  iprop((bigSep Finset.univ fun d : Fin 4 => dutyTok ER (kcell (c, none)) 0 d) ∗ bigSep Finset.univ fun y : T × Bool => dutyTok ER (kcell (c, some y)) 0 0)
/-- and those it pays. -/
def paid (c : Dev nD) : sProp 𝕄 :=
  iprop((bigSep Finset.univ fun d : Fin 4 => dutyTok ER (kcell (nbI c d, none)) 0 d)
    ∗ (bigSep Finset.univ fun t : T => dutyTok ER (kcell (c, some (t, false))) 0 0) ∗ bigSep Finset.univ fun t : T => dutyTok ER (kcell (peer c t, some (t, true))) 0 0)

/-- What the launch element deals a device. -/
def G (c : Dev nD) : sProp 𝕄 :=
  iprop((bigSep Finset.univ fun x : Cx => roundState ER (Rd m) (kcell (c, x)) 0)
    ∗ (bigSep Finset.univ fun x : Cx => atPos ER (kcell (c, x)) 0 ∅ 0) ∗ (bigSep Finset.univ fun x : Cx => reached ER (kcell (c, x)) 0) ∗ minted (F := F) c)

/-- The protocol's element deals every device its share. -/
theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun x : Cx => Φ (kcell (c, x)) := by
    unfold xCells; rw [BI.bigSep_map, BI.bigSep_univ_prod]; rfl
  have hT : bigSep xToks (fun x => (dutyTok ER x.1 x.2.1 x.2.2 : sProp 𝕄)) = bigSep Finset.univ fun c : Dev nD => minted c := by
    unfold xToks; rw [BI.bigSep_map, BI.bigSep_univ_prod]
    exact BI.bigSep_congr fun c _ => by unfold minted; rw [sep_sum]; rfl
  iintro HX
  imod (Rounds.fund ER (Rd m) xCells xToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The global step -/

/-- The records, without the levels. -/
def recs (K : Dev nD × Cx → ℕ) : sProp 𝕄 :=
  iprop((bigSep Finset.univ fun p : Dev nD × Cx => cellInv ER (Rd m) (K p) (kcell p)) ∗ bigSep Finset.univ fun p : Dev nD × Cx => reached ER (kcell p) 0)
instance recs_persistent (K : Dev nD × Cx → ℕ) : BI.Persistent (recs m K) := by unfold recs; infer_instance

/-- What stays with a device. -/
def mine (c : Dev nD) : sProp 𝕄 := iprop((bigSep Finset.univ fun x : Cx => atPos ER (kcell (c, x)) 0 ∅ 0) ∗ loc0 (F := F) c ∗ paid (F := F) c)
def G' (c : Dev nD) : sProp 𝕄 := iprop((∃ K, recs m K) ∗ mine (F := F) c)

/-- On each device the semaphores' invariants are made from their counters at zero. -/
theorem core_alloc (c : Dev nD) :
    iprop(own0 c ∗ unscopedSems0 c ∗ G m c)
      ⊢ |={Set.univ}=> iprop((bigSep Finset.univ fun x : Cx => iprop(∃ κ : ℕ, cellInv ER (Rd m) κ (kcell (c, x))))
          ∗ (bigSep Finset.univ fun x : Cx => reached ER (kcell (c, x)) 0) ∗ (bigSep Finset.univ fun x : Cx => atPos ER (kcell (c, x)) 0 ∅ 0) ∗ loc0 c ∗ minted c) := by
  unfold G
  iintro ⟨Hos, Hus, Hst, Hat, Hr, Htok⟩
  ihave Hv := (Entails.of_eq (sems_eq (F := F) c)) $$ [Hos Hus]
  · isplitl [Hos] <;> iassumption
  icases Hv with ⟨Hv, Hl⟩
  imod (show iprop((bigSep Finset.univ fun x : Cx => semVal (kcell (c, x)) 0) ∗ bigSep Finset.univ fun x : Cx => roundState ER (Rd m) (kcell (c, x)) 0)
      ⊢ (|={Set.univ}=> bigSep Finset.univ fun x : Cx => iprop(∃ κ : ℕ, cellInv ER (Rd m) κ (kcell (c, x))) : sProp 𝕄) from by
        rw [← bigSep_sep']
        exact (bigSep_mono fun x _ => (Rounds.body_intro ER (Rd m) (kcell (c, x))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Hl]; · iexact Hl
  iexact Htok

/-- The tokens dealt to their payers. -/
theorem dealt : (bigSep Finset.univ fun c : Dev nD => (minted c : sProp 𝕄)) ⊢ bigSep Finset.univ fun c : Dev nD => paid c := by
  have h1 : (bigSep Finset.univ fun c : Dev nD => bigSep Finset.univ fun d : Fin 4 => (dutyTok ER (kcell (c, none)) 0 d : sProp 𝕄))
      = bigSep Finset.univ fun c : Dev nD => bigSep Finset.univ fun d : Fin 4 => dutyTok ER (kcell (nbI c d, none)) 0 d := by
    rw [BI.bigSep_univ_comm]
    refine Eq.trans ?_ (BI.bigSep_univ_comm _)
    exact BI.bigSep_congr fun d _ => BI.bigSep_univ_equiv (nbE d).symm _
  have h2 : (bigSep Finset.univ fun c : Dev nD => bigSep Finset.univ fun t : T => (dutyTok ER (kcell (c, some (t, true))) 0 0 : sProp 𝕄))
      = bigSep Finset.univ fun c : Dev nD => bigSep Finset.univ fun t : T => dutyTok ER (kcell (peer c t, some (t, true))) 0 0 := by
    rw [BI.bigSep_univ_comm]
    refine Eq.trans ?_ (BI.bigSep_univ_comm _)
    exact BI.bigSep_congr fun t _ => BI.bigSep_univ_equiv (nbE (duty t)) _
  unfold minted paid
  rw [bigSep_sep', bigSep_sep', bigSep_sep', h1, BI.bigSep_congr fun c _ => sep_pair fun y => (dutyTok ER (kcell (c, some y)) 0 0 : sProp 𝕄), bigSep_sep', h2]

/-- What may be copied is handed to every factor of a product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all devices are gathered and every token goes to the device that pays with it. -/
theorem regroup :
    (bigSep Finset.univ fun c : Dev nD => iprop((bigSep Finset.univ fun x : Cx => iprop(∃ κ : ℕ, cellInv ER (Rd m) κ (kcell (c, x))))
          ∗ (bigSep Finset.univ fun x : Cx => reached ER (kcell (c, x)) 0) ∗ (bigSep Finset.univ fun x : Cx => atPos ER (kcell (c, x)) 0 ∅ 0) ∗ loc0 c ∗ minted c) : sProp 𝕄)
      ⊢ bigSep Finset.univ (G' m) := by
  rw [bigSep_sep', bigSep_sep', bigSep_sep', bigSep_sep', ← BI.bigSep_univ_prod (fun p : Dev nD × Cx => iprop(∃ κ : ℕ, cellInv ER (Rd m) κ (kcell p))),
    ← BI.bigSep_univ_prod (fun p : Dev nD × Cx => (reached ER (kcell p) 0 : sProp 𝕄))]
  iintro ⟨HI, #HR, Hat, Hl, Htok⟩
  ihave HK := (BI.bigSep_exists_pi Finset.univ (fun (p : Dev nD × Cx) (κ : ℕ) => (cellInv ER (Rd m) κ (kcell p) : sProp 𝕄))) $$ HI
  icases HK with ⟨%K, #HI⟩
  ihave Htk := (dealt (F := F)) $$ Htok
  iapply (with_persistent (R := recs m K) (Φ := fun c => mine (F := F) c) (Ψ := G' m) fun c _ => by
    unfold G'
    iintro ⟨#H, Hm⟩
    isplitr; · iexists K; iexact H
    iexact Hm)
  isplitr
  · unfold recs; isplitl; · iexact HI
    iexact HR
  · unfold mine
    rw [bigSep_sep', bigSep_sep']
    isplitl [Hat]; · iexact Hat
    isplitl [Hl]; · iexact Hl
    iexact Htk

/-- The global step. -/
theorem glob : (bigSep Finset.univ fun c => iprop(own0 (F := F) c ∗ unscopedSems0 c ∗ G m c) : sProp 𝕄) ⊢ |={Set.univ}=> bigSep Finset.univ (G' m) :=
  ((bigSep_mono fun c _ => core_alloc m c).trans (bigSep_fupd _ _)).trans (BI.fupd_mono (regroup m))

end Cert.KernelIdeal.Steps

end
-- ==== Proof.Credit.lean ====
module

public import proofs.«01_k».proof.Proof.Fund

/-! # The launch credit

What a device is owed at launch: four signals, and every copy sent to it. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- A device owes a receiving semaphore its copy's units where it is the sender, and nothing elsewhere. -/
theorem owe_recv (d c : Dev nD) (t : T) : Owe d 0 (kcell (c, some (t, true))) () = if d = nbI c (duty t) then amt t else 0 := by
  unfold Owe
  rw [Finset.sum_apply, Finsupp.finset_sum_apply]
  rw [Finset.sum_eq_single t (fun t' _ hne => ?_) (fun h => (h (Finset.mem_filter.mpr ⟨Finset.mem_univ t, Nat.zero_le (pos t)⟩)).elim)]
  · rw [tallyAt_apply]
    by_cases h : d = nbI c (duty t)
    · subst h
      rw [if_pos rfl, if_pos ⟨by unfold peer; rw [nb_nbI], rfl⟩]
    · rw [if_neg h, if_neg]
      rintro ⟨h1, -⟩
      have h2 : c = peer d t := (Prod.mk.inj (kcell_inj h1)).1
      exact h (by rw [h2]; unfold peer; rw [nbI_nb])
  · rw [tallyAt_apply, if_neg]
    rintro ⟨h1, -⟩
    have h2 := (Prod.mk.inj (kcell_inj h1)).2
    exact hne (Prod.mk.inj (Option.some.inj h2)).1.symm

/-- The copies owe the barrier nothing. -/
theorem owe_bar (d c : Dev nD) : Owe d 0 (kcell (c, none)) () = 0 := by
  unfold Owe
  rw [Finset.sum_apply, Finsupp.finset_sum_apply]
  refine Finset.sum_eq_zero fun t _ => ?_
  rw [tallyAt_apply, if_neg]
  rintro ⟨h1, -⟩
  exact absurd (Prod.mk.inj (kcell_inj h1)).2 (by simp)

/-- One unit at a device's barrier, read at a device's barrier. -/
theorem at_bar (n c : Dev nD) : (tallyAt (kcell (n, none)) () 1 : CellTallies nD τ sig Unit) (kcell (c, none)) () = if n = c then 1 else 0 := by
  rw [tallyAt_apply]
  by_cases h : n = c
  · subst h; rw [if_pos ⟨rfl, rfl⟩, if_pos rfl]
  · rw [if_neg h, if_neg]
    rintro ⟨h1, -⟩
    exact h (Prod.mk.inj (kcell_inj h1)).1.symm

/-- One unit at a barrier is none at a receiving semaphore. -/
theorem at_bar_recv (n c : Dev nD) (t : T) : (tallyAt (kcell (n, none)) () 1 : CellTallies nD τ sig Unit) (kcell (c, some (t, true))) () = 0 := by
  rw [tallyAt_apply, if_neg]
  rintro ⟨h1, -⟩
  exact absurd (Prod.mk.inj (kcell_inj h1)).2 (by simp)

/-- At launch each of the four neighbours owes a barrier one signal. -/
theorem owed_bar (d c : Dev nD) : O₀ d (kcell (c, none)) ()
    = (((if yn d = c then 1 else 0) + if xn d = c then 1 else 0) + if nxt d = c then 1 else 0) + if prv d = c then 1 else 0 := by
  unfold O₀
  simp only [Pi.add_apply, Finsupp.add_apply, owe_bar, at_bar, Nat.zero_add]

/-- At launch a receiving semaphore is owed its copy's units by the sender. -/
theorem owed_recv (d c : Dev nD) (t : T) : O₀ d (kcell (c, some (t, true))) () = if d = nbI c (duty t) then amt t else 0 := by
  unfold O₀
  simp only [Pi.add_apply, Finsupp.add_apply, at_bar_recv, Nat.add_zero, owe_recv]

/-- The launch credits a device with four units of its barrier. -/
theorem launch_bar (c : Dev nD) :
    tallyOn (kcell (c, none)) (launchCredit (Pipeline.owing O₀) 0 (kcell (c, none))) = (tallyAt (kcell (c, none)) () 4 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

/-- The launch credits a device with the units of each copy that it receives. -/
theorem launch_recv (c : Dev nD) (t : T) :
    tallyOn (kcell (c, some (t, true))) (launchCredit (Pipeline.owing O₀) 0 (kcell (c, some (t, true))))
      = (tallyAt (kcell (c, some (t, true))) () (amt t) : CellTallies nD τ sig Unit) := by
  unfold tallyAt; refine congrArg _ (Finsupp.ext fun u => ?_); cases u
  rw [Pipeline.launchCredit_owing, Finsupp.single_eq_same, Finset.sum_congr rfl fun d _ => owed_recv d c t,
    Finset.sum_ite_eq' Finset.univ (nbI c (duty t)) fun _ => amt t, if_pos (Finset.mem_univ _)]

/-- What the launch credits a device with, semaphore by semaphore. -/
theorem creds (c : Dev nD) :
    (Pipeline.launchCred O₀ c : sProp 𝕄)
      ⊢ iprop(cred (tallyAt (kcell (c, none)) () 4) ∗ bigSep Finset.univ fun t : T => cred (tallyAt (kcell (c, some (t, true))) () (amt t))) := by
  unfold Pipeline.launchCred
  refine (BI.bigSep_subset (Finset.subset_univ (Finset.univ.map ⟨csem, csem_inj⟩))).trans ?_
  rw [BI.bigSep_map, sep_opt, sep_pair]
  show iprop((_ ∗ _) ∗ cred (tallyOn (kcell (c, none)) (launchCredit (Pipeline.owing O₀) 0 (kcell (c, none))))) ⊢ _
  iintro ⟨⟨-, H⟩, Hb⟩
  isplitl [Hb]
  · rw [← launch_bar]; iexact Hb
  · rw [BI.bigSep_congr fun t _ => congrArg (fun X => (cred X : sProp 𝕄)) (launch_recv c t).symm]
    iexact H

end Cert.KernelIdeal.Steps

end
-- ==== Proof.Run.lean ====
module

public import proofs.«01_k».proof.Proof.Credit
public import Idealize.ShloMosaic.Lib.Pipeline.CollectiveSegs

/-! # The run

Every execution ends, with the arguments unchanged, the result at its computed contents and every semaphore at zero. -/

@[expose] public section

noncomputable section

namespace Cert.KernelIdeal.Steps

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers -/

/-- An array owned whole is held. -/
theorem whole_in (c : Dev nD) (b : Ref sig .tc) (X : b.ty.Contents (Elt F)) :
    (((c : Thread nD τ).loc b) ↦{fullShare} X : sProp 𝕄) ⊢ hold c (Memref.whole b) fullShare X := by
  unfold hold owns
  simp only [Memref.view_whole, View.read_whole, View.set_whole]
  iintro H
  iexists X
  isplitr; · ipureintro; rfl
  iexact H
/-- An array held whole is owned. -/
theorem whole_out (c : Dev nD) (b : Ref sig .tc) (X : b.ty.Contents (Elt F)) :
    (hold c (Memref.whole b) fullShare X : sProp 𝕄) ⊢ (((c : Thread nD τ).loc b) ↦{fullShare} X) := by
  unfold hold owns
  simp only [Memref.view_whole, View.read_whole, View.set_whole]
  iintro ⟨%f, %hf, H⟩
  rw [← hf]
  iexact H
/-- An array owned at some contents is held at some. -/
theorem any_in (c : Dev nD) (b : Ref sig .tc) :
    (iprop(∃ f : Buf (Elt F) ((c : Thread nD τ).loc b), ((c : Thread nD τ).loc b) ↦{fullShare} f) : sProp 𝕄) ⊢ anyAt c (Memref.whole b) := by
  unfold anyAt
  iintro ⟨%f, H⟩
  iexists f
  iapply (whole_in c b f); iexact H
/-- An array held at some contents is owned at some. -/
theorem any_out (c : Dev nD) (b : Ref sig .tc) :
    (anyAt c (Memref.whole b) : sProp 𝕄) ⊢ iprop(∃ f : Buf (Elt F) ((c : Thread nD τ).loc b), ((c : Thread nD τ).loc b) ↦{fullShare} f) := by
  unfold anyAt
  iintro ⟨%f, H⟩
  iexists f
  iapply (whole_out c b f); iexact H

/-! ## The launch's side conditions -/

/-- A device's start, but for its scratch buffers. -/
def X₀ (c : Dev nD) : sProp 𝕄 :=
  iprop((∃ K, Ctx m K ∗ (bigSep Finset.univ fun d : Fin 4 => dutyTok ER (kcell (nbI c d, none)) 0 d)
      ∗ atPos ER (kcell (c, none)) 0 ∅ 0 ∗ (bigSep Finset.univ fun t : T => Ready₀ (F := F) c t)
      ∗ (bigSep Finset.univ fun t : T => atPos ER (kcell (c, some (t, true))) 0 ∅ 0))
    ∗ (cred (tallyAt (kcell (c, none)) () 4) ∗ (bigSep Finset.univ fun t : T => cred (tallyAt (kcell (c, some (t, true))) () (amt t))))
    ∗ loc0 (F := F) c ∗ xHold m c ∗ rHold m c ∗ anyAt (F := F) c outM)

/-- What the launch gives a device is its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X₀ m c ∗ emp) := by
  rw [Pipeline.unscopedRestP_none, unscopedRest0_eq]
  unfold G' mine paid recs X₀ Ctx xHold rHold xin rin
  iintro ⟨⟨Hx, Hr, Ho⟩, #Hlev, Hcr, -, ⟨%K, #HI, #HR⟩, Hat, Hl, Hbar, Hs, Hv⟩
  ihave Hc := (creds (F := F) c) $$ Hcr
  ihave Hat' := (Entails.of_eq ((sep_opt fun x : Cx => (atPos ER (kcell (c, x)) 0 ∅ 0 : sProp 𝕄)).trans
    (by rw [sep_pair]))) $$ Hat
  icases Hat' with ⟨⟨Hf, Ht⟩, Hn⟩
  imodintro
  isplitl
  · isplitl [Hf Ht Hn Hbar Hs Hv]
    · iexists K
      isplitr
      · isplitr; · iexact HI
        isplitr; · iexact HR
        iexact Hlev
      isplitl [Hbar]; · iexact Hbar
      isplitl [Hn]; · iexact Hn
      isplitl [Hf Hs Hv]
      · unfold Ready₀
        rw [bigSep_sep', bigSep_sep']
        isplitl [Hs]; · iexact Hs
        isplitl [Hv]; · iexact Hv
        iexact Hf
      iexact Ht
    isplitl [Hc]; · iexact Hc
    isplitl [Hl]; · iexact Hl
    isplitl [Hx]; · iapply (whole_in c main_arg0 (m ((c : Thread nD τ).loc main_arg0))); iexact Hx
    isplitl [Hr]; · iapply (whole_in c main_arg1 (m ((c : Thread nD τ).loc main_arg1))); iexact Hr
    iapply (any_in c main_v1); iexists (m ((c : Thread nD τ).loc main_v1)); iexact Ho
  · iempintro

/-- The start and the scratch buffers are the body's precondition. -/
theorem phi_in (c : Dev nD) :
    iprop(X₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X₀ bufs
  iintro ⟨⟨Hg, Hc, Hl, Hx, Hr, Ho⟩, -, H0, H1, H2, H3, H4, H5, H6, H7⟩
  isplitl [Hg]; · iexact Hg
  isplitl [Hc]; · iexact Hc
  isplitl [Hl]; · iexact Hl
  isplitl [H0 H1 H2 H3 H4 H5 H6 H7]
  · isplitl [H0]; · iapply (any_in c cc0_scratch0); iexact H0
    isplitl [H3]; · iapply (any_in c cc0_scratch3); iexact H3
    isplitl [H4]; · iapply (any_in c cc0_scratch4); iexact H4
    isplitl [H5]; · iapply (any_in c cc0_scratch5); iexact H5
    isplitl [H6]; · iapply (any_in c cc0_scratch6); iexact H6
    isplitl [H7]; · iapply (any_in c cc0_scratch7); iexact H7
    isplitl [H1]; · iapply (any_in c cc0_scratch1); iexact H1
    iapply (any_in c cc0_scratch2); iexact H2
  isplitl [Hx]; · iexact Hx
  isplitl [Hr]; · iexact Hr
  iexact Ho

/-- What a device ends with outside its scoped memory. -/
def Y₀ (c : Dev nD) : sProp 𝕄 := iprop(unscopedSems0 c ∗ xHold m c ∗ rHold m c ∗ hold c outM fullShare (outAll m c))

/-- The body's postcondition gives the end and the scratch buffers back. -/
theorem phi_out (c : Dev nD) :
    (dats m 0 c).Φ (Fin.last cfg0.N) ⊢ iprop(Y₀ m c ∗ own0 c ∗ Pipeline.scopedRest cfg0.spec c) := by
  rw [show (dats m 0 c).Φ (Fin.last cfg0.N) = Φ₁ m c from rfl, scopedRest0_eq]
  unfold Φ₁ Y₀ bufs
  iintro ⟨Hz, Hl, ⟨H0, H3, H4, H5, H6, H7, H1, H2⟩, Hx, Hr, Ho⟩
  ihave Hs := (Entails.of_eq (sems_eq (F := F) c).symm) $$ [Hz Hl]
  · isplitl [Hz] <;> iassumption
  icases Hs with ⟨Hown, Hun⟩
  isplitl [Hun Hx Hr Ho]
  · isplitl [Hun]; · iexact Hun
    isplitl [Hx]; · iexact Hx
    isplitl [Hr]; · iexact Hr
    iexact Ho
  isplitl [Hown]; · iexact Hown
  isplitl [H0]; · iapply (any_out c cc0_scratch0); iexact H0
  isplitl [H1]; · iapply (any_out c cc0_scratch1); iexact H1
  isplitl [H2]; · iapply (any_out c cc0_scratch2); iexact H2
  isplitl [H3]; · iapply (any_out c cc0_scratch3); iexact H3
  isplitl [H4]; · iapply (any_out c cc0_scratch4); iexact H4
  isplitl [H5]; · iapply (any_out c cc0_scratch5); iexact H5
  isplitl [H6]; · iapply (any_out c cc0_scratch6); iexact H6
  iapply (any_out c cc0_scratch7); iexact H7

/-- The pipeline's windows are owned whole. -/
theorem share_eq (c : Dev nD) (w : Fin cfg0.W) : (dats m 0 c).share w = fullShare := by unfold Pipeline.Dat.share; split <;> rfl

/-- The pipeline's own waits are allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

/-- Reading a whole buffer's contents off the machine. -/
theorem look (c : Dev nD) (b : Ref sig .tc) (X : b.ty.Contents (Elt F)) (s' : Phys nD τ sig (Elt F)) :
    iprop(SI s' ∗ hold c (Memref.whole b) fullShare X) ⊢ (⌜s'.mem.mem ((c : Thread nD τ).loc b) = X⌝ : sProp 𝕄) := by
  iintro ⟨HS, H⟩
  ihave H' := (whole_out c b X) $$ H
  ihave %h := (SI_pointsTo_agree (st := s') (ℓ := (c : Thread nD τ).loc b) (I := Finset.univ) (q := fullShare) (f := X)) $$ [HS H']
  · isplitl [HS] <;> iassumption
  ipureintro
  exact funext fun i => h i (Finset.mem_univ i)

/-- What is read at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outAll m c

/-- What a device ends with is what memory holds. -/
theorem read_end (c : Dev nD) (s' : Phys nD τ sig (Elt F)) :
    iprop(Y₀ m c ∗ emp ∗ SI s') ⊢ |={Set.univ}=> iprop(⌜QY m c s'.mem⌝ ∗ SI s') := by
  unfold Y₀ xHold rHold
  iintro ⟨⟨Hu, Hx, Hr, Ho⟩, -, HSI⟩
  ihave %hx := (look c main_arg0 (xin m c) s') $$ [HSI Hx]
  · isplitl [HSI] <;> iassumption
  ihave %hr := (look c main_arg1 (rin m c) s') $$ [HSI Hr]
  · isplitl [HSI] <;> iassumption
  ihave %ho := (look c main_v1 (outAll m c) s') $$ [HSI Ho]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hs, hx, hr, ho⟩
  iexact HSI

/-- The end state. -/
def QC (s : MemSt nD τ sig (Elt F)) : Prop :=
  ∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v1) = outAll m c

set_option maxRecDepth 100000 in
/-- For any float values, from any memory with zero counters: every fair execution ends, in the end state. -/
theorem run_main : θ_run defs (onTc (τ := τ) (main (F := F))) ⟨m, fun _ => 0, ρ⟩ (fun r => QC m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_x m) $$ HX with HG
      imodintro
      isplitl [HP] <;> iassumption)
    (hglob := glob m)
    (hA := fun _ _ => rfl) (hpf := fun _ k => k.elim0)
    (X := X₀ m) (Y := Y₀ m) (Z := fun _ => iprop(emp))
    (hX := start_intro m ρ) (hin := phi_in m) (hout := phi_out m)
    (QY := QY m) (hY := read_end m)
    (hQ := fun s h hs => ⟨fun c => ⟨(h c).2.2.2.1, (h c).2.2.2.2.1, ((h c).1 (0 : Fin 1)).trans ((dats m 0 c).arrAt_in (0 : Fin 1) rfl _), (h c).2.2.2.2.2⟩,
      sem_eq_zero hs fun c => (h c).2.2.1⟩)

end Cert.KernelIdeal.Steps

end
-- ==== Proof.Frames.lean ====
module

public import proofs.«01_k».proof.Proof.Run
public import proofs.«01_k».proof.Proof.Gen.Kernel
public import proofs.«01_k».proof.Proof.Gen.ReferenceIdeal.Run
public import proofs.«01_k».proof.Defs
public import Idealize.ShloMosaic.Lib.Quiescent

/-! # The frames

Kernel and its idealization have the same text: each frame is the run at one instance, its values dropped. -/

@[expose] public section

noncomputable section

namespace Cert.Proof

open Idealize.ShloMosaic Idealize.SL.Sem Cert.KernelIdeal.Steps

/-- The idealized kernel ends with its arguments unchanged and its counters at zero. -/
theorem frame_ideal : Cert.quiescent_KernelIdeal := fun m ρ _ =>
  (θ_run (Cert.KernelIdeal.defs (F := Ideal)) _ _).mono (fun _ h => ⟨fun c => ⟨(h.1 c).1, (h.1 c).2.1, (h.1 c).2.2.1⟩, h.2⟩) (run_main (F := Ideal) m ρ)

/-- The two programs' bodies are one. -/
theorem body_table_eq : (Cert.Kernel.defs₀ (F := Bits)) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l a
  match l, a with
  | 0, (t, s) => rfl
  | ⟨_ + 1, h⟩, _ => exact absurd h (Nat.not_lt.2 (Nat.le_add_left _ _))

/-- The two programs' tables of procedures are one. -/
theorem defs_eq : (Cert.Kernel.defs (F := Bits)) = Cert.KernelIdeal.defs (F := Bits) :=
  congrArg (Pipeline.defs (Cert.Kernel.pcfgs (F := Bits))) body_table_eq

/-- The kernel ends with its arguments unchanged and its counters at zero. -/
theorem frame_kernel : Cert.quiescent_Kernel := by
  intro m ρ _
  have h := (θ_run (Cert.KernelIdeal.defs (F := Bits)) _ _).mono (fun _ h => (⟨fun c => ⟨(h.1 c).1, (h.1 c).2.1, (h.1 c).2.2.1⟩, h.2⟩ : (∀ c, _ ∧ _ ∧ _) ∧ _)) (run_main (F := Bits) m ρ)
  rw [defs_eq]
  exact h

/-- The reference ends with its arguments unchanged and its counters at zero. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

end Cert.Proof

end
-- ==== Proof.Scalar.lean ====
module

public import Idealize.ShloMosaic.Lib.Pointwise

/-! # One division

Dividing by a square root and multiplying by the reciprocal square root agree at every positive argument. A mean of
squares plus the positive constant is one. -/

@[expose] public section

noncomputable section

namespace Cert.Proof

open Idealize.ShloMosaic

/-- Dividing by the root of a positive number is multiplying by its reciprocal root. -/
theorem div_sqrt (y s : EReal) (h : 0 < s) : Ideal.div y (Ideal.sqrt s) = y * Ideal.rsqrt s := by
  induction s with
  | bot => exact absurd h (by simp)
  | top => simp [Ideal.div, Ideal.sqrt_top, Ideal.rsqrt_top]
  | coe r =>
    have hr : 0 < r := by exact_mod_cast h
    have hs : Real.sqrt r ≠ 0 := (Real.sqrt_pos.2 hr).ne'
    rw [Ideal.sqrt_coe, Ideal.rsqrt_coe, if_neg (not_lt.2 hr.le), Ideal.div_coe hs]
    simp [hr.ne', hr.not_gt, hr, one_div]

/-- A square is not negative. -/
theorem sq_nonneg_ereal (y : EReal) : 0 ≤ y * y := by
  rcases le_total 0 y with h | h
  · exact mul_nonneg h h
  · rw [← neg_mul_neg]
    exact mul_nonneg (EReal.neg_nonneg.2 h) (EReal.neg_nonneg.2 h)

/-- The row length and the added constant. -/
def cLen : EReal := Ideal.ofBits .f32 0x45800000#32
def cEps : EReal := Ideal.ofBits .f32 0x358637BD#32

/-- The row length is a positive number. -/
theorem cLen_pos : ∃ r : ℝ, 0 < r ∧ cLen = (r : EReal) := by
  refine ⟨4096, by norm_num, ?_⟩
  unfold cLen
  simp [Ideal.ofBits, Ideal.ieee]
  rw [← EReal.coe_mul]
  norm_num

/-- The added constant is positive. -/
theorem cEps_pos : 0 < cEps := by
  unfold cEps
  simp [Ideal.ofBits, Ideal.ieee]
  rw [← EReal.coe_mul]
  exact_mod_cast (by positivity : (0 : ℝ) < 8796093 * (2 ^ 43)⁻¹)

/-- The mean of a row's squares plus the constant is positive. -/
theorem mean_pos {n : ℕ} (f : Fin n → EReal) : 0 < Ideal.div (∑ k, f k * f k) cLen + cEps := by
  obtain ⟨r, hr, e⟩ := cLen_pos
  have h : 0 ≤ Ideal.div (∑ k, f k * f k) cLen := by
    rw [e, Ideal.div_coe hr.ne']
    exact mul_nonneg (Finset.sum_nonneg fun k _ => sq_nonneg_ereal _) (by exact_mod_cast (one_div_pos.2 hr).le)
  exact lt_of_lt_of_le cEps_pos (le_add_of_nonneg_left h)

end Cert.Proof

end
-- ==== Proof.Rows.lean ====
module

public import proofs.«01_k».proof.Proof.Vals
public import proofs.«01_k».proof.Proof.Scalar
public import Idealize.ShloMosaic.Lib.Pointwise

/-! # The kernel's rows

What the blocks a device reads, the sums it passes on and the rows it normalises are at an index, over the exact
numbers. -/

@[expose] public section

noncomputable section

namespace Cert.KernelIdeal.Steps

open Cert.KernelIdeal.Gen
open Idealize.ShloMosaic
open Idealize.ShloMosaic.TcCoe
open Cert.Proof

variable (m : (ℓ : Loc nD τ sig) → Buf (Elt Ideal) ℓ)

/-- A half block's row before it is normalised. -/
def pre (a : FVec Ideal S1x128x4096 .bf16) (b r : FVec Ideal S128x4096 .f32) (i : Fin 128) (l : Fin 4096) : EReal :=
  a (ix3 0 i l) + b (ix2 i l) + r (ix2 i l)

/-- A normalised half block at an index. -/
theorem pay8_apply (a : FVec Ideal S1x128x4096 .bf16) (b r : FVec Ideal S128x4096 .f32) (g : FVec Ideal S4096 .f32) (i : Fin 128) (l : Fin 4096) :
    k0_pay8 (F := Ideal) a b r g (ix2 i l) = pre a b r i l * Ideal.rsqrt (Ideal.div (∑ k : Fin 4096, pre a b r i k * pre a b r i k) cLen + cEps) * g (ix1 l) := by
  pointwise [k0_pay8, pre, cLen, cEps]

/-- The rounding of a normalised half block changes nothing over the exact numbers. -/
theorem pay9_apply (a : FVec Ideal S1x128x4096 .bf16) (b r : FVec Ideal S128x4096 .f32) (g : FVec Ideal S4096 .f32) (i : Fin 128) (l : Fin 4096) :
    (k0_pay9 (F := Ideal) a b r g (ix2 i l) : EReal) = k0_pay8 (F := Ideal) a b r g (ix2 i l) := by
  pointwise [k0_pay8, k0_pay9]

/-- The first block's rounding changes nothing over the exact numbers. -/
theorem pay1_apply (v : FVec Ideal S256x4096 .f32) (i : Fin 256) (l : Fin 4096) : (k0_pay1 (F := Ideal) v (ix3 0 i l) : EReal) = v (ix2 i l) := by
  pointwise [k0_pay1]

/-- A step along z adds one block. -/
theorem pay2_apply (a : FVec Ideal S1x256x4096 .bf16) (b : FVec Ideal S256x4096 .f32) (i : Fin 256) (l : Fin 4096) :
    (k0_pay2 (F := Ideal) a b (ix3 0 i l) : EReal) = a (ix3 0 i l) + b (ix2 i l) := by
  pointwise [k0_pay2]

/-- An unrounded row is written back as it is. -/
theorem pay10_apply (v : FVec Ideal S128x4096 .f32) (i : Fin 128) (l : Fin 4096) : k0_pay10 (F := Ideal) v (ix3 0 i l) = v (ix2 i l) := by
  pointwise [k0_pay10]

/-- A rounded row is written back as it is. -/
theorem pay11_apply (v : FVec Ideal S128x4096 .bf16) (i : Fin 128) (l : Fin 4096) : (k0_pay11 (F := Ideal) v (ix3 0 i l) : EReal) = v (ix2 i l) := by
  pointwise [k0_pay11]

/-! ## Where the rows lie -/

/-- Half a slot's rows without the leading axis. -/
theorem sqz_apply {α : Type} (v : S1x128x4096.Idx → α) (i : Fin 128) (l : Fin 4096) :
    sqz squeezes_S1x128x4096_S128x4096 v (ix2 i l) = v (ix3 0 i l) := by
  have h : sqz squeezes_S1x128x4096_S128x4096 v = shapeCast S128x4096 v (squeezes_S1x128x4096_S128x4096.numel_eq) := rfl
  rw [h]
  pointwise

/-- A slot's rows without the leading axis. -/
theorem sqz_apply' {α : Type} (v : S1x256x4096.Idx → α) (i : Fin 256) (l : Fin 4096) :
    sqz squeezes_S1x256x4096_S256x4096 v (ix2 i l) = v (ix3 0 i l) := by
  have h : sqz squeezes_S1x256x4096_S256x4096 v = shapeCast S256x4096 v (squeezes_S1x256x4096_S256x4096.numel_eq) := rfl
  rw [h]
  pointwise

/-- A row of a block of the partial sums is a row of the array. -/
theorem xblk_apply (c : Dev nD) (o : Fin 3 → ℕ) (h) (q : ℕ) (ho : o = ![0, q, 0]) (i : Fin 256) (l p : Fin 4096) (hp : p.val = q + i.val) :
    xblk m c o h (ix2 i l) = xin m c (ix3 0 p l) := by
  subst ho
  refine (sqz_apply' (fun j => xin m c ((Rect.unit (s := S1x4096x4096) ![0, q, 0] S1x256x4096.size h).emb j)) i l).trans ?_
  congr 1
  funext a
  apply Fin.ext
  rw [Rect.emb_apply]
  match a with
  | 0 => rfl
  | 1 => show q + 1 * i.val = p.val; omega
  | 2 => show 0 + 1 * l.val = l.val; omega

/-- A row of the residual's block is a row of the array. -/
theorem rblk_apply (c : Dev nD) (i : Fin 256) (l p : Fin 4096) (hp : p.val = 1024 * (c.val / 4) + 256 * ((c.val + 1) % 4) + i.val) :
    rblk m c (ix2 i l) = rin m c (ix2 p l) := by
  show rin m c ((Rect.unit (s := S4096x4096) (k0_off2 c) S256x4096.size (k0_off2_inb c)).emb (ix2 i l)) = _
  congr 1
  funext a
  apply Fin.ext
  rw [Rect.emb_apply]
  have ho := off2_eq c
  match a with
  | 0 =>
    show k0_off2 c 0 + 1 * i.val = p.val
    rw [ho]; show 1024 * (c.val / 4) + 256 * ((c.val + 1) % 4) + 1 * i.val = p.val; omega
  | 1 =>
    show k0_off2 c 1 + 1 * l.val = l.val
    rw [ho]; show 0 + 1 * l.val = l.val; omega

/-- Where a row of half a slot lies in the slot. -/
theorem hv_ix (h : Fin 2) (i : Fin 128) (l : Fin 4096) (i' : Fin 256) (hi : i'.val = 128 * h.val + i.val) : (hvR h).emb (ix3 0 i l) = ix3 0 i' l := by
  funext a
  apply Fin.ext
  rw [Rect.emb_apply]
  match a with
  | 0 => rfl
  | 1 => show 128 * h.val + 1 * i.val = i'.val; omega
  | 2 => show 0 + 1 * l.val = l.val; omega

/-- Where a row of half of the local buffer lies in it. -/
theorem lh_ix (h : Fin 2) (i : Fin 128) (l : Fin 4096) (i' : Fin 256) (hi : i'.val = 128 * h.val + i.val) : (lhR h).emb (ix2 i l) = ix2 i' l := by
  funext a
  apply Fin.ext
  rw [Rect.emb_apply]
  match a with
  | 0 => show 128 * h.val + 1 * i.val = i'.val; omega
  | 1 => show 0 + 1 * l.val = l.val; omega

/-- The weights are loaded whole. -/
theorem gv_apply (c : Dev nD) (l : Fin 4096) : gv m c (ix1 l) = gin m c (ix1 l) := by
  unfold gv
  congr 1
  funext a
  apply Fin.ext
  rw [Rect.emb_apply]
  match a with
  | 0 => show 0 + 1 * l.val = l.val; omega

/-- Where a row of 128 lies in the result. -/
theorem o_ix (n : Fin 32) (i : Fin 128) (l p : Fin 4096) (hp : p.val = 128 * n.val + i.val) : (oR n).emb (ix2 i l) = ix2 p l := by
  funext a
  apply Fin.ext
  rw [Rect.emb_apply]
  match a with
  | 0 => show 128 * n.val + 1 * i.val = p.val; omega
  | 1 => show 0 + 1 * l.val = l.val; omega

/-! ## The sums -/

/-- The row of the block device `c` normalises. -/
def base (c : Dev nD) : ℕ := 1024 * (c.val / 4) + 256 * ((c.val + 1) % 4)

/-- The first block of the device three before is the one that the device normalises. -/
theorem base_prv3 : ∀ c : Dev nD, 1024 * ((prv (prv (prv c))).val / 4) + 256 * ((prv (prv (prv c))).val % 4) = base c := by decide +kernel
/-- So is the block that the device two before adds, -/
theorem base_prv2 : ∀ c : Dev nD, 1024 * ((prv (prv c)).val / 4) + 256 * (((prv (prv c)).val + 3 - 0) % 4) = base c := by decide +kernel
/-- and the block that the device before adds. -/
theorem base_prv1 : ∀ c : Dev nD, 1024 * ((prv c).val / 4) + 256 * (((prv c).val + 3 - 1) % 4) = base c := by decide +kernel

/-- The running sum reaching device `c` adds the three devices before it. -/
theorem ps_apply (c : Dev nD) (i : Fin 256) (l p : Fin 4096) (hp : p.val = base c + i.val) :
    (ps m 2 (prv c) (ix3 0 i l) : EReal)
      = xin m (prv (prv (prv c))) (ix3 0 p l) + xin m (prv (prv c)) (ix3 0 p l) + xin m (prv c) (ix3 0 p l) := by
  have h0 : (ps m 0 (prv (prv (prv c))) (ix3 0 i l) : EReal) = xin m (prv (prv (prv c))) (ix3 0 p l) := by
    show (k0_pay1 (F := Ideal) _ (ix3 0 i l) : EReal) = _
    rw [pay1_apply]
    exact xblk_apply m _ _ _ _ (off1_eq _) i l p (by rw [base_prv3]; exact hp)
  have h1 : (ps m 1 (prv (prv c)) (ix3 0 i l) : EReal) = xin m (prv (prv (prv c))) (ix3 0 p l) + xin m (prv (prv c)) (ix3 0 p l) := by
    show (k0_pay2 (F := Ideal) _ _ (ix3 0 i l) : EReal) = _
    rw [pay2_apply, h0]
    exact congrArg _ (xblk_apply m _ _ _ _ (off3_eq _ (Fin.ofNat 2 0)) i l p (by
      show p.val = 1024 * ((prv (prv c)).val / 4) + 256 * (((prv (prv c)).val + 3 - 0) % 4) + _
      rw [base_prv2]; exact hp))
  show (k0_pay2 (F := Ideal) _ _ (ix3 0 i l) : EReal) = _
  rw [pay2_apply, h1]
  exact congrArg _ (xblk_apply m _ _ _ _ (off3_eq _ (Fin.ofNat 2 1)) i l p (by
      show p.val = 1024 * ((prv c).val / 4) + 256 * (((prv c).val + 3 - 1) % 4) + _
      rw [base_prv1]; exact hp))

/-- A row of the block device `c` normalises, before it does: the four partial sums and the residual. -/
theorem pre_apply (c : Dev nD) (h : Fin 2) (i : Fin 128) (l p : Fin 4096) (hp : p.val = base c + 128 * h.val + i.val) :
    pre (ph m (prv c) h) (lb m c h) (rb m c h) i l
      = xin m (prv (prv (prv c))) (ix3 0 p l) + xin m (prv (prv c)) (ix3 0 p l) + xin m (prv c) (ix3 0 p l) + xin m c (ix3 0 p l) + rin m c (ix2 p l) := by
  have hi : 128 * h.val + i.val < 256 := by omega
  have hp' : p.val = base c + (⟨128 * h.val + i.val, hi⟩ : Fin 256).val := by rw [hp]; exact Nat.add_assoc _ _ _
  unfold pre ph lb rb
  rw [hv_ix h i l ⟨_, hi⟩ rfl, lh_ix h i l ⟨_, hi⟩ rfl, ps_apply m c _ l p hp', xblk_apply m _ _ _ _ (off4_eq c) _ l p hp', rblk_apply m c _ l p hp']

end Cert.KernelIdeal.Steps

end
-- ==== Proof.Target.lean ====
module

public import proofs.«01_k».proof.Proof.Scalar
public import proofs.«01_k».proof.Proof.Gen.ReferenceIdeal.Run
public import Idealize.ShloMosaic.Lib.Pointwise

/-! # The reference's rows

The reference's result at row `r` and column `l`, from the four partial sums, the residual and the weights. -/

@[expose] public section

noncomputable section

namespace Cert.Proof

open Idealize.ShloMosaic Cert.ReferenceIdeal Cert.ReferenceIdeal.Gen

variable (X : FVec Ideal S4x4096x4096 .f32) (R : FVec Ideal S4096x4096 .f32) (W : FVec Ideal S4096 .f32)

/-- The summed row with its residual. -/
def rowY (r l : Fin 4096) : EReal := (∑ z : Fin 4, X (ix3 z r l)) + R (ix2 r l)

/-- The normalised row times the weights. -/
def rowT (r l : Fin 4096) : EReal :=
  rowY X R r l * Ideal.rsqrt (Ideal.div (∑ k, rowY X R r k * rowY X R r k) cLen + cEps) * W (ix1 l)

/-- The sum over the partials and the residual, as the reference computes it. -/
def refY : FVec Ideal S4096x4096 .f32 :=
  addf (Host.reduceAdd X (constant S_ .f32 0x00000000#32) reducesTo_S4x4096x4096_S4096x4096_d0 h_S_) R

/-- The reference's result. -/
def refT : FVec Ideal S4096x4096 .f32 :=
  mulf (Host.divf (refY X R) (broadcastInDim S4096x4096 ![0,1] bcast_S4096x1_S4096x4096_0_1 (Host.sqrt (addf (Host.divf (broadcastInDim S4096x1 ![0] bcast_S4096_S4096x1_0 (Host.reduceAdd (mulf (refY X R) (refY X R)) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) (broadcastInDim S4096x4096 ![0,1] bcast_S1x4096_S4096x4096_0_1 (broadcastInDim S1x4096 ![1] bcast_S4096_S1x4096_1 W))

/-- The reference's summed row at an index. -/
theorem refY_apply (r l : Fin 4096) : refY X R (ix2 r l) = rowY X R r l := by
  pointwise [refY, rowY]

/-- The reference's result at an index. -/
theorem refT_apply (r l : Fin 4096) : refT X R W (ix2 r l) = rowT X R W r l := by
  have h : refT X R W (ix2 r l)
      = Ideal.div (refY X R (ix2 r l)) (Ideal.sqrt (Ideal.div (∑ k : Fin 4096, refY X R (ix2 r k) * refY X R (ix2 r k)) cLen + cEps)) * W (ix1 l) := by
    generalize hy : refY X R = y
    unfold refT cLen cEps
    rw [hy]
    pointwise
  rw [h]
  simp only [refY_apply]
  rw [div_sqrt _ _ (mean_pos _)]
  rfl

end Cert.Proof

end
-- ==== Proof.Value.lean ====
module

public import proofs.«01_k».proof.Proof.Rows
public import proofs.«01_k».proof.Proof.Target
public import proofs.«01_k».proof.Proof.Run
public import proofs.«01_k».proof.Defs
public import Idealize.ShloMosaic.Lib.Pointwise

/-! # The result

Every row a device writes is the reference's row, so the whole of its result is the reference's. -/

@[expose] public section

noncomputable section

namespace Cert.KernelIdeal.Steps

open Cert.KernelIdeal.Gen
open Idealize.ShloMosaic
open Idealize.ShloMosaic.TcCoe
open Cert.Proof

variable (m : (ℓ : Loc nD τ sig) → Buf (Elt Ideal) ℓ)
variable (X : FVec Ideal Cert.ReferenceIdeal.S4x4096x4096 .f32) (R : FVec Ideal Cert.ReferenceIdeal.S4096x4096 .f32) (W : FVec Ideal Cert.ReferenceIdeal.S4096 .f32)

/-- The place of a device along z. -/
def zc (c : Dev nD) : Fin 4 := ⟨c.val % 4, by omega⟩

/-- The device three before is one place further round z, -/
theorem zc_prv3 : ∀ c : Dev nD, zc (prv (prv (prv c))) = zc c + 1 := by decide +kernel
/-- the device two before two places, -/
theorem zc_prv2 : ∀ c : Dev nD, zc (prv (prv c)) = zc c + 2 := by decide +kernel
/-- and the device before three. -/
theorem zc_prv1 : ∀ c : Dev nD, zc (prv c) = zc c + 3 := by decide +kernel

/-- Four numbers added from any one of them on, around the ring. -/
theorem sum_ring (f : Fin 4 → EReal) (k : Fin 4) : f (k + 1) + f (k + 2) + f (k + 3) + f k = ∑ z, f z := by
  rw [Fin.sum_univ_four]
  match k with
  | 0 => show f 1 + f 2 + f 3 + f 0 = _; ac_rfl
  | 1 => show f 2 + f 3 + f 0 + f 1 = _; ac_rfl
  | 2 => show f 3 + f 0 + f 1 + f 2 = _; ac_rfl
  | 3 => show f 0 + f 1 + f 2 + f 3 = _; ac_rfl

/-- What the arrays at launch hold: device `c` the partial sum of its place along z, and the residual and the weights whole. -/
structure Agrees : Prop where
  x : ∀ (c : Dev nD) (p l : Fin 4096), xin m c (ix3 0 p l) = X (ix3 (zc c) p l)
  r : ∀ c : Dev nD, rin m c = R
  g : ∀ c : Dev nD, gin m c = W

variable {m X R W} (H : Agrees m X R W)
include H

/-- A row of a device's own block, before it is normalised, is the reference's. -/
theorem pre_eq (c : Dev nD) (h : Fin 2) (i : Fin 128) (l p : Fin 4096) (hp : p.val = base c + 128 * h.val + i.val) :
    pre (ph m (prv c) h) (lb m c h) (rb m c h) i l = rowY X R p l := by
  rw [pre_apply m c h i l p hp, H.x, H.x, H.x, H.x, H.r, zc_prv3, zc_prv2, zc_prv1]
  exact congrArg (· + R (ix2 p l)) (sum_ring (fun z => X (ix3 z p l)) (zc c))

/-- A normalised row is the reference's. -/
theorem oF_eq (c : Dev nD) (h : Fin 2) (i : Fin 128) (l p : Fin 4096) (hp : p.val = base c + 128 * h.val + i.val) :
    (oF m c h (ix2 i l) : EReal) = rowT X R W p l := by
  unfold oF
  rw [pay8_apply, pre_eq H c h i l p hp]
  have hs : (∑ k : Fin 4096, pre (ph m (prv c) h) (lb m c h) (rb m c h) i k * pre (ph m (prv c) h) (lb m c h) (rb m c h) i k)
      = ∑ k : Fin 4096, rowY X R p k * rowY X R p k :=
    Finset.sum_congr rfl fun k _ => by rw [pre_eq H c h i k p hp]
  rw [hs, gv_apply, H.g]
  rfl

/-- Rounded, it is so too. -/
theorem oB_eq (c : Dev nD) (h : Fin 2) (i : Fin 128) (l p : Fin 4096) (hp : p.val = base c + 128 * h.val + i.val) :
    (oB m c h (ix2 i l) : EReal) = rowT X R W p l :=
  (pay9_apply _ _ _ _ i l).trans (oF_eq H c h i l p hp)

omit H in
/-- Write-back `n` takes the half block of one device of the column it comes from, and puts it where its rows lie. -/
theorem po_base : ∀ (c : Dev nD) (n : Fin 32),
    128 * (po c n).val = base (back ((kN n).val / 2) (srcN c n)) + 128 * (hOf (kN n)).val := by decide +kernel
omit H in
/-- The first two write-backs put the own block's halves where their rows lie. -/
theorem po_base_own : ∀ (c : Dev nD) (n : Fin 32), n.val < 2 → 128 * (po c n).val = base c + 128 * (Fin.ofNat 2 n.val : Fin 2).val := by decide +kernel

/-- What write-back `n` writes is the reference's rows. -/
theorem outr_eq (c : Dev nD) (n : Fin 32) (i : Fin 128) (l p : Fin 4096) (hp : p.val = 128 * (po c n).val + i.val) :
    (outr m c n (ix2 i l) : EReal) = rowT X R W p l := by
  unfold outr
  rw [sqz_apply]
  unfold outv
  by_cases h : n.val < 2
  · rw [if_pos h, pay10_apply]
    exact oF_eq H c _ i l p (by rw [hp, po_base_own c n h])
  · rw [if_neg h]
    refine (pay11_apply _ i l).trans ?_
    exact oB_eq H _ _ i l p (by rw [hp, po_base c n])

/-- The whole of a device's result is the reference's. -/
theorem outAll_eq (c : Dev nD) : (outAll m c : FVec Ideal S4096x4096 .f32) = refT X R W := by
  funext y
  have hy : y ∈ (Finset.univ : Finset (Fin 32)).biUnion (fun i => (oR i).set) := by rw [oR_cov]; exact Finset.mem_univ _
  obtain ⟨k, -, hk⟩ := Finset.mem_biUnion.1 hy
  rw [← Rect.map_emb_univ] at hk
  obtain ⟨j, -, rfl⟩ := Finset.mem_map.1 hk
  rw [← po_unpo c k, outAll_at]
  generalize unpo c k = n
  have hj : ∃ (i : Fin 128) (l : Fin 4096), j = ix2 i l := ⟨j 0, j 1, by funext a; match a with | 0 => rfl | 1 => rfl⟩
  obtain ⟨i, l, rfl⟩ := hj
  have hp : 128 * (po c n).val + i.val < 4096 := by omega
  refine (outr_eq H c n i l ⟨_, hp⟩ rfl).trans ?_
  rw [o_ix (po c n) i l ⟨_, hp⟩ rfl]
  exact (refT_apply X R W _ l).symm

end Cert.KernelIdeal.Steps

namespace Cert.Proof

open Idealize.ShloMosaic Idealize.SL.Sem Cert.KernelIdeal.Steps

/-- The block of the partial sums a device is given is that of its place along z. -/
theorem block_z : ∀ c : Dev Cert.KernelIdeal.nD, ((Layout.meshBlock [2, 2, 4] (![[2], [], []] : Fin 3 → List Nat) c) 0).val * 1 + 0 = (zc c).val := by
  decide +kernel

/-- The kernel's result is the reference's. -/
theorem value : Cert.algebraic_KernelIdeal_ReferenceIdeal := by
  intro m g m' g' _ hm
  have H : Agrees m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) := by
    refine ⟨fun c p l => ?_, fun c => (hm c).2.1, fun c => (hm c).2.2⟩
    refine (congrFun (hm c).1 (ix3 0 p l)).trans ?_
    rw [Layout.blockN_apply]
    refine congrArg (m' _) ?_
    funext a
    apply Fin.ext
    rw [Layout.TilesN.idx_val]
    match a with
    | 0 => exact block_z c
    | 1 => show 0 * 4096 + p.val = p.val; omega
    | 2 => show 0 * 4096 + l.val = l.val; omega
  refine ⟨refT (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · exact (θ_run (Cert.KernelIdeal.defs (F := Ideal)) _ _).mono
      (fun _ h c => ⟨(h.1 c).2.2.2.trans (outAll_eq H c), (h.1 c).1, (h.1 c).2.1, (h.1 c).2.2.1⟩) (run_main (F := Ideal) m g)
  · exact (θ_run (Cert.ReferenceIdeal.defs (F := Ideal)) _ _).mono (fun _ h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, value⟩

end Cert.Proof

end
